-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x512 : Shape := ⟨3, ![8, 4096, 512]⟩
abbrev S8x1x512 : Shape := ⟨3, ![8, 1, 512]⟩
abbrev S1x4096x512 : Shape := ⟨3, ![1, 4096, 512]⟩
abbrev S1x1x512 : Shape := ⟨3, ![1, 1, 512]⟩
abbrev S4096x512 : Shape := ⟨2, ![4096, 512]⟩
abbrev S512 : Shape := ⟨1, ![512]⟩
abbrev S1x512 : Shape := ⟨2, ![1, 512]⟩
abbrev S1 : Shape := ⟨1, ![1]⟩
abbrev S1x1x1 : Shape := ⟨3, ![1, 1, 1]⟩
abbrev S4096 : Shape := ⟨1, ![4096]⟩
abbrev S32768x512 : Shape := ⟨2, ![32768, 512]⟩
abbrev S32x512 : Shape := ⟨2, ![32, 512]⟩
abbrev S_ : Shape := ⟨0, ![]⟩
abbrev S16 : Shape := ⟨1, ![16]⟩
abbrev S1x16 : Shape := ⟨2, ![1, 16]⟩

abbrev nBuf : Table → Nat
  | .hbm => 6
  | .local .tc .vmem => 4
  | .local .scVector .vmem => 5
  | _ => 0

abbrev bufTy : (tb : Table) → Fin (nBuf tb) → BufTy
  | .hbm, ⟨0, _⟩ => ⟨S8x4096x512, .f32⟩
  | .hbm, ⟨1, _⟩ => ⟨S8x1x512, .i32⟩
  | .hbm, ⟨2, _⟩ => ⟨S4096, .i32⟩
  | .hbm, ⟨3, _⟩ => ⟨S32768x512, .f32⟩
  | .hbm, ⟨4, _⟩ => ⟨S32768x512, .f32⟩
  | .hbm, ⟨5, _⟩ => ⟨S8x4096x512, .f32⟩
  | .local .tc .vmem, ⟨0, _⟩ => ⟨S1x4096x512, .f32⟩
  | .local .tc .vmem, ⟨1, _⟩ => ⟨S1x4096x512, .f32⟩
  | .local .tc .vmem, ⟨2, _⟩ => ⟨S1x1x512, .i32⟩
  | .local .tc .vmem, ⟨3, _⟩ => ⟨S1x1x512, .i32⟩
  | .local .scVector .vmem, ⟨0, _⟩ => ⟨S4096, .i32⟩
  | .local .scVector .vmem, ⟨1, _⟩ => ⟨S32x512, .f32⟩
  | .local .scVector .vmem, ⟨2, _⟩ => ⟨S32x512, .f32⟩
  | .local .scVector .vmem, ⟨3, _⟩ => ⟨S32x512, .f32⟩
  | .local .scVector .vmem, ⟨4, _⟩ => ⟨S32x512, .f32⟩
  | _, _ => ⟨S8x4096x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v2_scv : Ref sig .scVector := ⟨.hbm, 3, rfl⟩
abbrev main_v1_scv : Ref sig .scVector := ⟨.hbm, 2, rfl⟩
abbrev main_v3_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) (c0_i32 : BitVec 32) (c0_i32_0 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c0_i32 v2
  let v4 : BitVec 32 := Scalar.addi v3 c0_i32_0
  let c0_i32_1 : BitVec 32 := 0#32
  ![v4.toNat, 0]
def k1_off1_at (r : Fin 3) : BitVec 32 × BitVec 32 :=
  if r.val < 1 then
    (0#32, 0#32)
  else
    if r.val < 2 then
      (28672#32, 64#32)
    else
      (28672#32, 96#32)
@[reducible] def k1_t1_loop : Scf.Loop 32 :=
  let c0_i32_4 : BitVec 32 := 0#32
  let c32_i32 : BitVec 32 := 32#32
  let v7 : BitVec 32 := Scalar.addi c0_i32_4 c32_i32
  let c1_i32 : BitVec 32 := 1#32
  ⟨c0_i32_4, v7, c1_i32⟩
def k1_cond1 (k1_t1 : Fin k1_t1_loop.trips) : BitVec 1 :=
  let c0_i32_4 : BitVec 32 := 0#32
  let c1_i32 : BitVec 32 := 1#32
  let arg14 : BitVec 32 := Scf.iv c0_i32_4 c1_i32 k1_t1
  let c2_i32_11 : BitVec 32 := 2#32
  let c0_i32_12 : BitVec 32 := 0#32
  let v16 : BitVec 1 := Scalar.cmpi .eq c2_i32_11 c0_i32_12
  let c1_i32_13 : BitVec 32 := 1#32
  let v17 : BitVec 32 := Scalar.select v16 c1_i32_13 c2_i32_11
  let v18 : BitVec 32 := Scalar.remsi arg14 v17
  let c0_i32_15 : BitVec 32 := 0#32
  let v20 : BitVec 1 := Scalar.cmpi .slt v18 c0_i32_15
  let c0_i32_16 : BitVec 32 := 0#32
  let v21 : BitVec 1 := Scalar.cmpi .slt v17 c0_i32_16
  let v22 : BitVec 1 := Scalar.xori v20 v21
  let c0_i32_14 : BitVec 32 := 0#32
  let v19 : BitVec 1 := Scalar.cmpi .ne v18 c0_i32_14
  let v23 : BitVec 1 := Scalar.andi v22 v19
  let v24 : BitVec 32 := Scalar.addi v18 v17
  let v25 : BitVec 32 := Scalar.select v23 v24 v18
  let c0_i32_17 : BitVec 32 := 0#32
  let v26 : BitVec 1 := Scalar.cmpi .eq v25 c0_i32_17
  let v27 : BitVec 32 := Scalar.extui v26
  let c0_i32_18 : BitVec 32 := 0#32
  let v28 : BitVec 1 := Scalar.cmpi .ne v27 c0_i32_18
  v28

def k1_cond2 (k1_t1 : Fin k1_t1_loop.trips) : BitVec 1 :=
  let c0_i32_4 : BitVec 32 := 0#32
  let c1_i32 : BitVec 32 := 1#32
  let arg14 : BitVec 32 := Scf.iv c0_i32_4 c1_i32 k1_t1
  let c2_i32_27 : BitVec 32 := 2#32
  let v42 : BitVec 1 := Scalar.cmpi .sge arg14 c2_i32_27
  let v43 : BitVec 32 := Scalar.extui v42
  let c0_i32_28 : BitVec 32 := 0#32
  let v44 : BitVec 1 := Scalar.cmpi .ne v43 c0_i32_28
  v44

def k1_off2 (i : grid1.Coords) (k1_t1 : Fin k1_t1_loop.trips) : Fin 2 → Nat :=
  let c0_i32_4 : BitVec 32 := 0#32
  let c1_i32 : BitVec 32 := 1#32
  let arg14 : BitVec 32 := Scf.iv c0_i32_4 c1_i32 k1_t1
  let c2_i32_75 : BitVec 32 := 2#32
  let v134 : BitVec 32 := Scalar.subi arg14 c2_i32_75
  let c0_i32_77 : BitVec 32 := 0#32
  let v136 : BitVec 1 := Scalar.cmpi .sgt v134 c0_i32_77
  let v137 : BitVec 32 := Scalar.extui v136
  let c0_i32_78 : BitVec 32 := 0#32
  let v138 : BitVec 1 := Scalar.cmpi .slt v134 c0_i32_78
  let v139 : BitVec 32 := Scalar.extui v138
  let v140 : BitVec 32 := Scalar.subi v137 v139
  let c4_i32_76 : BitVec 32 := 4#32
  let c0_i32_79 : BitVec 32 := 0#32
  let v141 : BitVec 1 := Scalar.cmpi .sgt c4_i32_76 c0_i32_79
  let v142 : BitVec 32 := Scalar.extui v141
  let c0_i32_80 : BitVec 32 := 0#32
  let v143 : BitVec 1 := Scalar.cmpi .slt c4_i32_76 c0_i32_80
  let v144 : BitVec 32 := Scalar.extui v143
  let v145 : BitVec 32 := Scalar.subi v142 v144
  let v146 : BitVec 1 := Scalar.cmpi .ne v140 v145
  let v147 : BitVec 32 := Scalar.remsi v134 c4_i32_76
  let c0_i32_81 : BitVec 32 := 0#32
  let v148 : BitVec 1 := Scalar.cmpi .ne v147 c0_i32_81
  let v149 : BitVec 1 := Scalar.andi v146 v148
  let v135 : BitVec 32 := Scalar.divsi v134 c4_i32_76
  let c1_i32_82 : BitVec 32 := 1#32
  let v150 : BitVec 32 := Scalar.subi v135 c1_i32_82
  let v151 : BitVec 32 := Scalar.select v149 v150 v135
  let c4096_i32_89 : BitVec 32 := 4096#32
  let v162 : BitVec 32 := Scalar.muli v151 c4096_i32_89
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v163 : BitVec 32 := Scalar.addi v162 v2
  let c4_i32_83 : BitVec 32 := 4#32
  let c0_i32_84 : BitVec 32 := 0#32
  let v152 : BitVec 1 := Scalar.cmpi .eq c4_i32_83 c0_i32_84
  let c1_i32_85 : BitVec 32 := 1#32
  let v153 : BitVec 32 := Scalar.select v152 c1_i32_85 c4_i32_83
  let v154 : BitVec 32 := Scalar.remsi v134 v153
  let c0_i32_87 : BitVec 32 := 0#32
  let v156 : BitVec 1 := Scalar.cmpi .slt v154 c0_i32_87
  let c0_i32_88 : BitVec 32 := 0#32
  let v157 : BitVec 1 := Scalar.cmpi .slt v153 c0_i32_88
  let v158 : BitVec 1 := Scalar.xori v156 v157
  let c0_i32_86 : BitVec 32 := 0#32
  let v155 : BitVec 1 := Scalar.cmpi .ne v154 c0_i32_86
  let v159 : BitVec 1 := Scalar.andi v158 v155
  let v160 : BitVec 32 := Scalar.addi v154 v153
  let v161 : BitVec 32 := Scalar.select v159 v160 v154
  let c32_i32_90 : BitVec 32 := 32#32
  let v164 : BitVec 32 := Scalar.muli v161 c32_i32_90
  let v165 : BitVec 32 := Scalar.addi v163 v164
  let c0_i32_91 : BitVec 32 := 0#32
  ![v165.toNat, 0]
def k1_cond3 (k1_t1 : Fin k1_t1_loop.trips) : BitVec 1 :=
  let c0_i32_4 : BitVec 32 := 0#32
  let c1_i32 : BitVec 32 := 1#32
  let arg14 : BitVec 32 := Scf.iv c0_i32_4 c1_i32 k1_t1
  let c1_i32_29 : BitVec 32 := 1#32
  let v45 : BitVec 32 := Scalar.addi arg14 c1_i32_29
  let c32_i32_30 : BitVec 32 := 32#32
  let v46 : BitVec 1 := Scalar.cmpi .slt v45 c32_i32_30
  let v47 : BitVec 32 := Scalar.extui v46
  let c0_i32_31 : BitVec 32 := 0#32
  let v48 : BitVec 1 := Scalar.cmpi .ne v47 c0_i32_31
  v48

def k1_off3 (i : grid1.Coords) (k1_t1 : Fin k1_t1_loop.trips) : Fin 2 → Nat :=
  let c0_i32_4 : BitVec 32 := 0#32
  let c1_i32 : BitVec 32 := 1#32
  let arg14 : BitVec 32 := Scf.iv c0_i32_4 c1_i32 k1_t1
  let c1_i32_75 : BitVec 32 := 1#32
  let v134 : BitVec 32 := Scalar.addi arg14 c1_i32_75
  let c0_i32_77 : BitVec 32 := 0#32
  let v136 : BitVec 1 := Scalar.cmpi .sgt v134 c0_i32_77
  let v137 : BitVec 32 := Scalar.extui v136
  let c0_i32_78 : BitVec 32 := 0#32
  let v138 : BitVec 1 := Scalar.cmpi .slt v134 c0_i32_78
  let v139 : BitVec 32 := Scalar.extui v138
  let v140 : BitVec 32 := Scalar.subi v137 v139
  let c4_i32_76 : BitVec 32 := 4#32
  let c0_i32_79 : BitVec 32 := 0#32
  let v141 : BitVec 1 := Scalar.cmpi .sgt c4_i32_76 c0_i32_79
  let v142 : BitVec 32 := Scalar.extui v141
  let c0_i32_80 : BitVec 32 := 0#32
  let v143 : BitVec 1 := Scalar.cmpi .slt c4_i32_76 c0_i32_80
  let v144 : BitVec 32 := Scalar.extui v143
  let v145 : BitVec 32 := Scalar.subi v142 v144
  let v146 : BitVec 1 := Scalar.cmpi .ne v140 v145
  let v147 : BitVec 32 := Scalar.remsi v134 c4_i32_76
  let c0_i32_81 : BitVec 32 := 0#32
  let v148 : BitVec 1 := Scalar.cmpi .ne v147 c0_i32_81
  let v149 : BitVec 1 := Scalar.andi v146 v148
  let v135 : BitVec 32 := Scalar.divsi v134 c4_i32_76
  let c1_i32_82 : BitVec 32 := 1#32
  let v150 : BitVec 32 := Scalar.subi v135 c1_i32_82
  let v151 : BitVec 32 := Scalar.select v149 v150 v135
  let c4096_i32_89 : BitVec 32 := 4096#32
  let v162 : BitVec 32 := Scalar.muli v151 c4096_i32_89
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v163 : BitVec 32 := Scalar.addi v162 v2
  let c4_i32_83 : BitVec 32 := 4#32
  let c0_i32_84 : BitVec 32 := 0#32
  let v152 : BitVec 1 := Scalar.cmpi .eq c4_i32_83 c0_i32_84
  let c1_i32_85 : BitVec 32 := 1#32
  let v153 : BitVec 32 := Scalar.select v152 c1_i32_85 c4_i32_83
  let v154 : BitVec 32 := Scalar.remsi v134 v153
  let c0_i32_87 : BitVec 32 := 0#32
  let v156 : BitVec 1 := Scalar.cmpi .slt v154 c0_i32_87
  let c0_i32_88 : BitVec 32 := 0#32
  let v157 : BitVec 1 := Scalar.cmpi .slt v153 c0_i32_88
  let v158 : BitVec 1 := Scalar.xori v156 v157
  let c0_i32_86 : BitVec 32 := 0#32
  let v155 : BitVec 1 := Scalar.cmpi .ne v154 c0_i32_86
  let v159 : BitVec 1 := Scalar.andi v158 v155
  let v160 : BitVec 32 := Scalar.addi v154 v153
  let v161 : BitVec 32 := Scalar.select v159 v160 v154
  let c32_i32_90 : BitVec 32 := 32#32
  let v164 : BitVec 32 := Scalar.muli v161 c32_i32_90
  let v165 : BitVec 32 := Scalar.addi v163 v164
  let c0_i32_91 : BitVec 32 := 0#32
  ![v165.toNat, 0]
def k1_off4 (i : grid1.Coords) (k1_t1 : Fin k1_t1_loop.trips) : Fin 2 → Nat :=
  let c0_i32_4 : BitVec 32 := 0#32
  let c1_i32 : BitVec 32 := 1#32
  let arg14 : BitVec 32 := Scf.iv c0_i32_4 c1_i32 k1_t1
  let c0_i32_32 : BitVec 32 := 0#32
  let v50 : BitVec 1 := Scalar.cmpi .sgt arg14 c0_i32_32
  let v51 : BitVec 32 := Scalar.extui v50
  let c0_i32_33 : BitVec 32 := 0#32
  let v52 : BitVec 1 := Scalar.cmpi .slt arg14 c0_i32_33
  let v53 : BitVec 32 := Scalar.extui v52
  let v54 : BitVec 32 := Scalar.subi v51 v53
  let c4_i32 : BitVec 32 := 4#32
  let c0_i32_34 : BitVec 32 := 0#32
  let v55 : BitVec 1 := Scalar.cmpi .sgt c4_i32 c0_i32_34
  let v56 : BitVec 32 := Scalar.extui v55
  let c0_i32_35 : BitVec 32 := 0#32
  let v57 : BitVec 1 := Scalar.cmpi .slt c4_i32 c0_i32_35
  let v58 : BitVec 32 := Scalar.extui v57
  let v59 : BitVec 32 := Scalar.subi v56 v58
  let v60 : BitVec 1 := Scalar.cmpi .ne v54 v59
  let v61 : BitVec 32 := Scalar.remsi arg14 c4_i32
  let c0_i32_36 : BitVec 32 := 0#32
  let v62 : BitVec 1 := Scalar.cmpi .ne v61 c0_i32_36
  let v63 : BitVec 1 := Scalar.andi v60 v62
  let v49 : BitVec 32 := Scalar.divsi arg14 c4_i32
  let c1_i32_37 : BitVec 32 := 1#32
  let v64 : BitVec 32 := Scalar.subi v49 c1_i32_37
  let v65 : BitVec 32 := Scalar.select v63 v64 v49
  let c4096_i32 : BitVec 32 := 4096#32
  let v76 : BitVec 32 := Scalar.muli v65 c4096_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v77 : BitVec 32 := Scalar.addi v76 v2
  let c4_i32_38 : BitVec 32 := 4#32
  let c0_i32_39 : BitVec 32 := 0#32
  let v66 : BitVec 1 := Scalar.cmpi .eq c4_i32_38 c0_i32_39
  let c1_i32_40 : BitVec 32 := 1#32
  let v67 : BitVec 32 := Scalar.select v66 c1_i32_40 c4_i32_38
  let v68 : BitVec 32 := Scalar.remsi arg14 v67
  let c0_i32_42 : BitVec 32 := 0#32
  let v70 : BitVec 1 := Scalar.cmpi .slt v68 c0_i32_42
  let c0_i32_43 : BitVec 32 := 0#32
  let v71 : BitVec 1 := Scalar.cmpi .slt v67 c0_i32_43
  let v72 : BitVec 1 := Scalar.xori v70 v71
  let c0_i32_41 : BitVec 32 := 0#32
  let v69 : BitVec 1 := Scalar.cmpi .ne v68 c0_i32_41
  let v73 : BitVec 1 := Scalar.andi v72 v69
  let v74 : BitVec 32 := Scalar.addi v68 v67
  let v75 : BitVec 32 := Scalar.select v73 v74 v68
  let c32_i32_44 : BitVec 32 := 32#32
  let v78 : BitVec 32 := Scalar.muli v75 c32_i32_44
  let v79 : BitVec 32 := Scalar.addi v77 v78
  let c0_i32_45 : BitVec 32 := 0#32
  ![v79.toNat, 0]
@[reducible] def k1_t2_loop : Scf.Loop 32 :=
  let c0_i32_55 : BitVec 32 := 0#32
  let c16_i32 : BitVec 32 := 16#32
  let v100 : BitVec 32 := Scalar.addi c0_i32_55 c16_i32
  let c1_i32_56 : BitVec 32 := 1#32
  ⟨c0_i32_55, v100, c1_i32_56⟩
def k1_off5 (k1_t1 : Fin k1_t1_loop.trips) (k1_t2 : Fin k1_t2_loop.trips) : Fin 1 → Nat :=
  let c0_i32_4 : BitVec 32 := 0#32
  let c1_i32 : BitVec 32 := 1#32
  let arg14 : BitVec 32 := Scf.iv c0_i32_4 c1_i32 k1_t1
  let c0_i32_48 : BitVec 32 := 0#32
  let v83 : BitVec 1 := Scalar.cmpi .sgt arg14 c0_i32_48
  let v84 : BitVec 32 := Scalar.extui v83
  let c0_i32_49 : BitVec 32 := 0#32
  let v85 : BitVec 1 := Scalar.cmpi .slt arg14 c0_i32_49
  let v86 : BitVec 32 := Scalar.extui v85
  let v87 : BitVec 32 := Scalar.subi v84 v86
  let c4_i32_47 : BitVec 32 := 4#32
  let c0_i32_50 : BitVec 32 := 0#32
  let v88 : BitVec 1 := Scalar.cmpi .sgt c4_i32_47 c0_i32_50
  let v89 : BitVec 32 := Scalar.extui v88
  let c0_i32_51 : BitVec 32 := 0#32
  let v90 : BitVec 1 := Scalar.cmpi .slt c4_i32_47 c0_i32_51
  let v91 : BitVec 32 := Scalar.extui v90
  let v92 : BitVec 32 := Scalar.subi v89 v91
  let v93 : BitVec 1 := Scalar.cmpi .ne v87 v92
  let v94 : BitVec 32 := Scalar.remsi arg14 c4_i32_47
  let c0_i32_52 : BitVec 32 := 0#32
  let v95 : BitVec 1 := Scalar.cmpi .ne v94 c0_i32_52
  let v96 : BitVec 1 := Scalar.andi v93 v95
  let v82 : BitVec 32 := Scalar.divsi arg14 c4_i32_47
  let c1_i32_53 : BitVec 32 := 1#32
  let v97 : BitVec 32 := Scalar.subi v82 c1_i32_53
  let v98 : BitVec 32 := Scalar.select v96 v97 v82
  let c512_i32 : BitVec 32 := 512#32
  let v99 : BitVec 32 := Scalar.muli v98 c512_i32
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_77 : BitVec 32 := 16#32
  let v136 : BitVec 32 := Scalar.muli v135 c16_i32_77
  let v137 : BitVec 32 := Scalar.addi v99 v136
  let v138 : Index := Scalar.indexCast v137
  ![v138.toNat]

def k1_chk1 (k1_t1 : Fin k1_t1_loop.trips) (v139 : IVec S16 32) (v140 : IVec S16 32) : Prop :=
  (∀ (k1_h1 : k1_cond1 k1_t1 = 1#1), ∀ a x, ((![v140, v139] : Fin 2 → IVec S16 32) a x).toNat < S32x512.size a)
theorem k1_idx1_inb : ∀ (k1_t1 : Fin k1_t1_loop.trips) (v139 : IVec S16 32) (v140 : IVec S16 32) (k1_hw1 : k1_chk1 k1_t1 v139 v140), ∀ (k1_h1 : k1_cond1 k1_t1 = 1#1), ∀ a x, ((![v140, v139] : Fin 2 → IVec S16 32) a x).toNat < S32x512.size a := fun k1_t1 v139 v140 k1_hw1 k1_h1 => k1_hw1 k1_h1

def k1_chk2 (k1_t1 : Fin k1_t1_loop.trips) (v139 : IVec S16 32) (v142 : IVec S16 32) : Prop :=
  (∀ (k1_h1 : k1_cond1 k1_t1 = 1#1), ∀ a x, ((![v142, v139] : Fin 2 → IVec S16 32) a x).toNat < S32x512.size a)
theorem k1_idx2_inb : ∀ (k1_t1 : Fin k1_t1_loop.trips) (v139 : IVec S16 32) (v142 : IVec S16 32) (k1_hw2 : k1_chk2 k1_t1 v139 v142), ∀ (k1_h1 : k1_cond1 k1_t1 = 1#1), ∀ a x, ((![v142, v139] : Fin 2 → IVec S16 32) a x).toNat < S32x512.size a := fun k1_t1 v139 v142 k1_hw2 k1_h1 => k1_hw2 k1_h1

def k1_chk3 (k1_t1 : Fin k1_t1_loop.trips) (v139 : IVec S16 32) (v144 : IVec S16 32) : Prop :=
  (∀ (k1_h1 : k1_cond1 k1_t1 = 1#1), ∀ a x, ((![v144, v139] : Fin 2 → IVec S16 32) a x).toNat < S32x512.size a)
theorem k1_idx3_inb : ∀ (k1_t1 : Fin k1_t1_loop.trips) (v139 : IVec S16 32) (v144 : IVec S16 32) (k1_hw3 : k1_chk3 k1_t1 v139 v144), ∀ (k1_h1 : k1_cond1 k1_t1 = 1#1), ∀ a x, ((![v144, v139] : Fin 2 → IVec S16 32) a x).toNat < S32x512.size a := fun k1_t1 v139 v144 k1_hw3 k1_h1 => k1_hw3 k1_h1

def k1_chk4 (k1_t1 : Fin k1_t1_loop.trips) (v139 : IVec S16 32) (v146 : IVec S16 32) : Prop :=
  (∀ (k1_h1 : k1_cond1 k1_t1 = 1#1), ∀ a x, ((![v146, v139] : Fin 2 → IVec S16 32) a x).toNat < S32x512.size a)
theorem k1_idx4_inb : ∀ (k1_t1 : Fin k1_t1_loop.trips) (v139 : IVec S16 32) (v146 : IVec S16 32) (k1_hw4 : k1_chk4 k1_t1 v139 v146), ∀ (k1_h1 : k1_cond1 k1_t1 = 1#1), ∀ a x, ((![v146, v139] : Fin 2 → IVec S16 32) a x).toNat < S32x512.size a := fun k1_t1 v139 v146 k1_hw4 k1_h1 => k1_hw4 k1_h1

def k1_chk5 (k1_t1 : Fin k1_t1_loop.trips) (v139 : IVec S16 32) (v148 : IVec S16 32) : Prop :=
  (∀ (k1_h1 : k1_cond1 k1_t1 = 1#1), ∀ a x, ((![v148, v139] : Fin 2 → IVec S16 32) a x).toNat < S32x512.size a)
theorem k1_idx5_inb : ∀ (k1_t1 : Fin k1_t1_loop.trips) (v139 : IVec S16 32) (v148 : IVec S16 32) (k1_hw5 : k1_chk5 k1_t1 v139 v148), ∀ (k1_h1 : k1_cond1 k1_t1 = 1#1), ∀ a x, ((![v148, v139] : Fin 2 → IVec S16 32) a x).toNat < S32x512.size a := fun k1_t1 v139 v148 k1_hw5 k1_h1 => k1_hw5 k1_h1

def k1_chk6 (k1_t1 : Fin k1_t1_loop.trips) (v139 : IVec S16 32) (v150 : IVec S16 32) : Prop :=
  (∀ (k1_h1 : k1_cond1 k1_t1 = 1#1), ∀ a x, ((![v150, v139] : Fin 2 → IVec S16 32) a x).toNat < S32x512.size a)
theorem k1_idx6_inb : ∀ (k1_t1 : Fin k1_t1_loop.trips) (v139 : IVec S16 32) (v150 : IVec S16 32) (k1_hw6 : k1_chk6 k1_t1 v139 v150), ∀ (k1_h1 : k1_cond1 k1_t1 = 1#1), ∀ a x, ((![v150, v139] : Fin 2 → IVec S16 32) a x).toNat < S32x512.size a := fun k1_t1 v139 v150 k1_hw6 k1_h1 => k1_hw6 k1_h1

def k1_chk7 (k1_t1 : Fin k1_t1_loop.trips) (v139 : IVec S16 32) (v152 : IVec S16 32) : Prop :=
  (∀ (k1_h1 : k1_cond1 k1_t1 = 1#1), ∀ a x, ((![v152, v139] : Fin 2 → IVec S16 32) a x).toNat < S32x512.size a)
theorem k1_idx7_inb : ∀ (k1_t1 : Fin k1_t1_loop.trips) (v139 : IVec S16 32) (v152 : IVec S16 32) (k1_hw7 : k1_chk7 k1_t1 v139 v152), ∀ (k1_h1 : k1_cond1 k1_t1 = 1#1), ∀ a x, ((![v152, v139] : Fin 2 → IVec S16 32) a x).toNat < S32x512.size a := fun k1_t1 v139 v152 k1_hw7 k1_h1 => k1_hw7 k1_h1

def k1_chk8 (k1_t1 : Fin k1_t1_loop.trips) (v139 : IVec S16 32) (v154 : IVec S16 32) : Prop :=
  (∀ (k1_h1 : k1_cond1 k1_t1 = 1#1), ∀ a x, ((![v154, v139] : Fin 2 → IVec S16 32) a x).toNat < S32x512.size a)
theorem k1_idx8_inb : ∀ (k1_t1 : Fin k1_t1_loop.trips) (v139 : IVec S16 32) (v154 : IVec S16 32) (k1_hw8 : k1_chk8 k1_t1 v139 v154), ∀ (k1_h1 : k1_cond1 k1_t1 = 1#1), ∀ a x, ((![v154, v139] : Fin 2 → IVec S16 32) a x).toNat < S32x512.size a := fun k1_t1 v139 v154 k1_hw8 k1_h1 => k1_hw8 k1_h1
def k1_off6 (k1_t2 : Fin k1_t2_loop.trips) : Fin 2 → Nat :=
  let c0_i32_83 : BitVec 32 := 0#32
  let v157 : Index := Scalar.indexCast c0_i32_83
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_82 : BitVec 32 := 16#32
  let v156 : BitVec 32 := Scalar.muli v135 c16_i32_82
  let v158 : Index := Scalar.indexCast v156
  ![0, v158.toNat]
def k1_off7 (k1_t2 : Fin k1_t2_loop.trips) : Fin 2 → Nat :=
  let c1_i32_85 : BitVec 32 := 1#32
  let v161 : Index := Scalar.indexCast c1_i32_85
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_84 : BitVec 32 := 16#32
  let v160 : BitVec 32 := Scalar.muli v135 c16_i32_84
  let v162 : Index := Scalar.indexCast v160
  ![1, v162.toNat]
def k1_off8 (k1_t2 : Fin k1_t2_loop.trips) : Fin 2 → Nat :=
  let c2_i32_87 : BitVec 32 := 2#32
  let v165 : Index := Scalar.indexCast c2_i32_87
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_86 : BitVec 32 := 16#32
  let v164 : BitVec 32 := Scalar.muli v135 c16_i32_86
  let v166 : Index := Scalar.indexCast v164
  ![2, v166.toNat]
def k1_off9 (k1_t2 : Fin k1_t2_loop.trips) : Fin 2 → Nat :=
  let c3_i32_89 : BitVec 32 := 3#32
  let v169 : Index := Scalar.indexCast c3_i32_89
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_88 : BitVec 32 := 16#32
  let v168 : BitVec 32 := Scalar.muli v135 c16_i32_88
  let v170 : Index := Scalar.indexCast v168
  ![3, v170.toNat]
def k1_off10 (k1_t2 : Fin k1_t2_loop.trips) : Fin 2 → Nat :=
  let c4_i32_91 : BitVec 32 := 4#32
  let v173 : Index := Scalar.indexCast c4_i32_91
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_90 : BitVec 32 := 16#32
  let v172 : BitVec 32 := Scalar.muli v135 c16_i32_90
  let v174 : Index := Scalar.indexCast v172
  ![4, v174.toNat]
def k1_off11 (k1_t2 : Fin k1_t2_loop.trips) : Fin 2 → Nat :=
  let c5_i32_93 : BitVec 32 := 5#32
  let v177 : Index := Scalar.indexCast c5_i32_93
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_92 : BitVec 32 := 16#32
  let v176 : BitVec 32 := Scalar.muli v135 c16_i32_92
  let v178 : Index := Scalar.indexCast v176
  ![5, v178.toNat]
def k1_off12 (k1_t2 : Fin k1_t2_loop.trips) : Fin 2 → Nat :=
  let c6_i32_95 : BitVec 32 := 6#32
  let v181 : Index := Scalar.indexCast c6_i32_95
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_94 : BitVec 32 := 16#32
  let v180 : BitVec 32 := Scalar.muli v135 c16_i32_94
  let v182 : Index := Scalar.indexCast v180
  ![6, v182.toNat]
def k1_off13 (k1_t2 : Fin k1_t2_loop.trips) : Fin 2 → Nat :=
  let c7_i32_97 : BitVec 32 := 7#32
  let v185 : Index := Scalar.indexCast c7_i32_97
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_96 : BitVec 32 := 16#32
  let v184 : BitVec 32 := Scalar.muli v135 c16_i32_96
  let v186 : Index := Scalar.indexCast v184
  ![7, v186.toNat]

def k1_chk9 (k1_t1 : Fin k1_t1_loop.trips) (v139 : IVec S16 32) (v188 : IVec S16 32) : Prop :=
  (∀ (k1_h1 : k1_cond1 k1_t1 = 1#1), ∀ a x, ((![v188, v139] : Fin 2 → IVec S16 32) a x).toNat < S32x512.size a)
theorem k1_idx9_inb : ∀ (k1_t1 : Fin k1_t1_loop.trips) (v139 : IVec S16 32) (v188 : IVec S16 32) (k1_hw9 : k1_chk9 k1_t1 v139 v188), ∀ (k1_h1 : k1_cond1 k1_t1 = 1#1), ∀ a x, ((![v188, v139] : Fin 2 → IVec S16 32) a x).toNat < S32x512.size a := fun k1_t1 v139 v188 k1_hw9 k1_h1 => k1_hw9 k1_h1

def k1_chk10 (k1_t1 : Fin k1_t1_loop.trips) (v139 : IVec S16 32) (v190 : IVec S16 32) : Prop :=
  (∀ (k1_h1 : k1_cond1 k1_t1 = 1#1), ∀ a x, ((![v190, v139] : Fin 2 → IVec S16 32) a x).toNat < S32x512.size a)
theorem k1_idx10_inb : ∀ (k1_t1 : Fin k1_t1_loop.trips) (v139 : IVec S16 32) (v190 : IVec S16 32) (k1_hw10 : k1_chk10 k1_t1 v139 v190), ∀ (k1_h1 : k1_cond1 k1_t1 = 1#1), ∀ a x, ((![v190, v139] : Fin 2 → IVec S16 32) a x).toNat < S32x512.size a := fun k1_t1 v139 v190 k1_hw10 k1_h1 => k1_hw10 k1_h1

def k1_chk11 (k1_t1 : Fin k1_t1_loop.trips) (v139 : IVec S16 32) (v192 : IVec S16 32) : Prop :=
  (∀ (k1_h1 : k1_cond1 k1_t1 = 1#1), ∀ a x, ((![v192, v139] : Fin 2 → IVec S16 32) a x).toNat < S32x512.size a)
theorem k1_idx11_inb : ∀ (k1_t1 : Fin k1_t1_loop.trips) (v139 : IVec S16 32) (v192 : IVec S16 32) (k1_hw11 : k1_chk11 k1_t1 v139 v192), ∀ (k1_h1 : k1_cond1 k1_t1 = 1#1), ∀ a x, ((![v192, v139] : Fin 2 → IVec S16 32) a x).toNat < S32x512.size a := fun k1_t1 v139 v192 k1_hw11 k1_h1 => k1_hw11 k1_h1

def k1_chk12 (k1_t1 : Fin k1_t1_loop.trips) (v139 : IVec S16 32) (v194 : IVec S16 32) : Prop :=
  (∀ (k1_h1 : k1_cond1 k1_t1 = 1#1), ∀ a x, ((![v194, v139] : Fin 2 → IVec S16 32) a x).toNat < S32x512.size a)
theorem k1_idx12_inb : ∀ (k1_t1 : Fin k1_t1_loop.trips) (v139 : IVec S16 32) (v194 : IVec S16 32) (k1_hw12 : k1_chk12 k1_t1 v139 v194), ∀ (k1_h1 : k1_cond1 k1_t1 = 1#1), ∀ a x, ((![v194, v139] : Fin 2 → IVec S16 32) a x).toNat < S32x512.size a := fun k1_t1 v139 v194 k1_hw12 k1_h1 => k1_hw12 k1_h1

def k1_chk13 (k1_t1 : Fin k1_t1_loop.trips) (v139 : IVec S16 32) (v196 : IVec S16 32) : Prop :=
  (∀ (k1_h1 : k1_cond1 k1_t1 = 1#1), ∀ a x, ((![v196, v139] : Fin 2 → IVec S16 32) a x).toNat < S32x512.size a)
theorem k1_idx13_inb : ∀ (k1_t1 : Fin k1_t1_loop.trips) (v139 : IVec S16 32) (v196 : IVec S16 32) (k1_hw13 : k1_chk13 k1_t1 v139 v196), ∀ (k1_h1 : k1_cond1 k1_t1 = 1#1), ∀ a x, ((![v196, v139] : Fin 2 → IVec S16 32) a x).toNat < S32x512.size a := fun k1_t1 v139 v196 k1_hw13 k1_h1 => k1_hw13 k1_h1

def k1_chk14 (k1_t1 : Fin k1_t1_loop.trips) (v139 : IVec S16 32) (v198 : IVec S16 32) : Prop :=
  (∀ (k1_h1 : k1_cond1 k1_t1 = 1#1), ∀ a x, ((![v198, v139] : Fin 2 → IVec S16 32) a x).toNat < S32x512.size a)
theorem k1_idx14_inb : ∀ (k1_t1 : Fin k1_t1_loop.trips) (v139 : IVec S16 32) (v198 : IVec S16 32) (k1_hw14 : k1_chk14 k1_t1 v139 v198), ∀ (k1_h1 : k1_cond1 k1_t1 = 1#1), ∀ a x, ((![v198, v139] : Fin 2 → IVec S16 32) a x).toNat < S32x512.size a := fun k1_t1 v139 v198 k1_hw14 k1_h1 => k1_hw14 k1_h1

def k1_chk15 (k1_t1 : Fin k1_t1_loop.trips) (v139 : IVec S16 32) (v200 : IVec S16 32) : Prop :=
  (∀ (k1_h1 : k1_cond1 k1_t1 = 1#1), ∀ a x, ((![v200, v139] : Fin 2 → IVec S16 32) a x).toNat < S32x512.size a)
theorem k1_idx15_inb : ∀ (k1_t1 : Fin k1_t1_loop.trips) (v139 : IVec S16 32) (v200 : IVec S16 32) (k1_hw15 : k1_chk15 k1_t1 v139 v200), ∀ (k1_h1 : k1_cond1 k1_t1 = 1#1), ∀ a x, ((![v200, v139] : Fin 2 → IVec S16 32) a x).toNat < S32x512.size a := fun k1_t1 v139 v200 k1_hw15 k1_h1 => k1_hw15 k1_h1

def k1_chk16 (k1_t1 : Fin k1_t1_loop.trips) (v139 : IVec S16 32) (v202 : IVec S16 32) : Prop :=
  (∀ (k1_h1 : k1_cond1 k1_t1 = 1#1), ∀ a x, ((![v202, v139] : Fin 2 → IVec S16 32) a x).toNat < S32x512.size a)
theorem k1_idx16_inb : ∀ (k1_t1 : Fin k1_t1_loop.trips) (v139 : IVec S16 32) (v202 : IVec S16 32) (k1_hw16 : k1_chk16 k1_t1 v139 v202), ∀ (k1_h1 : k1_cond1 k1_t1 = 1#1), ∀ a x, ((![v202, v139] : Fin 2 → IVec S16 32) a x).toNat < S32x512.size a := fun k1_t1 v139 v202 k1_hw16 k1_h1 => k1_hw16 k1_h1
def k1_off14 (k1_t2 : Fin k1_t2_loop.trips) : Fin 2 → Nat :=
  let c8_i32_99 : BitVec 32 := 8#32
  let v205 : Index := Scalar.indexCast c8_i32_99
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_98 : BitVec 32 := 16#32
  let v204 : BitVec 32 := Scalar.muli v135 c16_i32_98
  let v206 : Index := Scalar.indexCast v204
  ![8, v206.toNat]
def k1_off15 (k1_t2 : Fin k1_t2_loop.trips) : Fin 2 → Nat :=
  let c9_i32_101 : BitVec 32 := 9#32
  let v209 : Index := Scalar.indexCast c9_i32_101
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_100 : BitVec 32 := 16#32
  let v208 : BitVec 32 := Scalar.muli v135 c16_i32_100
  let v210 : Index := Scalar.indexCast v208
  ![9, v210.toNat]
def k1_off16 (k1_t2 : Fin k1_t2_loop.trips) : Fin 2 → Nat :=
  let c10_i32_103 : BitVec 32 := 10#32
  let v213 : Index := Scalar.indexCast c10_i32_103
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_102 : BitVec 32 := 16#32
  let v212 : BitVec 32 := Scalar.muli v135 c16_i32_102
  let v214 : Index := Scalar.indexCast v212
  ![10, v214.toNat]
def k1_off17 (k1_t2 : Fin k1_t2_loop.trips) : Fin 2 → Nat :=
  let c11_i32_105 : BitVec 32 := 11#32
  let v217 : Index := Scalar.indexCast c11_i32_105
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_104 : BitVec 32 := 16#32
  let v216 : BitVec 32 := Scalar.muli v135 c16_i32_104
  let v218 : Index := Scalar.indexCast v216
  ![11, v218.toNat]
def k1_off18 (k1_t2 : Fin k1_t2_loop.trips) : Fin 2 → Nat :=
  let c12_i32_107 : BitVec 32 := 12#32
  let v221 : Index := Scalar.indexCast c12_i32_107
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_106 : BitVec 32 := 16#32
  let v220 : BitVec 32 := Scalar.muli v135 c16_i32_106
  let v222 : Index := Scalar.indexCast v220
  ![12, v222.toNat]
def k1_off19 (k1_t2 : Fin k1_t2_loop.trips) : Fin 2 → Nat :=
  let c13_i32_109 : BitVec 32 := 13#32
  let v225 : Index := Scalar.indexCast c13_i32_109
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_108 : BitVec 32 := 16#32
  let v224 : BitVec 32 := Scalar.muli v135 c16_i32_108
  let v226 : Index := Scalar.indexCast v224
  ![13, v226.toNat]
def k1_off20 (k1_t2 : Fin k1_t2_loop.trips) : Fin 2 → Nat :=
  let c14_i32_111 : BitVec 32 := 14#32
  let v229 : Index := Scalar.indexCast c14_i32_111
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_110 : BitVec 32 := 16#32
  let v228 : BitVec 32 := Scalar.muli v135 c16_i32_110
  let v230 : Index := Scalar.indexCast v228
  ![14, v230.toNat]
def k1_off21 (k1_t2 : Fin k1_t2_loop.trips) : Fin 2 → Nat :=
  let c15_i32_113 : BitVec 32 := 15#32
  let v233 : Index := Scalar.indexCast c15_i32_113
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_112 : BitVec 32 := 16#32
  let v232 : BitVec 32 := Scalar.muli v135 c16_i32_112
  let v234 : Index := Scalar.indexCast v232
  ![15, v234.toNat]

def k1_chk17 (k1_t1 : Fin k1_t1_loop.trips) (v139 : IVec S16 32) (v236 : IVec S16 32) : Prop :=
  (∀ (k1_h1 : k1_cond1 k1_t1 = 1#1), ∀ a x, ((![v236, v139] : Fin 2 → IVec S16 32) a x).toNat < S32x512.size a)
theorem k1_idx17_inb : ∀ (k1_t1 : Fin k1_t1_loop.trips) (v139 : IVec S16 32) (v236 : IVec S16 32) (k1_hw17 : k1_chk17 k1_t1 v139 v236), ∀ (k1_h1 : k1_cond1 k1_t1 = 1#1), ∀ a x, ((![v236, v139] : Fin 2 → IVec S16 32) a x).toNat < S32x512.size a := fun k1_t1 v139 v236 k1_hw17 k1_h1 => k1_hw17 k1_h1

def k1_chk18 (k1_t1 : Fin k1_t1_loop.trips) (v139 : IVec S16 32) (v238 : IVec S16 32) : Prop :=
  (∀ (k1_h1 : k1_cond1 k1_t1 = 1#1), ∀ a x, ((![v238, v139] : Fin 2 → IVec S16 32) a x).toNat < S32x512.size a)
theorem k1_idx18_inb : ∀ (k1_t1 : Fin k1_t1_loop.trips) (v139 : IVec S16 32) (v238 : IVec S16 32) (k1_hw18 : k1_chk18 k1_t1 v139 v238), ∀ (k1_h1 : k1_cond1 k1_t1 = 1#1), ∀ a x, ((![v238, v139] : Fin 2 → IVec S16 32) a x).toNat < S32x512.size a := fun k1_t1 v139 v238 k1_hw18 k1_h1 => k1_hw18 k1_h1

def k1_chk19 (k1_t1 : Fin k1_t1_loop.trips) (v139 : IVec S16 32) (v240 : IVec S16 32) : Prop :=
  (∀ (k1_h1 : k1_cond1 k1_t1 = 1#1), ∀ a x, ((![v240, v139] : Fin 2 → IVec S16 32) a x).toNat < S32x512.size a)
theorem k1_idx19_inb : ∀ (k1_t1 : Fin k1_t1_loop.trips) (v139 : IVec S16 32) (v240 : IVec S16 32) (k1_hw19 : k1_chk19 k1_t1 v139 v240), ∀ (k1_h1 : k1_cond1 k1_t1 = 1#1), ∀ a x, ((![v240, v139] : Fin 2 → IVec S16 32) a x).toNat < S32x512.size a := fun k1_t1 v139 v240 k1_hw19 k1_h1 => k1_hw19 k1_h1

def k1_chk20 (k1_t1 : Fin k1_t1_loop.trips) (v139 : IVec S16 32) (v242 : IVec S16 32) : Prop :=
  (∀ (k1_h1 : k1_cond1 k1_t1 = 1#1), ∀ a x, ((![v242, v139] : Fin 2 → IVec S16 32) a x).toNat < S32x512.size a)
theorem k1_idx20_inb : ∀ (k1_t1 : Fin k1_t1_loop.trips) (v139 : IVec S16 32) (v242 : IVec S16 32) (k1_hw20 : k1_chk20 k1_t1 v139 v242), ∀ (k1_h1 : k1_cond1 k1_t1 = 1#1), ∀ a x, ((![v242, v139] : Fin 2 → IVec S16 32) a x).toNat < S32x512.size a := fun k1_t1 v139 v242 k1_hw20 k1_h1 => k1_hw20 k1_h1

def k1_chk21 (k1_t1 : Fin k1_t1_loop.trips) (v139 : IVec S16 32) (v244 : IVec S16 32) : Prop :=
  (∀ (k1_h1 : k1_cond1 k1_t1 = 1#1), ∀ a x, ((![v244, v139] : Fin 2 → IVec S16 32) a x).toNat < S32x512.size a)
theorem k1_idx21_inb : ∀ (k1_t1 : Fin k1_t1_loop.trips) (v139 : IVec S16 32) (v244 : IVec S16 32) (k1_hw21 : k1_chk21 k1_t1 v139 v244), ∀ (k1_h1 : k1_cond1 k1_t1 = 1#1), ∀ a x, ((![v244, v139] : Fin 2 → IVec S16 32) a x).toNat < S32x512.size a := fun k1_t1 v139 v244 k1_hw21 k1_h1 => k1_hw21 k1_h1

def k1_chk22 (k1_t1 : Fin k1_t1_loop.trips) (v139 : IVec S16 32) (v246 : IVec S16 32) : Prop :=
  (∀ (k1_h1 : k1_cond1 k1_t1 = 1#1), ∀ a x, ((![v246, v139] : Fin 2 → IVec S16 32) a x).toNat < S32x512.size a)
theorem k1_idx22_inb : ∀ (k1_t1 : Fin k1_t1_loop.trips) (v139 : IVec S16 32) (v246 : IVec S16 32) (k1_hw22 : k1_chk22 k1_t1 v139 v246), ∀ (k1_h1 : k1_cond1 k1_t1 = 1#1), ∀ a x, ((![v246, v139] : Fin 2 → IVec S16 32) a x).toNat < S32x512.size a := fun k1_t1 v139 v246 k1_hw22 k1_h1 => k1_hw22 k1_h1

def k1_chk23 (k1_t1 : Fin k1_t1_loop.trips) (v139 : IVec S16 32) (v248 : IVec S16 32) : Prop :=
  (∀ (k1_h1 : k1_cond1 k1_t1 = 1#1), ∀ a x, ((![v248, v139] : Fin 2 → IVec S16 32) a x).toNat < S32x512.size a)
theorem k1_idx23_inb : ∀ (k1_t1 : Fin k1_t1_loop.trips) (v139 : IVec S16 32) (v248 : IVec S16 32) (k1_hw23 : k1_chk23 k1_t1 v139 v248), ∀ (k1_h1 : k1_cond1 k1_t1 = 1#1), ∀ a x, ((![v248, v139] : Fin 2 → IVec S16 32) a x).toNat < S32x512.size a := fun k1_t1 v139 v248 k1_hw23 k1_h1 => k1_hw23 k1_h1

def k1_chk24 (k1_t1 : Fin k1_t1_loop.trips) (v139 : IVec S16 32) (v250 : IVec S16 32) : Prop :=
  (∀ (k1_h1 : k1_cond1 k1_t1 = 1#1), ∀ a x, ((![v250, v139] : Fin 2 → IVec S16 32) a x).toNat < S32x512.size a)
theorem k1_idx24_inb : ∀ (k1_t1 : Fin k1_t1_loop.trips) (v139 : IVec S16 32) (v250 : IVec S16 32) (k1_hw24 : k1_chk24 k1_t1 v139 v250), ∀ (k1_h1 : k1_cond1 k1_t1 = 1#1), ∀ a x, ((![v250, v139] : Fin 2 → IVec S16 32) a x).toNat < S32x512.size a := fun k1_t1 v139 v250 k1_hw24 k1_h1 => k1_hw24 k1_h1
def k1_off22 (k1_t2 : Fin k1_t2_loop.trips) : Fin 2 → Nat :=
  let c16_i32_116 : BitVec 32 := 16#32
  let v253 : Index := Scalar.indexCast c16_i32_116
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_115 : BitVec 32 := 16#32
  let v252 : BitVec 32 := Scalar.muli v135 c16_i32_115
  let v254 : Index := Scalar.indexCast v252
  ![16, v254.toNat]
def k1_off23 (k1_t2 : Fin k1_t2_loop.trips) : Fin 2 → Nat :=
  let c17_i32_118 : BitVec 32 := 17#32
  let v257 : Index := Scalar.indexCast c17_i32_118
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_117 : BitVec 32 := 16#32
  let v256 : BitVec 32 := Scalar.muli v135 c16_i32_117
  let v258 : Index := Scalar.indexCast v256
  ![17, v258.toNat]
def k1_off24 (k1_t2 : Fin k1_t2_loop.trips) : Fin 2 → Nat :=
  let c18_i32_120 : BitVec 32 := 18#32
  let v261 : Index := Scalar.indexCast c18_i32_120
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_119 : BitVec 32 := 16#32
  let v260 : BitVec 32 := Scalar.muli v135 c16_i32_119
  let v262 : Index := Scalar.indexCast v260
  ![18, v262.toNat]
def k1_off25 (k1_t2 : Fin k1_t2_loop.trips) : Fin 2 → Nat :=
  let c19_i32_122 : BitVec 32 := 19#32
  let v265 : Index := Scalar.indexCast c19_i32_122
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_121 : BitVec 32 := 16#32
  let v264 : BitVec 32 := Scalar.muli v135 c16_i32_121
  let v266 : Index := Scalar.indexCast v264
  ![19, v266.toNat]
def k1_off26 (k1_t2 : Fin k1_t2_loop.trips) : Fin 2 → Nat :=
  let c20_i32_124 : BitVec 32 := 20#32
  let v269 : Index := Scalar.indexCast c20_i32_124
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_123 : BitVec 32 := 16#32
  let v268 : BitVec 32 := Scalar.muli v135 c16_i32_123
  let v270 : Index := Scalar.indexCast v268
  ![20, v270.toNat]
def k1_off27 (k1_t2 : Fin k1_t2_loop.trips) : Fin 2 → Nat :=
  let c21_i32_126 : BitVec 32 := 21#32
  let v273 : Index := Scalar.indexCast c21_i32_126
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_125 : BitVec 32 := 16#32
  let v272 : BitVec 32 := Scalar.muli v135 c16_i32_125
  let v274 : Index := Scalar.indexCast v272
  ![21, v274.toNat]
def k1_off28 (k1_t2 : Fin k1_t2_loop.trips) : Fin 2 → Nat :=
  let c22_i32_128 : BitVec 32 := 22#32
  let v277 : Index := Scalar.indexCast c22_i32_128
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_127 : BitVec 32 := 16#32
  let v276 : BitVec 32 := Scalar.muli v135 c16_i32_127
  let v278 : Index := Scalar.indexCast v276
  ![22, v278.toNat]
def k1_off29 (k1_t2 : Fin k1_t2_loop.trips) : Fin 2 → Nat :=
  let c23_i32_130 : BitVec 32 := 23#32
  let v281 : Index := Scalar.indexCast c23_i32_130
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_129 : BitVec 32 := 16#32
  let v280 : BitVec 32 := Scalar.muli v135 c16_i32_129
  let v282 : Index := Scalar.indexCast v280
  ![23, v282.toNat]

def k1_chk25 (k1_t1 : Fin k1_t1_loop.trips) (v139 : IVec S16 32) (v284 : IVec S16 32) : Prop :=
  (∀ (k1_h1 : k1_cond1 k1_t1 = 1#1), ∀ a x, ((![v284, v139] : Fin 2 → IVec S16 32) a x).toNat < S32x512.size a)
theorem k1_idx25_inb : ∀ (k1_t1 : Fin k1_t1_loop.trips) (v139 : IVec S16 32) (v284 : IVec S16 32) (k1_hw25 : k1_chk25 k1_t1 v139 v284), ∀ (k1_h1 : k1_cond1 k1_t1 = 1#1), ∀ a x, ((![v284, v139] : Fin 2 → IVec S16 32) a x).toNat < S32x512.size a := fun k1_t1 v139 v284 k1_hw25 k1_h1 => k1_hw25 k1_h1

def k1_chk26 (k1_t1 : Fin k1_t1_loop.trips) (v139 : IVec S16 32) (v286 : IVec S16 32) : Prop :=
  (∀ (k1_h1 : k1_cond1 k1_t1 = 1#1), ∀ a x, ((![v286, v139] : Fin 2 → IVec S16 32) a x).toNat < S32x512.size a)
theorem k1_idx26_inb : ∀ (k1_t1 : Fin k1_t1_loop.trips) (v139 : IVec S16 32) (v286 : IVec S16 32) (k1_hw26 : k1_chk26 k1_t1 v139 v286), ∀ (k1_h1 : k1_cond1 k1_t1 = 1#1), ∀ a x, ((![v286, v139] : Fin 2 → IVec S16 32) a x).toNat < S32x512.size a := fun k1_t1 v139 v286 k1_hw26 k1_h1 => k1_hw26 k1_h1

def k1_chk27 (k1_t1 : Fin k1_t1_loop.trips) (v139 : IVec S16 32) (v288 : IVec S16 32) : Prop :=
  (∀ (k1_h1 : k1_cond1 k1_t1 = 1#1), ∀ a x, ((![v288, v139] : Fin 2 → IVec S16 32) a x).toNat < S32x512.size a)
theorem k1_idx27_inb : ∀ (k1_t1 : Fin k1_t1_loop.trips) (v139 : IVec S16 32) (v288 : IVec S16 32) (k1_hw27 : k1_chk27 k1_t1 v139 v288), ∀ (k1_h1 : k1_cond1 k1_t1 = 1#1), ∀ a x, ((![v288, v139] : Fin 2 → IVec S16 32) a x).toNat < S32x512.size a := fun k1_t1 v139 v288 k1_hw27 k1_h1 => k1_hw27 k1_h1

def k1_chk28 (k1_t1 : Fin k1_t1_loop.trips) (v139 : IVec S16 32) (v290 : IVec S16 32) : Prop :=
  (∀ (k1_h1 : k1_cond1 k1_t1 = 1#1), ∀ a x, ((![v290, v139] : Fin 2 → IVec S16 32) a x).toNat < S32x512.size a)
theorem k1_idx28_inb : ∀ (k1_t1 : Fin k1_t1_loop.trips) (v139 : IVec S16 32) (v290 : IVec S16 32) (k1_hw28 : k1_chk28 k1_t1 v139 v290), ∀ (k1_h1 : k1_cond1 k1_t1 = 1#1), ∀ a x, ((![v290, v139] : Fin 2 → IVec S16 32) a x).toNat < S32x512.size a := fun k1_t1 v139 v290 k1_hw28 k1_h1 => k1_hw28 k1_h1

def k1_chk29 (k1_t1 : Fin k1_t1_loop.trips) (v139 : IVec S16 32) (v292 : IVec S16 32) : Prop :=
  (∀ (k1_h1 : k1_cond1 k1_t1 = 1#1), ∀ a x, ((![v292, v139] : Fin 2 → IVec S16 32) a x).toNat < S32x512.size a)
theorem k1_idx29_inb : ∀ (k1_t1 : Fin k1_t1_loop.trips) (v139 : IVec S16 32) (v292 : IVec S16 32) (k1_hw29 : k1_chk29 k1_t1 v139 v292), ∀ (k1_h1 : k1_cond1 k1_t1 = 1#1), ∀ a x, ((![v292, v139] : Fin 2 → IVec S16 32) a x).toNat < S32x512.size a := fun k1_t1 v139 v292 k1_hw29 k1_h1 => k1_hw29 k1_h1

def k1_chk30 (k1_t1 : Fin k1_t1_loop.trips) (v139 : IVec S16 32) (v294 : IVec S16 32) : Prop :=
  (∀ (k1_h1 : k1_cond1 k1_t1 = 1#1), ∀ a x, ((![v294, v139] : Fin 2 → IVec S16 32) a x).toNat < S32x512.size a)
theorem k1_idx30_inb : ∀ (k1_t1 : Fin k1_t1_loop.trips) (v139 : IVec S16 32) (v294 : IVec S16 32) (k1_hw30 : k1_chk30 k1_t1 v139 v294), ∀ (k1_h1 : k1_cond1 k1_t1 = 1#1), ∀ a x, ((![v294, v139] : Fin 2 → IVec S16 32) a x).toNat < S32x512.size a := fun k1_t1 v139 v294 k1_hw30 k1_h1 => k1_hw30 k1_h1

def k1_chk31 (k1_t1 : Fin k1_t1_loop.trips) (v139 : IVec S16 32) (v296 : IVec S16 32) : Prop :=
  (∀ (k1_h1 : k1_cond1 k1_t1 = 1#1), ∀ a x, ((![v296, v139] : Fin 2 → IVec S16 32) a x).toNat < S32x512.size a)
theorem k1_idx31_inb : ∀ (k1_t1 : Fin k1_t1_loop.trips) (v139 : IVec S16 32) (v296 : IVec S16 32) (k1_hw31 : k1_chk31 k1_t1 v139 v296), ∀ (k1_h1 : k1_cond1 k1_t1 = 1#1), ∀ a x, ((![v296, v139] : Fin 2 → IVec S16 32) a x).toNat < S32x512.size a := fun k1_t1 v139 v296 k1_hw31 k1_h1 => k1_hw31 k1_h1

def k1_chk32 (k1_t1 : Fin k1_t1_loop.trips) (v139 : IVec S16 32) (v298 : IVec S16 32) : Prop :=
  (∀ (k1_h1 : k1_cond1 k1_t1 = 1#1), ∀ a x, ((![v298, v139] : Fin 2 → IVec S16 32) a x).toNat < S32x512.size a)
theorem k1_idx32_inb : ∀ (k1_t1 : Fin k1_t1_loop.trips) (v139 : IVec S16 32) (v298 : IVec S16 32) (k1_hw32 : k1_chk32 k1_t1 v139 v298), ∀ (k1_h1 : k1_cond1 k1_t1 = 1#1), ∀ a x, ((![v298, v139] : Fin 2 → IVec S16 32) a x).toNat < S32x512.size a := fun k1_t1 v139 v298 k1_hw32 k1_h1 => k1_hw32 k1_h1
def k1_off30 (k1_t2 : Fin k1_t2_loop.trips) : Fin 2 → Nat :=
  let c24_i32_132 : BitVec 32 := 24#32
  let v301 : Index := Scalar.indexCast c24_i32_132
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_131 : BitVec 32 := 16#32
  let v300 : BitVec 32 := Scalar.muli v135 c16_i32_131
  let v302 : Index := Scalar.indexCast v300
  ![24, v302.toNat]
def k1_off31 (k1_t2 : Fin k1_t2_loop.trips) : Fin 2 → Nat :=
  let c25_i32_134 : BitVec 32 := 25#32
  let v305 : Index := Scalar.indexCast c25_i32_134
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_133 : BitVec 32 := 16#32
  let v304 : BitVec 32 := Scalar.muli v135 c16_i32_133
  let v306 : Index := Scalar.indexCast v304
  ![25, v306.toNat]
def k1_off32 (k1_t2 : Fin k1_t2_loop.trips) : Fin 2 → Nat :=
  let c26_i32_136 : BitVec 32 := 26#32
  let v309 : Index := Scalar.indexCast c26_i32_136
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_135 : BitVec 32 := 16#32
  let v308 : BitVec 32 := Scalar.muli v135 c16_i32_135
  let v310 : Index := Scalar.indexCast v308
  ![26, v310.toNat]
def k1_off33 (k1_t2 : Fin k1_t2_loop.trips) : Fin 2 → Nat :=
  let c27_i32_138 : BitVec 32 := 27#32
  let v313 : Index := Scalar.indexCast c27_i32_138
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_137 : BitVec 32 := 16#32
  let v312 : BitVec 32 := Scalar.muli v135 c16_i32_137
  let v314 : Index := Scalar.indexCast v312
  ![27, v314.toNat]
def k1_off34 (k1_t2 : Fin k1_t2_loop.trips) : Fin 2 → Nat :=
  let c28_i32_140 : BitVec 32 := 28#32
  let v317 : Index := Scalar.indexCast c28_i32_140
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_139 : BitVec 32 := 16#32
  let v316 : BitVec 32 := Scalar.muli v135 c16_i32_139
  let v318 : Index := Scalar.indexCast v316
  ![28, v318.toNat]
def k1_off35 (k1_t2 : Fin k1_t2_loop.trips) : Fin 2 → Nat :=
  let c29_i32_142 : BitVec 32 := 29#32
  let v321 : Index := Scalar.indexCast c29_i32_142
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_141 : BitVec 32 := 16#32
  let v320 : BitVec 32 := Scalar.muli v135 c16_i32_141
  let v322 : Index := Scalar.indexCast v320
  ![29, v322.toNat]
def k1_off36 (k1_t2 : Fin k1_t2_loop.trips) : Fin 2 → Nat :=
  let c30_i32_144 : BitVec 32 := 30#32
  let v325 : Index := Scalar.indexCast c30_i32_144
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_143 : BitVec 32 := 16#32
  let v324 : BitVec 32 := Scalar.muli v135 c16_i32_143
  let v326 : Index := Scalar.indexCast v324
  ![30, v326.toNat]
def k1_off37 (k1_t2 : Fin k1_t2_loop.trips) : Fin 2 → Nat :=
  let c31_i32_146 : BitVec 32 := 31#32
  let v329 : Index := Scalar.indexCast c31_i32_146
  let c0_i32_55 : BitVec 32 := 0#32
  let c1_i32_56 : BitVec 32 := 1#32
  let arg15 : BitVec 32 := Scf.iv c0_i32_55 c1_i32_56 k1_t2
  let c2_i32_75 : BitVec 32 := 2#32
  let v134 : BitVec 32 := Scalar.muli arg15 c2_i32_75
  let c0_i32_76 : BitVec 32 := 0#32
  let v135 : BitVec 32 := Scalar.addi v134 c0_i32_76
  let c16_i32_145 : BitVec 32 := 16#32
  let v328 : BitVec 32 := Scalar.muli v135 c16_i32_145
  let v330 : Index := Scalar.indexCast v328
  ![31, v330.toNat]
def k1_off38 (k1_t1 : Fin k1_t1_loop.trips) (k1_t2 : Fin k1_t2_loop.trips) : Fin 1 → Nat :=
  let c0_i32_4 : BitVec 32 := 0#32
  let c1_i32 : BitVec 32 := 1#32
  let arg14 : BitVec 32 := Scf.iv c0_i32_4 c1_i32 k1_t1
  let c0_i32_48 : BitVec 32 := 0#32
  let v83 : BitVec 1 := Scalar.cmpi .sgt arg14 c0_i32_48
  let v84 : BitVec 32 := Scalar.extui v83
  let c0_i32_49 : BitVec 32 := 0#32
  let v85 : BitVec 1 := Scalar.cmpi .slt arg14 c0_i32_49
  let v86 : BitVec 32 := Scalar.extui v85
  let v87 : BitVec 32 := Scalar.subi v84 v86
  let c4_i32_47 : BitVec 32 := 4#32
  let c0_i32_50 : BitVec 32 := 0#32
  let v88 : BitVec 1 := Scalar.cmpi .sgt c4_i32_47 c0_i32_50
  let v89 : BitVec 32 := Scalar.extui v88
  let c0_i32_51 : BitVec 32 := 0#32
  let v90 : BitVec 1 := Scalar.cmpi .slt c4_i32_47 c0_i32_51
  let v91 : BitVec 32 := Scalar.extui v90
  let v92 : BitVec 32 := Scalar.subi v89 v91
  let v93 : BitVec 1 := Scalar.cmpi .ne v87 v92
  let v94 : BitVec 32 := Scalar.remsi arg14 c4_i32_47
  let c0_i32_52 : BitVec 32 := 0#32
  let v95 : BitVec 1 := Scalar.cmpi .ne v94 c0_i32_52
  let v96 : BitVec 1 := Scalar.andi v93 v95
  let v82 : BitVec 32 := Scalar.divsi arg14 c4_i32_47
  let c1_i32_53 : BitVec 32 := 1#32
  let v97 : BitVec 32 := Scalar.subi v82 c1_i32_53
  let v98 : BitVec 32 := Scalar.select v96 v97 v82
  let c512_i32 : BitVec 32 := 512#32
  let v99 : BitVec 32 := Scalar.muli v98 c512_i32
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_149 : BitVec 32 := 16#32
  let v334 : BitVec 32 := Scalar.muli v333 c16_i32_149
  let v335 : BitVec 32 := Scalar.addi v99 v334
  let v336 : Index := Scalar.indexCast v335
  ![v336.toNat]

def k1_chk33 (k1_t1 : Fin k1_t1_loop.trips) (v337 : IVec S16 32) (v338 : IVec S16 32) : Prop :=
  (∀ (k1_h1 : k1_cond1 k1_t1 = 1#1), ∀ a x, ((![v338, v337] : Fin 2 → IVec S16 32) a x).toNat < S32x512.size a)
theorem k1_idx33_inb : ∀ (k1_t1 : Fin k1_t1_loop.trips) (v337 : IVec S16 32) (v338 : IVec S16 32) (k1_hw33 : k1_chk33 k1_t1 v337 v338), ∀ (k1_h1 : k1_cond1 k1_t1 = 1#1), ∀ a x, ((![v338, v337] : Fin 2 → IVec S16 32) a x).toNat < S32x512.size a := fun k1_t1 v337 v338 k1_hw33 k1_h1 => k1_hw33 k1_h1

def k1_chk34 (k1_t1 : Fin k1_t1_loop.trips) (v337 : IVec S16 32) (v340 : IVec S16 32) : Prop :=
  (∀ (k1_h1 : k1_cond1 k1_t1 = 1#1), ∀ a x, ((![v340, v337] : Fin 2 → IVec S16 32) a x).toNat < S32x512.size a)
theorem k1_idx34_inb : ∀ (k1_t1 : Fin k1_t1_loop.trips) (v337 : IVec S16 32) (v340 : IVec S16 32) (k1_hw34 : k1_chk34 k1_t1 v337 v340), ∀ (k1_h1 : k1_cond1 k1_t1 = 1#1), ∀ a x, ((![v340, v337] : Fin 2 → IVec S16 32) a x).toNat < S32x512.size a := fun k1_t1 v337 v340 k1_hw34 k1_h1 => k1_hw34 k1_h1

def k1_chk35 (k1_t1 : Fin k1_t1_loop.trips) (v337 : IVec S16 32) (v342 : IVec S16 32) : Prop :=
  (∀ (k1_h1 : k1_cond1 k1_t1 = 1#1), ∀ a x, ((![v342, v337] : Fin 2 → IVec S16 32) a x).toNat < S32x512.size a)
theorem k1_idx35_inb : ∀ (k1_t1 : Fin k1_t1_loop.trips) (v337 : IVec S16 32) (v342 : IVec S16 32) (k1_hw35 : k1_chk35 k1_t1 v337 v342), ∀ (k1_h1 : k1_cond1 k1_t1 = 1#1), ∀ a x, ((![v342, v337] : Fin 2 → IVec S16 32) a x).toNat < S32x512.size a := fun k1_t1 v337 v342 k1_hw35 k1_h1 => k1_hw35 k1_h1

def k1_chk36 (k1_t1 : Fin k1_t1_loop.trips) (v337 : IVec S16 32) (v344 : IVec S16 32) : Prop :=
  (∀ (k1_h1 : k1_cond1 k1_t1 = 1#1), ∀ a x, ((![v344, v337] : Fin 2 → IVec S16 32) a x).toNat < S32x512.size a)
theorem k1_idx36_inb : ∀ (k1_t1 : Fin k1_t1_loop.trips) (v337 : IVec S16 32) (v344 : IVec S16 32) (k1_hw36 : k1_chk36 k1_t1 v337 v344), ∀ (k1_h1 : k1_cond1 k1_t1 = 1#1), ∀ a x, ((![v344, v337] : Fin 2 → IVec S16 32) a x).toNat < S32x512.size a := fun k1_t1 v337 v344 k1_hw36 k1_h1 => k1_hw36 k1_h1

def k1_chk37 (k1_t1 : Fin k1_t1_loop.trips) (v337 : IVec S16 32) (v346 : IVec S16 32) : Prop :=
  (∀ (k1_h1 : k1_cond1 k1_t1 = 1#1), ∀ a x, ((![v346, v337] : Fin 2 → IVec S16 32) a x).toNat < S32x512.size a)
theorem k1_idx37_inb : ∀ (k1_t1 : Fin k1_t1_loop.trips) (v337 : IVec S16 32) (v346 : IVec S16 32) (k1_hw37 : k1_chk37 k1_t1 v337 v346), ∀ (k1_h1 : k1_cond1 k1_t1 = 1#1), ∀ a x, ((![v346, v337] : Fin 2 → IVec S16 32) a x).toNat < S32x512.size a := fun k1_t1 v337 v346 k1_hw37 k1_h1 => k1_hw37 k1_h1

def k1_chk38 (k1_t1 : Fin k1_t1_loop.trips) (v337 : IVec S16 32) (v348 : IVec S16 32) : Prop :=
  (∀ (k1_h1 : k1_cond1 k1_t1 = 1#1), ∀ a x, ((![v348, v337] : Fin 2 → IVec S16 32) a x).toNat < S32x512.size a)
theorem k1_idx38_inb : ∀ (k1_t1 : Fin k1_t1_loop.trips) (v337 : IVec S16 32) (v348 : IVec S16 32) (k1_hw38 : k1_chk38 k1_t1 v337 v348), ∀ (k1_h1 : k1_cond1 k1_t1 = 1#1), ∀ a x, ((![v348, v337] : Fin 2 → IVec S16 32) a x).toNat < S32x512.size a := fun k1_t1 v337 v348 k1_hw38 k1_h1 => k1_hw38 k1_h1

def k1_chk39 (k1_t1 : Fin k1_t1_loop.trips) (v337 : IVec S16 32) (v350 : IVec S16 32) : Prop :=
  (∀ (k1_h1 : k1_cond1 k1_t1 = 1#1), ∀ a x, ((![v350, v337] : Fin 2 → IVec S16 32) a x).toNat < S32x512.size a)
theorem k1_idx39_inb : ∀ (k1_t1 : Fin k1_t1_loop.trips) (v337 : IVec S16 32) (v350 : IVec S16 32) (k1_hw39 : k1_chk39 k1_t1 v337 v350), ∀ (k1_h1 : k1_cond1 k1_t1 = 1#1), ∀ a x, ((![v350, v337] : Fin 2 → IVec S16 32) a x).toNat < S32x512.size a := fun k1_t1 v337 v350 k1_hw39 k1_h1 => k1_hw39 k1_h1

def k1_chk40 (k1_t1 : Fin k1_t1_loop.trips) (v337 : IVec S16 32) (v352 : IVec S16 32) : Prop :=
  (∀ (k1_h1 : k1_cond1 k1_t1 = 1#1), ∀ a x, ((![v352, v337] : Fin 2 → IVec S16 32) a x).toNat < S32x512.size a)
theorem k1_idx40_inb : ∀ (k1_t1 : Fin k1_t1_loop.trips) (v337 : IVec S16 32) (v352 : IVec S16 32) (k1_hw40 : k1_chk40 k1_t1 v337 v352), ∀ (k1_h1 : k1_cond1 k1_t1 = 1#1), ∀ a x, ((![v352, v337] : Fin 2 → IVec S16 32) a x).toNat < S32x512.size a := fun k1_t1 v337 v352 k1_hw40 k1_h1 => k1_hw40 k1_h1
def k1_off39 (k1_t2 : Fin k1_t2_loop.trips) : Fin 2 → Nat :=
  let c0_i32_159 : BitVec 32 := 0#32
  let v355 : Index := Scalar.indexCast c0_i32_159
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_158 : BitVec 32 := 16#32
  let v354 : BitVec 32 := Scalar.muli v333 c16_i32_158
  let v356 : Index := Scalar.indexCast v354
  ![0, v356.toNat]
def k1_off40 (k1_t2 : Fin k1_t2_loop.trips) : Fin 2 → Nat :=
  let c1_i32_161 : BitVec 32 := 1#32
  let v359 : Index := Scalar.indexCast c1_i32_161
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_160 : BitVec 32 := 16#32
  let v358 : BitVec 32 := Scalar.muli v333 c16_i32_160
  let v360 : Index := Scalar.indexCast v358
  ![1, v360.toNat]
def k1_off41 (k1_t2 : Fin k1_t2_loop.trips) : Fin 2 → Nat :=
  let c2_i32_163 : BitVec 32 := 2#32
  let v363 : Index := Scalar.indexCast c2_i32_163
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_162 : BitVec 32 := 16#32
  let v362 : BitVec 32 := Scalar.muli v333 c16_i32_162
  let v364 : Index := Scalar.indexCast v362
  ![2, v364.toNat]
def k1_off42 (k1_t2 : Fin k1_t2_loop.trips) : Fin 2 → Nat :=
  let c3_i32_165 : BitVec 32 := 3#32
  let v367 : Index := Scalar.indexCast c3_i32_165
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_164 : BitVec 32 := 16#32
  let v366 : BitVec 32 := Scalar.muli v333 c16_i32_164
  let v368 : Index := Scalar.indexCast v366
  ![3, v368.toNat]
def k1_off43 (k1_t2 : Fin k1_t2_loop.trips) : Fin 2 → Nat :=
  let c4_i32_167 : BitVec 32 := 4#32
  let v371 : Index := Scalar.indexCast c4_i32_167
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_166 : BitVec 32 := 16#32
  let v370 : BitVec 32 := Scalar.muli v333 c16_i32_166
  let v372 : Index := Scalar.indexCast v370
  ![4, v372.toNat]
def k1_off44 (k1_t2 : Fin k1_t2_loop.trips) : Fin 2 → Nat :=
  let c5_i32_169 : BitVec 32 := 5#32
  let v375 : Index := Scalar.indexCast c5_i32_169
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_168 : BitVec 32 := 16#32
  let v374 : BitVec 32 := Scalar.muli v333 c16_i32_168
  let v376 : Index := Scalar.indexCast v374
  ![5, v376.toNat]
def k1_off45 (k1_t2 : Fin k1_t2_loop.trips) : Fin 2 → Nat :=
  let c6_i32_171 : BitVec 32 := 6#32
  let v379 : Index := Scalar.indexCast c6_i32_171
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_170 : BitVec 32 := 16#32
  let v378 : BitVec 32 := Scalar.muli v333 c16_i32_170
  let v380 : Index := Scalar.indexCast v378
  ![6, v380.toNat]
def k1_off46 (k1_t2 : Fin k1_t2_loop.trips) : Fin 2 → Nat :=
  let c7_i32_173 : BitVec 32 := 7#32
  let v383 : Index := Scalar.indexCast c7_i32_173
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_172 : BitVec 32 := 16#32
  let v382 : BitVec 32 := Scalar.muli v333 c16_i32_172
  let v384 : Index := Scalar.indexCast v382
  ![7, v384.toNat]

def k1_chk41 (k1_t1 : Fin k1_t1_loop.trips) (v337 : IVec S16 32) (v386 : IVec S16 32) : Prop :=
  (∀ (k1_h1 : k1_cond1 k1_t1 = 1#1), ∀ a x, ((![v386, v337] : Fin 2 → IVec S16 32) a x).toNat < S32x512.size a)
theorem k1_idx41_inb : ∀ (k1_t1 : Fin k1_t1_loop.trips) (v337 : IVec S16 32) (v386 : IVec S16 32) (k1_hw41 : k1_chk41 k1_t1 v337 v386), ∀ (k1_h1 : k1_cond1 k1_t1 = 1#1), ∀ a x, ((![v386, v337] : Fin 2 → IVec S16 32) a x).toNat < S32x512.size a := fun k1_t1 v337 v386 k1_hw41 k1_h1 => k1_hw41 k1_h1

def k1_chk42 (k1_t1 : Fin k1_t1_loop.trips) (v337 : IVec S16 32) (v388 : IVec S16 32) : Prop :=
  (∀ (k1_h1 : k1_cond1 k1_t1 = 1#1), ∀ a x, ((![v388, v337] : Fin 2 → IVec S16 32) a x).toNat < S32x512.size a)
theorem k1_idx42_inb : ∀ (k1_t1 : Fin k1_t1_loop.trips) (v337 : IVec S16 32) (v388 : IVec S16 32) (k1_hw42 : k1_chk42 k1_t1 v337 v388), ∀ (k1_h1 : k1_cond1 k1_t1 = 1#1), ∀ a x, ((![v388, v337] : Fin 2 → IVec S16 32) a x).toNat < S32x512.size a := fun k1_t1 v337 v388 k1_hw42 k1_h1 => k1_hw42 k1_h1

def k1_chk43 (k1_t1 : Fin k1_t1_loop.trips) (v337 : IVec S16 32) (v390 : IVec S16 32) : Prop :=
  (∀ (k1_h1 : k1_cond1 k1_t1 = 1#1), ∀ a x, ((![v390, v337] : Fin 2 → IVec S16 32) a x).toNat < S32x512.size a)
theorem k1_idx43_inb : ∀ (k1_t1 : Fin k1_t1_loop.trips) (v337 : IVec S16 32) (v390 : IVec S16 32) (k1_hw43 : k1_chk43 k1_t1 v337 v390), ∀ (k1_h1 : k1_cond1 k1_t1 = 1#1), ∀ a x, ((![v390, v337] : Fin 2 → IVec S16 32) a x).toNat < S32x512.size a := fun k1_t1 v337 v390 k1_hw43 k1_h1 => k1_hw43 k1_h1

def k1_chk44 (k1_t1 : Fin k1_t1_loop.trips) (v337 : IVec S16 32) (v392 : IVec S16 32) : Prop :=
  (∀ (k1_h1 : k1_cond1 k1_t1 = 1#1), ∀ a x, ((![v392, v337] : Fin 2 → IVec S16 32) a x).toNat < S32x512.size a)
theorem k1_idx44_inb : ∀ (k1_t1 : Fin k1_t1_loop.trips) (v337 : IVec S16 32) (v392 : IVec S16 32) (k1_hw44 : k1_chk44 k1_t1 v337 v392), ∀ (k1_h1 : k1_cond1 k1_t1 = 1#1), ∀ a x, ((![v392, v337] : Fin 2 → IVec S16 32) a x).toNat < S32x512.size a := fun k1_t1 v337 v392 k1_hw44 k1_h1 => k1_hw44 k1_h1

def k1_chk45 (k1_t1 : Fin k1_t1_loop.trips) (v337 : IVec S16 32) (v394 : IVec S16 32) : Prop :=
  (∀ (k1_h1 : k1_cond1 k1_t1 = 1#1), ∀ a x, ((![v394, v337] : Fin 2 → IVec S16 32) a x).toNat < S32x512.size a)
theorem k1_idx45_inb : ∀ (k1_t1 : Fin k1_t1_loop.trips) (v337 : IVec S16 32) (v394 : IVec S16 32) (k1_hw45 : k1_chk45 k1_t1 v337 v394), ∀ (k1_h1 : k1_cond1 k1_t1 = 1#1), ∀ a x, ((![v394, v337] : Fin 2 → IVec S16 32) a x).toNat < S32x512.size a := fun k1_t1 v337 v394 k1_hw45 k1_h1 => k1_hw45 k1_h1

def k1_chk46 (k1_t1 : Fin k1_t1_loop.trips) (v337 : IVec S16 32) (v396 : IVec S16 32) : Prop :=
  (∀ (k1_h1 : k1_cond1 k1_t1 = 1#1), ∀ a x, ((![v396, v337] : Fin 2 → IVec S16 32) a x).toNat < S32x512.size a)
theorem k1_idx46_inb : ∀ (k1_t1 : Fin k1_t1_loop.trips) (v337 : IVec S16 32) (v396 : IVec S16 32) (k1_hw46 : k1_chk46 k1_t1 v337 v396), ∀ (k1_h1 : k1_cond1 k1_t1 = 1#1), ∀ a x, ((![v396, v337] : Fin 2 → IVec S16 32) a x).toNat < S32x512.size a := fun k1_t1 v337 v396 k1_hw46 k1_h1 => k1_hw46 k1_h1

def k1_chk47 (k1_t1 : Fin k1_t1_loop.trips) (v337 : IVec S16 32) (v398 : IVec S16 32) : Prop :=
  (∀ (k1_h1 : k1_cond1 k1_t1 = 1#1), ∀ a x, ((![v398, v337] : Fin 2 → IVec S16 32) a x).toNat < S32x512.size a)
theorem k1_idx47_inb : ∀ (k1_t1 : Fin k1_t1_loop.trips) (v337 : IVec S16 32) (v398 : IVec S16 32) (k1_hw47 : k1_chk47 k1_t1 v337 v398), ∀ (k1_h1 : k1_cond1 k1_t1 = 1#1), ∀ a x, ((![v398, v337] : Fin 2 → IVec S16 32) a x).toNat < S32x512.size a := fun k1_t1 v337 v398 k1_hw47 k1_h1 => k1_hw47 k1_h1

def k1_chk48 (k1_t1 : Fin k1_t1_loop.trips) (v337 : IVec S16 32) (v400 : IVec S16 32) : Prop :=
  (∀ (k1_h1 : k1_cond1 k1_t1 = 1#1), ∀ a x, ((![v400, v337] : Fin 2 → IVec S16 32) a x).toNat < S32x512.size a)
theorem k1_idx48_inb : ∀ (k1_t1 : Fin k1_t1_loop.trips) (v337 : IVec S16 32) (v400 : IVec S16 32) (k1_hw48 : k1_chk48 k1_t1 v337 v400), ∀ (k1_h1 : k1_cond1 k1_t1 = 1#1), ∀ a x, ((![v400, v337] : Fin 2 → IVec S16 32) a x).toNat < S32x512.size a := fun k1_t1 v337 v400 k1_hw48 k1_h1 => k1_hw48 k1_h1
def k1_off47 (k1_t2 : Fin k1_t2_loop.trips) : Fin 2 → Nat :=
  let c8_i32_183 : BitVec 32 := 8#32
  let v403 : Index := Scalar.indexCast c8_i32_183
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_182 : BitVec 32 := 16#32
  let v402 : BitVec 32 := Scalar.muli v333 c16_i32_182
  let v404 : Index := Scalar.indexCast v402
  ![8, v404.toNat]
def k1_off48 (k1_t2 : Fin k1_t2_loop.trips) : Fin 2 → Nat :=
  let c9_i32_185 : BitVec 32 := 9#32
  let v407 : Index := Scalar.indexCast c9_i32_185
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_184 : BitVec 32 := 16#32
  let v406 : BitVec 32 := Scalar.muli v333 c16_i32_184
  let v408 : Index := Scalar.indexCast v406
  ![9, v408.toNat]
def k1_off49 (k1_t2 : Fin k1_t2_loop.trips) : Fin 2 → Nat :=
  let c10_i32_187 : BitVec 32 := 10#32
  let v411 : Index := Scalar.indexCast c10_i32_187
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_186 : BitVec 32 := 16#32
  let v410 : BitVec 32 := Scalar.muli v333 c16_i32_186
  let v412 : Index := Scalar.indexCast v410
  ![10, v412.toNat]
def k1_off50 (k1_t2 : Fin k1_t2_loop.trips) : Fin 2 → Nat :=
  let c11_i32_189 : BitVec 32 := 11#32
  let v415 : Index := Scalar.indexCast c11_i32_189
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_188 : BitVec 32 := 16#32
  let v414 : BitVec 32 := Scalar.muli v333 c16_i32_188
  let v416 : Index := Scalar.indexCast v414
  ![11, v416.toNat]
def k1_off51 (k1_t2 : Fin k1_t2_loop.trips) : Fin 2 → Nat :=
  let c12_i32_191 : BitVec 32 := 12#32
  let v419 : Index := Scalar.indexCast c12_i32_191
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_190 : BitVec 32 := 16#32
  let v418 : BitVec 32 := Scalar.muli v333 c16_i32_190
  let v420 : Index := Scalar.indexCast v418
  ![12, v420.toNat]
def k1_off52 (k1_t2 : Fin k1_t2_loop.trips) : Fin 2 → Nat :=
  let c13_i32_193 : BitVec 32 := 13#32
  let v423 : Index := Scalar.indexCast c13_i32_193
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_192 : BitVec 32 := 16#32
  let v422 : BitVec 32 := Scalar.muli v333 c16_i32_192
  let v424 : Index := Scalar.indexCast v422
  ![13, v424.toNat]
def k1_off53 (k1_t2 : Fin k1_t2_loop.trips) : Fin 2 → Nat :=
  let c14_i32_195 : BitVec 32 := 14#32
  let v427 : Index := Scalar.indexCast c14_i32_195
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_194 : BitVec 32 := 16#32
  let v426 : BitVec 32 := Scalar.muli v333 c16_i32_194
  let v428 : Index := Scalar.indexCast v426
  ![14, v428.toNat]
def k1_off54 (k1_t2 : Fin k1_t2_loop.trips) : Fin 2 → Nat :=
  let c15_i32_197 : BitVec 32 := 15#32
  let v431 : Index := Scalar.indexCast c15_i32_197
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_196 : BitVec 32 := 16#32
  let v430 : BitVec 32 := Scalar.muli v333 c16_i32_196
  let v432 : Index := Scalar.indexCast v430
  ![15, v432.toNat]

def k1_chk49 (k1_t1 : Fin k1_t1_loop.trips) (v337 : IVec S16 32) (v434 : IVec S16 32) : Prop :=
  (∀ (k1_h1 : k1_cond1 k1_t1 = 1#1), ∀ a x, ((![v434, v337] : Fin 2 → IVec S16 32) a x).toNat < S32x512.size a)
theorem k1_idx49_inb : ∀ (k1_t1 : Fin k1_t1_loop.trips) (v337 : IVec S16 32) (v434 : IVec S16 32) (k1_hw49 : k1_chk49 k1_t1 v337 v434), ∀ (k1_h1 : k1_cond1 k1_t1 = 1#1), ∀ a x, ((![v434, v337] : Fin 2 → IVec S16 32) a x).toNat < S32x512.size a := fun k1_t1 v337 v434 k1_hw49 k1_h1 => k1_hw49 k1_h1

def k1_chk50 (k1_t1 : Fin k1_t1_loop.trips) (v337 : IVec S16 32) (v436 : IVec S16 32) : Prop :=
  (∀ (k1_h1 : k1_cond1 k1_t1 = 1#1), ∀ a x, ((![v436, v337] : Fin 2 → IVec S16 32) a x).toNat < S32x512.size a)
theorem k1_idx50_inb : ∀ (k1_t1 : Fin k1_t1_loop.trips) (v337 : IVec S16 32) (v436 : IVec S16 32) (k1_hw50 : k1_chk50 k1_t1 v337 v436), ∀ (k1_h1 : k1_cond1 k1_t1 = 1#1), ∀ a x, ((![v436, v337] : Fin 2 → IVec S16 32) a x).toNat < S32x512.size a := fun k1_t1 v337 v436 k1_hw50 k1_h1 => k1_hw50 k1_h1

def k1_chk51 (k1_t1 : Fin k1_t1_loop.trips) (v337 : IVec S16 32) (v438 : IVec S16 32) : Prop :=
  (∀ (k1_h1 : k1_cond1 k1_t1 = 1#1), ∀ a x, ((![v438, v337] : Fin 2 → IVec S16 32) a x).toNat < S32x512.size a)
theorem k1_idx51_inb : ∀ (k1_t1 : Fin k1_t1_loop.trips) (v337 : IVec S16 32) (v438 : IVec S16 32) (k1_hw51 : k1_chk51 k1_t1 v337 v438), ∀ (k1_h1 : k1_cond1 k1_t1 = 1#1), ∀ a x, ((![v438, v337] : Fin 2 → IVec S16 32) a x).toNat < S32x512.size a := fun k1_t1 v337 v438 k1_hw51 k1_h1 => k1_hw51 k1_h1

def k1_chk52 (k1_t1 : Fin k1_t1_loop.trips) (v337 : IVec S16 32) (v440 : IVec S16 32) : Prop :=
  (∀ (k1_h1 : k1_cond1 k1_t1 = 1#1), ∀ a x, ((![v440, v337] : Fin 2 → IVec S16 32) a x).toNat < S32x512.size a)
theorem k1_idx52_inb : ∀ (k1_t1 : Fin k1_t1_loop.trips) (v337 : IVec S16 32) (v440 : IVec S16 32) (k1_hw52 : k1_chk52 k1_t1 v337 v440), ∀ (k1_h1 : k1_cond1 k1_t1 = 1#1), ∀ a x, ((![v440, v337] : Fin 2 → IVec S16 32) a x).toNat < S32x512.size a := fun k1_t1 v337 v440 k1_hw52 k1_h1 => k1_hw52 k1_h1

def k1_chk53 (k1_t1 : Fin k1_t1_loop.trips) (v337 : IVec S16 32) (v442 : IVec S16 32) : Prop :=
  (∀ (k1_h1 : k1_cond1 k1_t1 = 1#1), ∀ a x, ((![v442, v337] : Fin 2 → IVec S16 32) a x).toNat < S32x512.size a)
theorem k1_idx53_inb : ∀ (k1_t1 : Fin k1_t1_loop.trips) (v337 : IVec S16 32) (v442 : IVec S16 32) (k1_hw53 : k1_chk53 k1_t1 v337 v442), ∀ (k1_h1 : k1_cond1 k1_t1 = 1#1), ∀ a x, ((![v442, v337] : Fin 2 → IVec S16 32) a x).toNat < S32x512.size a := fun k1_t1 v337 v442 k1_hw53 k1_h1 => k1_hw53 k1_h1

def k1_chk54 (k1_t1 : Fin k1_t1_loop.trips) (v337 : IVec S16 32) (v444 : IVec S16 32) : Prop :=
  (∀ (k1_h1 : k1_cond1 k1_t1 = 1#1), ∀ a x, ((![v444, v337] : Fin 2 → IVec S16 32) a x).toNat < S32x512.size a)
theorem k1_idx54_inb : ∀ (k1_t1 : Fin k1_t1_loop.trips) (v337 : IVec S16 32) (v444 : IVec S16 32) (k1_hw54 : k1_chk54 k1_t1 v337 v444), ∀ (k1_h1 : k1_cond1 k1_t1 = 1#1), ∀ a x, ((![v444, v337] : Fin 2 → IVec S16 32) a x).toNat < S32x512.size a := fun k1_t1 v337 v444 k1_hw54 k1_h1 => k1_hw54 k1_h1

def k1_chk55 (k1_t1 : Fin k1_t1_loop.trips) (v337 : IVec S16 32) (v446 : IVec S16 32) : Prop :=
  (∀ (k1_h1 : k1_cond1 k1_t1 = 1#1), ∀ a x, ((![v446, v337] : Fin 2 → IVec S16 32) a x).toNat < S32x512.size a)
theorem k1_idx55_inb : ∀ (k1_t1 : Fin k1_t1_loop.trips) (v337 : IVec S16 32) (v446 : IVec S16 32) (k1_hw55 : k1_chk55 k1_t1 v337 v446), ∀ (k1_h1 : k1_cond1 k1_t1 = 1#1), ∀ a x, ((![v446, v337] : Fin 2 → IVec S16 32) a x).toNat < S32x512.size a := fun k1_t1 v337 v446 k1_hw55 k1_h1 => k1_hw55 k1_h1

def k1_chk56 (k1_t1 : Fin k1_t1_loop.trips) (v337 : IVec S16 32) (v448 : IVec S16 32) : Prop :=
  (∀ (k1_h1 : k1_cond1 k1_t1 = 1#1), ∀ a x, ((![v448, v337] : Fin 2 → IVec S16 32) a x).toNat < S32x512.size a)
theorem k1_idx56_inb : ∀ (k1_t1 : Fin k1_t1_loop.trips) (v337 : IVec S16 32) (v448 : IVec S16 32) (k1_hw56 : k1_chk56 k1_t1 v337 v448), ∀ (k1_h1 : k1_cond1 k1_t1 = 1#1), ∀ a x, ((![v448, v337] : Fin 2 → IVec S16 32) a x).toNat < S32x512.size a := fun k1_t1 v337 v448 k1_hw56 k1_h1 => k1_hw56 k1_h1
def k1_off55 (k1_t2 : Fin k1_t2_loop.trips) : Fin 2 → Nat :=
  let c16_i32_207 : BitVec 32 := 16#32
  let v451 : Index := Scalar.indexCast c16_i32_207
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_206 : BitVec 32 := 16#32
  let v450 : BitVec 32 := Scalar.muli v333 c16_i32_206
  let v452 : Index := Scalar.indexCast v450
  ![16, v452.toNat]
def k1_off56 (k1_t2 : Fin k1_t2_loop.trips) : Fin 2 → Nat :=
  let c17_i32_209 : BitVec 32 := 17#32
  let v455 : Index := Scalar.indexCast c17_i32_209
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_208 : BitVec 32 := 16#32
  let v454 : BitVec 32 := Scalar.muli v333 c16_i32_208
  let v456 : Index := Scalar.indexCast v454
  ![17, v456.toNat]
def k1_off57 (k1_t2 : Fin k1_t2_loop.trips) : Fin 2 → Nat :=
  let c18_i32_211 : BitVec 32 := 18#32
  let v459 : Index := Scalar.indexCast c18_i32_211
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_210 : BitVec 32 := 16#32
  let v458 : BitVec 32 := Scalar.muli v333 c16_i32_210
  let v460 : Index := Scalar.indexCast v458
  ![18, v460.toNat]
def k1_off58 (k1_t2 : Fin k1_t2_loop.trips) : Fin 2 → Nat :=
  let c19_i32_213 : BitVec 32 := 19#32
  let v463 : Index := Scalar.indexCast c19_i32_213
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_212 : BitVec 32 := 16#32
  let v462 : BitVec 32 := Scalar.muli v333 c16_i32_212
  let v464 : Index := Scalar.indexCast v462
  ![19, v464.toNat]
def k1_off59 (k1_t2 : Fin k1_t2_loop.trips) : Fin 2 → Nat :=
  let c20_i32_215 : BitVec 32 := 20#32
  let v467 : Index := Scalar.indexCast c20_i32_215
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_214 : BitVec 32 := 16#32
  let v466 : BitVec 32 := Scalar.muli v333 c16_i32_214
  let v468 : Index := Scalar.indexCast v466
  ![20, v468.toNat]
def k1_off60 (k1_t2 : Fin k1_t2_loop.trips) : Fin 2 → Nat :=
  let c21_i32_217 : BitVec 32 := 21#32
  let v471 : Index := Scalar.indexCast c21_i32_217
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_216 : BitVec 32 := 16#32
  let v470 : BitVec 32 := Scalar.muli v333 c16_i32_216
  let v472 : Index := Scalar.indexCast v470
  ![21, v472.toNat]
def k1_off61 (k1_t2 : Fin k1_t2_loop.trips) : Fin 2 → Nat :=
  let c22_i32_219 : BitVec 32 := 22#32
  let v475 : Index := Scalar.indexCast c22_i32_219
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_218 : BitVec 32 := 16#32
  let v474 : BitVec 32 := Scalar.muli v333 c16_i32_218
  let v476 : Index := Scalar.indexCast v474
  ![22, v476.toNat]
def k1_off62 (k1_t2 : Fin k1_t2_loop.trips) : Fin 2 → Nat :=
  let c23_i32_221 : BitVec 32 := 23#32
  let v479 : Index := Scalar.indexCast c23_i32_221
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_220 : BitVec 32 := 16#32
  let v478 : BitVec 32 := Scalar.muli v333 c16_i32_220
  let v480 : Index := Scalar.indexCast v478
  ![23, v480.toNat]

def k1_chk57 (k1_t1 : Fin k1_t1_loop.trips) (v337 : IVec S16 32) (v482 : IVec S16 32) : Prop :=
  (∀ (k1_h1 : k1_cond1 k1_t1 = 1#1), ∀ a x, ((![v482, v337] : Fin 2 → IVec S16 32) a x).toNat < S32x512.size a)
theorem k1_idx57_inb : ∀ (k1_t1 : Fin k1_t1_loop.trips) (v337 : IVec S16 32) (v482 : IVec S16 32) (k1_hw57 : k1_chk57 k1_t1 v337 v482), ∀ (k1_h1 : k1_cond1 k1_t1 = 1#1), ∀ a x, ((![v482, v337] : Fin 2 → IVec S16 32) a x).toNat < S32x512.size a := fun k1_t1 v337 v482 k1_hw57 k1_h1 => k1_hw57 k1_h1

def k1_chk58 (k1_t1 : Fin k1_t1_loop.trips) (v337 : IVec S16 32) (v484 : IVec S16 32) : Prop :=
  (∀ (k1_h1 : k1_cond1 k1_t1 = 1#1), ∀ a x, ((![v484, v337] : Fin 2 → IVec S16 32) a x).toNat < S32x512.size a)
theorem k1_idx58_inb : ∀ (k1_t1 : Fin k1_t1_loop.trips) (v337 : IVec S16 32) (v484 : IVec S16 32) (k1_hw58 : k1_chk58 k1_t1 v337 v484), ∀ (k1_h1 : k1_cond1 k1_t1 = 1#1), ∀ a x, ((![v484, v337] : Fin 2 → IVec S16 32) a x).toNat < S32x512.size a := fun k1_t1 v337 v484 k1_hw58 k1_h1 => k1_hw58 k1_h1

def k1_chk59 (k1_t1 : Fin k1_t1_loop.trips) (v337 : IVec S16 32) (v486 : IVec S16 32) : Prop :=
  (∀ (k1_h1 : k1_cond1 k1_t1 = 1#1), ∀ a x, ((![v486, v337] : Fin 2 → IVec S16 32) a x).toNat < S32x512.size a)
theorem k1_idx59_inb : ∀ (k1_t1 : Fin k1_t1_loop.trips) (v337 : IVec S16 32) (v486 : IVec S16 32) (k1_hw59 : k1_chk59 k1_t1 v337 v486), ∀ (k1_h1 : k1_cond1 k1_t1 = 1#1), ∀ a x, ((![v486, v337] : Fin 2 → IVec S16 32) a x).toNat < S32x512.size a := fun k1_t1 v337 v486 k1_hw59 k1_h1 => k1_hw59 k1_h1

def k1_chk60 (k1_t1 : Fin k1_t1_loop.trips) (v337 : IVec S16 32) (v488 : IVec S16 32) : Prop :=
  (∀ (k1_h1 : k1_cond1 k1_t1 = 1#1), ∀ a x, ((![v488, v337] : Fin 2 → IVec S16 32) a x).toNat < S32x512.size a)
theorem k1_idx60_inb : ∀ (k1_t1 : Fin k1_t1_loop.trips) (v337 : IVec S16 32) (v488 : IVec S16 32) (k1_hw60 : k1_chk60 k1_t1 v337 v488), ∀ (k1_h1 : k1_cond1 k1_t1 = 1#1), ∀ a x, ((![v488, v337] : Fin 2 → IVec S16 32) a x).toNat < S32x512.size a := fun k1_t1 v337 v488 k1_hw60 k1_h1 => k1_hw60 k1_h1

def k1_chk61 (k1_t1 : Fin k1_t1_loop.trips) (v337 : IVec S16 32) (v490 : IVec S16 32) : Prop :=
  (∀ (k1_h1 : k1_cond1 k1_t1 = 1#1), ∀ a x, ((![v490, v337] : Fin 2 → IVec S16 32) a x).toNat < S32x512.size a)
theorem k1_idx61_inb : ∀ (k1_t1 : Fin k1_t1_loop.trips) (v337 : IVec S16 32) (v490 : IVec S16 32) (k1_hw61 : k1_chk61 k1_t1 v337 v490), ∀ (k1_h1 : k1_cond1 k1_t1 = 1#1), ∀ a x, ((![v490, v337] : Fin 2 → IVec S16 32) a x).toNat < S32x512.size a := fun k1_t1 v337 v490 k1_hw61 k1_h1 => k1_hw61 k1_h1

def k1_chk62 (k1_t1 : Fin k1_t1_loop.trips) (v337 : IVec S16 32) (v492 : IVec S16 32) : Prop :=
  (∀ (k1_h1 : k1_cond1 k1_t1 = 1#1), ∀ a x, ((![v492, v337] : Fin 2 → IVec S16 32) a x).toNat < S32x512.size a)
theorem k1_idx62_inb : ∀ (k1_t1 : Fin k1_t1_loop.trips) (v337 : IVec S16 32) (v492 : IVec S16 32) (k1_hw62 : k1_chk62 k1_t1 v337 v492), ∀ (k1_h1 : k1_cond1 k1_t1 = 1#1), ∀ a x, ((![v492, v337] : Fin 2 → IVec S16 32) a x).toNat < S32x512.size a := fun k1_t1 v337 v492 k1_hw62 k1_h1 => k1_hw62 k1_h1

def k1_chk63 (k1_t1 : Fin k1_t1_loop.trips) (v337 : IVec S16 32) (v494 : IVec S16 32) : Prop :=
  (∀ (k1_h1 : k1_cond1 k1_t1 = 1#1), ∀ a x, ((![v494, v337] : Fin 2 → IVec S16 32) a x).toNat < S32x512.size a)
theorem k1_idx63_inb : ∀ (k1_t1 : Fin k1_t1_loop.trips) (v337 : IVec S16 32) (v494 : IVec S16 32) (k1_hw63 : k1_chk63 k1_t1 v337 v494), ∀ (k1_h1 : k1_cond1 k1_t1 = 1#1), ∀ a x, ((![v494, v337] : Fin 2 → IVec S16 32) a x).toNat < S32x512.size a := fun k1_t1 v337 v494 k1_hw63 k1_h1 => k1_hw63 k1_h1

def k1_chk64 (k1_t1 : Fin k1_t1_loop.trips) (v337 : IVec S16 32) (v496 : IVec S16 32) : Prop :=
  (∀ (k1_h1 : k1_cond1 k1_t1 = 1#1), ∀ a x, ((![v496, v337] : Fin 2 → IVec S16 32) a x).toNat < S32x512.size a)
theorem k1_idx64_inb : ∀ (k1_t1 : Fin k1_t1_loop.trips) (v337 : IVec S16 32) (v496 : IVec S16 32) (k1_hw64 : k1_chk64 k1_t1 v337 v496), ∀ (k1_h1 : k1_cond1 k1_t1 = 1#1), ∀ a x, ((![v496, v337] : Fin 2 → IVec S16 32) a x).toNat < S32x512.size a := fun k1_t1 v337 v496 k1_hw64 k1_h1 => k1_hw64 k1_h1
def k1_off63 (k1_t2 : Fin k1_t2_loop.trips) : Fin 2 → Nat :=
  let c24_i32_231 : BitVec 32 := 24#32
  let v499 : Index := Scalar.indexCast c24_i32_231
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_230 : BitVec 32 := 16#32
  let v498 : BitVec 32 := Scalar.muli v333 c16_i32_230
  let v500 : Index := Scalar.indexCast v498
  ![24, v500.toNat]
def k1_off64 (k1_t2 : Fin k1_t2_loop.trips) : Fin 2 → Nat :=
  let c25_i32_233 : BitVec 32 := 25#32
  let v503 : Index := Scalar.indexCast c25_i32_233
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_232 : BitVec 32 := 16#32
  let v502 : BitVec 32 := Scalar.muli v333 c16_i32_232
  let v504 : Index := Scalar.indexCast v502
  ![25, v504.toNat]
def k1_off65 (k1_t2 : Fin k1_t2_loop.trips) : Fin 2 → Nat :=
  let c26_i32_235 : BitVec 32 := 26#32
  let v507 : Index := Scalar.indexCast c26_i32_235
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_234 : BitVec 32 := 16#32
  let v506 : BitVec 32 := Scalar.muli v333 c16_i32_234
  let v508 : Index := Scalar.indexCast v506
  ![26, v508.toNat]
def k1_off66 (k1_t2 : Fin k1_t2_loop.trips) : Fin 2 → Nat :=
  let c27_i32_237 : BitVec 32 := 27#32
  let v511 : Index := Scalar.indexCast c27_i32_237
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_236 : BitVec 32 := 16#32
  let v510 : BitVec 32 := Scalar.muli v333 c16_i32_236
  let v512 : Index := Scalar.indexCast v510
  ![27, v512.toNat]
def k1_off67 (k1_t2 : Fin k1_t2_loop.trips) : Fin 2 → Nat :=
  let c28_i32_239 : BitVec 32 := 28#32
  let v515 : Index := Scalar.indexCast c28_i32_239
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_238 : BitVec 32 := 16#32
  let v514 : BitVec 32 := Scalar.muli v333 c16_i32_238
  let v516 : Index := Scalar.indexCast v514
  ![28, v516.toNat]
def k1_off68 (k1_t2 : Fin k1_t2_loop.trips) : Fin 2 → Nat :=
  let c29_i32_241 : BitVec 32 := 29#32
  let v519 : Index := Scalar.indexCast c29_i32_241
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_240 : BitVec 32 := 16#32
  let v518 : BitVec 32 := Scalar.muli v333 c16_i32_240
  let v520 : Index := Scalar.indexCast v518
  ![29, v520.toNat]
def k1_off69 (k1_t2 : Fin k1_t2_loop.trips) : Fin 2 → Nat :=
  let c30_i32_243 : BitVec 32 := 30#32
  let v523 : Index := Scalar.indexCast c30_i32_243
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_242 : BitVec 32 := 16#32
  let v522 : BitVec 32 := Scalar.muli v333 c16_i32_242
  let v524 : Index := Scalar.indexCast v522
  ![30, v524.toNat]
def k1_off70 (k1_t2 : Fin k1_t2_loop.trips) : Fin 2 → Nat :=
  let c31_i32_245 : BitVec 32 := 31#32
  let v527 : Index := Scalar.indexCast c31_i32_245
  let c0_i32_55 : BitVec 32 := 0#32
  let c1_i32_56 : BitVec 32 := 1#32
  let arg15 : BitVec 32 := Scf.iv c0_i32_55 c1_i32_56 k1_t2
  let c2_i32_147 : BitVec 32 := 2#32
  let v332 : BitVec 32 := Scalar.muli arg15 c2_i32_147
  let c1_i32_148 : BitVec 32 := 1#32
  let v333 : BitVec 32 := Scalar.addi v332 c1_i32_148
  let c16_i32_244 : BitVec 32 := 16#32
  let v526 : BitVec 32 := Scalar.muli v333 c16_i32_244
  let v528 : Index := Scalar.indexCast v526
  ![31, v528.toNat]
def k1_cond4 (k1_t1 : Fin k1_t1_loop.trips) : BitVec 1 :=
  let c0_i32_4 : BitVec 32 := 0#32
  let c1_i32 : BitVec 32 := 1#32
  let arg14 : BitVec 32 := Scf.iv c0_i32_4 c1_i32 k1_t1
  let c2_i32_19 : BitVec 32 := 2#32
  let c0_i32_20 : BitVec 32 := 0#32
  let v29 : BitVec 1 := Scalar.cmpi .eq c2_i32_19 c0_i32_20
  let c1_i32_21 : BitVec 32 := 1#32
  let v30 : BitVec 32 := Scalar.select v29 c1_i32_21 c2_i32_19
  let v31 : BitVec 32 := Scalar.remsi arg14 v30
  let c0_i32_23 : BitVec 32 := 0#32
  let v33 : BitVec 1 := Scalar.cmpi .slt v31 c0_i32_23
  let c0_i32_24 : BitVec 32 := 0#32
  let v34 : BitVec 1 := Scalar.cmpi .slt v30 c0_i32_24
  let v35 : BitVec 1 := Scalar.xori v33 v34
  let c0_i32_22 : BitVec 32 := 0#32
  let v32 : BitVec 1 := Scalar.cmpi .ne v31 c0_i32_22
  let v36 : BitVec 1 := Scalar.andi v35 v32
  let v37 : BitVec 32 := Scalar.addi v31 v30
  let v38 : BitVec 32 := Scalar.select v36 v37 v31
  let c1_i32_25 : BitVec 32 := 1#32
  let v39 : BitVec 1 := Scalar.cmpi .eq v38 c1_i32_25
  let v40 : BitVec 32 := Scalar.extui v39
  let c0_i32_26 : BitVec 32 := 0#32
  let v41 : BitVec 1 := Scalar.cmpi .ne v40 c0_i32_26
  v41

def k1_cond5 (k1_t1 : Fin k1_t1_loop.trips) : BitVec 1 :=
  let c0_i32_4 : BitVec 32 := 0#32
  let c1_i32 : BitVec 32 := 1#32
  let arg14 : BitVec 32 := Scf.iv c0_i32_4 c1_i32 k1_t1
  let c2_i32_27 : BitVec 32 := 2#32
  let v42 : BitVec 1 := Scalar.cmpi .sge arg14 c2_i32_27
  let v43 : BitVec 32 := Scalar.extui v42
  let c0_i32_28 : BitVec 32 := 0#32
  let v44 : BitVec 1 := Scalar.cmpi .ne v43 c0_i32_28
  v44

def k1_off71 (i : grid1.Coords) (k1_t1 : Fin k1_t1_loop.trips) : Fin 2 → Nat :=
  let c0_i32_4 : BitVec 32 := 0#32
  let c1_i32 : BitVec 32 := 1#32
  let arg14 : BitVec 32 := Scf.iv c0_i32_4 c1_i32 k1_t1
  let c2_i32_75 : BitVec 32 := 2#32
  let v134 : BitVec 32 := Scalar.subi arg14 c2_i32_75
  let c0_i32_77 : BitVec 32 := 0#32
  let v136 : BitVec 1 := Scalar.cmpi .sgt v134 c0_i32_77
  let v137 : BitVec 32 := Scalar.extui v136
  let c0_i32_78 : BitVec 32 := 0#32
  let v138 : BitVec 1 := Scalar.cmpi .slt v134 c0_i32_78
  let v139 : BitVec 32 := Scalar.extui v138
  let v140 : BitVec 32 := Scalar.subi v137 v139
  let c4_i32_76 : BitVec 32 := 4#32
  let c0_i32_79 : BitVec 32 := 0#32
  let v141 : BitVec 1 := Scalar.cmpi .sgt c4_i32_76 c0_i32_79
  let v142 : BitVec 32 := Scalar.extui v141
  let c0_i32_80 : BitVec 32 := 0#32
  let v143 : BitVec 1 := Scalar.cmpi .slt c4_i32_76 c0_i32_80
  let v144 : BitVec 32 := Scalar.extui v143
  let v145 : BitVec 32 := Scalar.subi v142 v144
  let v146 : BitVec 1 := Scalar.cmpi .ne v140 v145
  let v147 : BitVec 32 := Scalar.remsi v134 c4_i32_76
  let c0_i32_81 : BitVec 32 := 0#32
  let v148 : BitVec 1 := Scalar.cmpi .ne v147 c0_i32_81
  let v149 : BitVec 1 := Scalar.andi v146 v148
  let v135 : BitVec 32 := Scalar.divsi v134 c4_i32_76
  let c1_i32_82 : BitVec 32 := 1#32
  let v150 : BitVec 32 := Scalar.subi v135 c1_i32_82
  let v151 : BitVec 32 := Scalar.select v149 v150 v135
  let c4096_i32_89 : BitVec 32 := 4096#32
  let v162 : BitVec 32 := Scalar.muli v151 c4096_i32_89
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v163 : BitVec 32 := Scalar.addi v162 v2
  let c4_i32_83 : BitVec 32 := 4#32
  let c0_i32_84 : BitVec 32 := 0#32
  let v152 : BitVec 1 := Scalar.cmpi .eq c4_i32_83 c0_i32_84
  let c1_i32_85 : BitVec 32 := 1#32
  let v153 : BitVec 32 := Scalar.select v152 c1_i32_85 c4_i32_83
  let v154 : BitVec 32 := Scalar.remsi v134 v153
  let c0_i32_87 : BitVec 32 := 0#32
  let v156 : BitVec 1 := Scalar.cmpi .slt v154 c0_i32_87
  let c0_i32_88 : BitVec 32 := 0#32
  let v157 : BitVec 1 := Scalar.cmpi .slt v153 c0_i32_88
  let v158 : BitVec 1 := Scalar.xori v156 v157
  let c0_i32_86 : BitVec 32 := 0#32
  let v155 : BitVec 1 := Scalar.cmpi .ne v154 c0_i32_86
  let v159 : BitVec 1 := Scalar.andi v158 v155
  let v160 : BitVec 32 := Scalar.addi v154 v153
  let v161 : BitVec 32 := Scalar.select v159 v160 v154
  let c32_i32_90 : BitVec 32 := 32#32
  let v164 : BitVec 32 := Scalar.muli v161 c32_i32_90
  let v165 : BitVec 32 := Scalar.addi v163 v164
  let c0_i32_91 : BitVec 32 := 0#32
  ![v165.toNat, 0]
def k1_cond6 (k1_t1 : Fin k1_t1_loop.trips) : BitVec 1 :=
  let c0_i32_4 : BitVec 32 := 0#32
  let c1_i32 : BitVec 32 := 1#32
  let arg14 : BitVec 32 := Scf.iv c0_i32_4 c1_i32 k1_t1
  let c1_i32_29 : BitVec 32 := 1#32
  let v45 : BitVec 32 := Scalar.addi arg14 c1_i32_29
  let c32_i32_30 : BitVec 32 := 32#32
  let v46 : BitVec 1 := Scalar.cmpi .slt v45 c32_i32_30
  let v47 : BitVec 32 := Scalar.extui v46
  let c0_i32_31 : BitVec 32 := 0#32
  let v48 : BitVec 1 := Scalar.cmpi .ne v47 c0_i32_31
  v48

def k1_off72 (i : grid1.Coords) (k1_t1 : Fin k1_t1_loop.trips) : Fin 2 → Nat :=
  let c0_i32_4 : BitVec 32 := 0#32
  let c1_i32 : BitVec 32 := 1#32
  let arg14 : BitVec 32 := Scf.iv c0_i32_4 c1_i32 k1_t1
  let c1_i32_75 : BitVec 32 := 1#32
  let v134 : BitVec 32 := Scalar.addi arg14 c1_i32_75
  let c0_i32_77 : BitVec 32 := 0#32
  let v136 : BitVec 1 := Scalar.cmpi .sgt v134 c0_i32_77
  let v137 : BitVec 32 := Scalar.extui v136
  let c0_i32_78 : BitVec 32 := 0#32
  let v138 : BitVec 1 := Scalar.cmpi .slt v134 c0_i32_78
  let v139 : BitVec 32 := Scalar.extui v138
  let v140 : BitVec 32 := Scalar.subi v137 v139
  let c4_i32_76 : BitVec 32 := 4#32
  let c0_i32_79 : BitVec 32 := 0#32
  let v141 : BitVec 1 := Scalar.cmpi .sgt c4_i32_76 c0_i32_79
  let v142 : BitVec 32 := Scalar.extui v141
  let c0_i32_80 : BitVec 32 := 0#32
  let v143 : BitVec 1 := Scalar.cmpi .slt c4_i32_76 c0_i32_80
  let v144 : BitVec 32 := Scalar.extui v143
  let v145 : BitVec 32 := Scalar.subi v142 v144
  let v146 : BitVec 1 := Scalar.cmpi .ne v140 v145
  let v147 : BitVec 32 := Scalar.remsi v134 c4_i32_76
  let c0_i32_81 : BitVec 32 := 0#32
  let v148 : BitVec 1 := Scalar.cmpi .ne v147 c0_i32_81
  let v149 : BitVec 1 := Scalar.andi v146 v148
  let v135 : BitVec 32 := Scalar.divsi v134 c4_i32_76
  let c1_i32_82 : BitVec 32 := 1#32
  let v150 : BitVec 32 := Scalar.subi v135 c1_i32_82
  let v151 : BitVec 32 := Scalar.select v149 v150 v135
  let c4096_i32_89 : BitVec 32 := 4096#32
  let v162 : BitVec 32 := Scalar.muli v151 c4096_i32_89
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v163 : BitVec 32 := Scalar.addi v162 v2
  let c4_i32_83 : BitVec 32 := 4#32
  let c0_i32_84 : BitVec 32 := 0#32
  let v152 : BitVec 1 := Scalar.cmpi .eq c4_i32_83 c0_i32_84
  let c1_i32_85 : BitVec 32 := 1#32
  let v153 : BitVec 32 := Scalar.select v152 c1_i32_85 c4_i32_83
  let v154 : BitVec 32 := Scalar.remsi v134 v153
  let c0_i32_87 : BitVec 32 := 0#32
  let v156 : BitVec 1 := Scalar.cmpi .slt v154 c0_i32_87
  let c0_i32_88 : BitVec 32 := 0#32
  let v157 : BitVec 1 := Scalar.cmpi .slt v153 c0_i32_88
  let v158 : BitVec 1 := Scalar.xori v156 v157
  let c0_i32_86 : BitVec 32 := 0#32
  let v155 : BitVec 1 := Scalar.cmpi .ne v154 c0_i32_86
  let v159 : BitVec 1 := Scalar.andi v158 v155
  let v160 : BitVec 32 := Scalar.addi v154 v153
  let v161 : BitVec 32 := Scalar.select v159 v160 v154
  let c32_i32_90 : BitVec 32 := 32#32
  let v164 : BitVec 32 := Scalar.muli v161 c32_i32_90
  let v165 : BitVec 32 := Scalar.addi v163 v164
  let c0_i32_91 : BitVec 32 := 0#32
  ![v165.toNat, 0]
def k1_off73 (i : grid1.Coords) (k1_t1 : Fin k1_t1_loop.trips) : Fin 2 → Nat :=
  let c0_i32_4 : BitVec 32 := 0#32
  let c1_i32 : BitVec 32 := 1#32
  let arg14 : BitVec 32 := Scf.iv c0_i32_4 c1_i32 k1_t1
  let c0_i32_32 : BitVec 32 := 0#32
  let v50 : BitVec 1 := Scalar.cmpi .sgt arg14 c0_i32_32
  let v51 : BitVec 32 := Scalar.extui v50
  let c0_i32_33 : BitVec 32 := 0#32
  let v52 : BitVec 1 := Scalar.cmpi .slt arg14 c0_i32_33
  let v53 : BitVec 32 := Scalar.extui v52
  let v54 : BitVec 32 := Scalar.subi v51 v53
  let c4_i32 : BitVec 32 := 4#32
  let c0_i32_34 : BitVec 32 := 0#32
  let v55 : BitVec 1 := Scalar.cmpi .sgt c4_i32 c0_i32_34
  let v56 : BitVec 32 := Scalar.extui v55
  let c0_i32_35 : BitVec 32 := 0#32
  let v57 : BitVec 1 := Scalar.cmpi .slt c4_i32 c0_i32_35
  let v58 : BitVec 32 := Scalar.extui v57
  let v59 : BitVec 32 := Scalar.subi v56 v58
  let v60 : BitVec 1 := Scalar.cmpi .ne v54 v59
  let v61 : BitVec 32 := Scalar.remsi arg14 c4_i32
  let c0_i32_36 : BitVec 32 := 0#32
  let v62 : BitVec 1 := Scalar.cmpi .ne v61 c0_i32_36
  let v63 : BitVec 1 := Scalar.andi v60 v62
  let v49 : BitVec 32 := Scalar.divsi arg14 c4_i32
  let c1_i32_37 : BitVec 32 := 1#32
  let v64 : BitVec 32 := Scalar.subi v49 c1_i32_37
  let v65 : BitVec 32 := Scalar.select v63 v64 v49
  let c4096_i32 : BitVec 32 := 4096#32
  let v76 : BitVec 32 := Scalar.muli v65 c4096_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v77 : BitVec 32 := Scalar.addi v76 v2
  let c4_i32_38 : BitVec 32 := 4#32
  let c0_i32_39 : BitVec 32 := 0#32
  let v66 : BitVec 1 := Scalar.cmpi .eq c4_i32_38 c0_i32_39
  let c1_i32_40 : BitVec 32 := 1#32
  let v67 : BitVec 32 := Scalar.select v66 c1_i32_40 c4_i32_38
  let v68 : BitVec 32 := Scalar.remsi arg14 v67
  let c0_i32_42 : BitVec 32 := 0#32
  let v70 : BitVec 1 := Scalar.cmpi .slt v68 c0_i32_42
  let c0_i32_43 : BitVec 32 := 0#32
  let v71 : BitVec 1 := Scalar.cmpi .slt v67 c0_i32_43
  let v72 : BitVec 1 := Scalar.xori v70 v71
  let c0_i32_41 : BitVec 32 := 0#32
  let v69 : BitVec 1 := Scalar.cmpi .ne v68 c0_i32_41
  let v73 : BitVec 1 := Scalar.andi v72 v69
  let v74 : BitVec 32 := Scalar.addi v68 v67
  let v75 : BitVec 32 := Scalar.select v73 v74 v68
  let c32_i32_44 : BitVec 32 := 32#32
  let v78 : BitVec 32 := Scalar.muli v75 c32_i32_44
  let v79 : BitVec 32 := Scalar.addi v77 v78
  let c0_i32_45 : BitVec 32 := 0#32
  ![v79.toNat, 0]
@[reducible] def k1_t3_loop : Scf.Loop 32 :=
  let c0_i32_55 : BitVec 32 := 0#32
  let c16_i32 : BitVec 32 := 16#32
  let v100 : BitVec 32 := Scalar.addi c0_i32_55 c16_i32
  let c1_i32_56 : BitVec 32 := 1#32
  ⟨c0_i32_55, v100, c1_i32_56⟩
def k1_off74 (k1_t1 : Fin k1_t1_loop.trips) (k1_t3 : Fin k1_t3_loop.trips) : Fin 1 → Nat :=
  let c0_i32_4 : BitVec 32 := 0#32
  let c1_i32 : BitVec 32 := 1#32
  let arg14 : BitVec 32 := Scf.iv c0_i32_4 c1_i32 k1_t1
  let c0_i32_48 : BitVec 32 := 0#32
  let v83 : BitVec 1 := Scalar.cmpi .sgt arg14 c0_i32_48
  let v84 : BitVec 32 := Scalar.extui v83
  let c0_i32_49 : BitVec 32 := 0#32
  let v85 : BitVec 1 := Scalar.cmpi .slt arg14 c0_i32_49
  let v86 : BitVec 32 := Scalar.extui v85
  let v87 : BitVec 32 := Scalar.subi v84 v86
  let c4_i32_47 : BitVec 32 := 4#32
  let c0_i32_50 : BitVec 32 := 0#32
  let v88 : BitVec 1 := Scalar.cmpi .sgt c4_i32_47 c0_i32_50
  let v89 : BitVec 32 := Scalar.extui v88
  let c0_i32_51 : BitVec 32 := 0#32
  let v90 : BitVec 1 := Scalar.cmpi .slt c4_i32_47 c0_i32_51
  let v91 : BitVec 32 := Scalar.extui v90
  let v92 : BitVec 32 := Scalar.subi v89 v91
  let v93 : BitVec 1 := Scalar.cmpi .ne v87 v92
  let v94 : BitVec 32 := Scalar.remsi arg14 c4_i32_47
  let c0_i32_52 : BitVec 32 := 0#32
  let v95 : BitVec 1 := Scalar.cmpi .ne v94 c0_i32_52
  let v96 : BitVec 1 := Scalar.andi v93 v95
  let v82 : BitVec 32 := Scalar.divsi arg14 c4_i32_47
  let c1_i32_53 : BitVec 32 := 1#32
  let v97 : BitVec 32 := Scalar.subi v82 c1_i32_53
  let v98 : BitVec 32 := Scalar.select v96 v97 v82
  let c512_i32 : BitVec 32 := 512#32
  let v99 : BitVec 32 := Scalar.muli v98 c512_i32
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_77 : BitVec 32 := 16#32
  let v136 : BitVec 32 := Scalar.muli v135 c16_i32_77
  let v137 : BitVec 32 := Scalar.addi v99 v136
  let v138 : Index := Scalar.indexCast v137
  ![v138.toNat]

def k1_chk65 (k1_t1 : Fin k1_t1_loop.trips) (v139 : IVec S16 32) (v140 : IVec S16 32) : Prop :=
  (∀ (k1_h4 : k1_cond4 k1_t1 = 1#1), ∀ a x, ((![v140, v139] : Fin 2 → IVec S16 32) a x).toNat < S32x512.size a)
theorem k1_idx65_inb : ∀ (k1_t1 : Fin k1_t1_loop.trips) (v139 : IVec S16 32) (v140 : IVec S16 32) (k1_hw65 : k1_chk65 k1_t1 v139 v140), ∀ (k1_h4 : k1_cond4 k1_t1 = 1#1), ∀ a x, ((![v140, v139] : Fin 2 → IVec S16 32) a x).toNat < S32x512.size a := fun k1_t1 v139 v140 k1_hw65 k1_h4 => k1_hw65 k1_h4

def k1_chk66 (k1_t1 : Fin k1_t1_loop.trips) (v139 : IVec S16 32) (v142 : IVec S16 32) : Prop :=
  (∀ (k1_h4 : k1_cond4 k1_t1 = 1#1), ∀ a x, ((![v142, v139] : Fin 2 → IVec S16 32) a x).toNat < S32x512.size a)
theorem k1_idx66_inb : ∀ (k1_t1 : Fin k1_t1_loop.trips) (v139 : IVec S16 32) (v142 : IVec S16 32) (k1_hw66 : k1_chk66 k1_t1 v139 v142), ∀ (k1_h4 : k1_cond4 k1_t1 = 1#1), ∀ a x, ((![v142, v139] : Fin 2 → IVec S16 32) a x).toNat < S32x512.size a := fun k1_t1 v139 v142 k1_hw66 k1_h4 => k1_hw66 k1_h4

def k1_chk67 (k1_t1 : Fin k1_t1_loop.trips) (v139 : IVec S16 32) (v144 : IVec S16 32) : Prop :=
  (∀ (k1_h4 : k1_cond4 k1_t1 = 1#1), ∀ a x, ((![v144, v139] : Fin 2 → IVec S16 32) a x).toNat < S32x512.size a)
theorem k1_idx67_inb : ∀ (k1_t1 : Fin k1_t1_loop.trips) (v139 : IVec S16 32) (v144 : IVec S16 32) (k1_hw67 : k1_chk67 k1_t1 v139 v144), ∀ (k1_h4 : k1_cond4 k1_t1 = 1#1), ∀ a x, ((![v144, v139] : Fin 2 → IVec S16 32) a x).toNat < S32x512.size a := fun k1_t1 v139 v144 k1_hw67 k1_h4 => k1_hw67 k1_h4

def k1_chk68 (k1_t1 : Fin k1_t1_loop.trips) (v139 : IVec S16 32) (v146 : IVec S16 32) : Prop :=
  (∀ (k1_h4 : k1_cond4 k1_t1 = 1#1), ∀ a x, ((![v146, v139] : Fin 2 → IVec S16 32) a x).toNat < S32x512.size a)
theorem k1_idx68_inb : ∀ (k1_t1 : Fin k1_t1_loop.trips) (v139 : IVec S16 32) (v146 : IVec S16 32) (k1_hw68 : k1_chk68 k1_t1 v139 v146), ∀ (k1_h4 : k1_cond4 k1_t1 = 1#1), ∀ a x, ((![v146, v139] : Fin 2 → IVec S16 32) a x).toNat < S32x512.size a := fun k1_t1 v139 v146 k1_hw68 k1_h4 => k1_hw68 k1_h4

def k1_chk69 (k1_t1 : Fin k1_t1_loop.trips) (v139 : IVec S16 32) (v148 : IVec S16 32) : Prop :=
  (∀ (k1_h4 : k1_cond4 k1_t1 = 1#1), ∀ a x, ((![v148, v139] : Fin 2 → IVec S16 32) a x).toNat < S32x512.size a)
theorem k1_idx69_inb : ∀ (k1_t1 : Fin k1_t1_loop.trips) (v139 : IVec S16 32) (v148 : IVec S16 32) (k1_hw69 : k1_chk69 k1_t1 v139 v148), ∀ (k1_h4 : k1_cond4 k1_t1 = 1#1), ∀ a x, ((![v148, v139] : Fin 2 → IVec S16 32) a x).toNat < S32x512.size a := fun k1_t1 v139 v148 k1_hw69 k1_h4 => k1_hw69 k1_h4

def k1_chk70 (k1_t1 : Fin k1_t1_loop.trips) (v139 : IVec S16 32) (v150 : IVec S16 32) : Prop :=
  (∀ (k1_h4 : k1_cond4 k1_t1 = 1#1), ∀ a x, ((![v150, v139] : Fin 2 → IVec S16 32) a x).toNat < S32x512.size a)
theorem k1_idx70_inb : ∀ (k1_t1 : Fin k1_t1_loop.trips) (v139 : IVec S16 32) (v150 : IVec S16 32) (k1_hw70 : k1_chk70 k1_t1 v139 v150), ∀ (k1_h4 : k1_cond4 k1_t1 = 1#1), ∀ a x, ((![v150, v139] : Fin 2 → IVec S16 32) a x).toNat < S32x512.size a := fun k1_t1 v139 v150 k1_hw70 k1_h4 => k1_hw70 k1_h4

def k1_chk71 (k1_t1 : Fin k1_t1_loop.trips) (v139 : IVec S16 32) (v152 : IVec S16 32) : Prop :=
  (∀ (k1_h4 : k1_cond4 k1_t1 = 1#1), ∀ a x, ((![v152, v139] : Fin 2 → IVec S16 32) a x).toNat < S32x512.size a)
theorem k1_idx71_inb : ∀ (k1_t1 : Fin k1_t1_loop.trips) (v139 : IVec S16 32) (v152 : IVec S16 32) (k1_hw71 : k1_chk71 k1_t1 v139 v152), ∀ (k1_h4 : k1_cond4 k1_t1 = 1#1), ∀ a x, ((![v152, v139] : Fin 2 → IVec S16 32) a x).toNat < S32x512.size a := fun k1_t1 v139 v152 k1_hw71 k1_h4 => k1_hw71 k1_h4

def k1_chk72 (k1_t1 : Fin k1_t1_loop.trips) (v139 : IVec S16 32) (v154 : IVec S16 32) : Prop :=
  (∀ (k1_h4 : k1_cond4 k1_t1 = 1#1), ∀ a x, ((![v154, v139] : Fin 2 → IVec S16 32) a x).toNat < S32x512.size a)
theorem k1_idx72_inb : ∀ (k1_t1 : Fin k1_t1_loop.trips) (v139 : IVec S16 32) (v154 : IVec S16 32) (k1_hw72 : k1_chk72 k1_t1 v139 v154), ∀ (k1_h4 : k1_cond4 k1_t1 = 1#1), ∀ a x, ((![v154, v139] : Fin 2 → IVec S16 32) a x).toNat < S32x512.size a := fun k1_t1 v139 v154 k1_hw72 k1_h4 => k1_hw72 k1_h4
def k1_off75 (k1_t3 : Fin k1_t3_loop.trips) : Fin 2 → Nat :=
  let c0_i32_83 : BitVec 32 := 0#32
  let v157 : Index := Scalar.indexCast c0_i32_83
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_82 : BitVec 32 := 16#32
  let v156 : BitVec 32 := Scalar.muli v135 c16_i32_82
  let v158 : Index := Scalar.indexCast v156
  ![0, v158.toNat]
def k1_off76 (k1_t3 : Fin k1_t3_loop.trips) : Fin 2 → Nat :=
  let c1_i32_85 : BitVec 32 := 1#32
  let v161 : Index := Scalar.indexCast c1_i32_85
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_84 : BitVec 32 := 16#32
  let v160 : BitVec 32 := Scalar.muli v135 c16_i32_84
  let v162 : Index := Scalar.indexCast v160
  ![1, v162.toNat]
def k1_off77 (k1_t3 : Fin k1_t3_loop.trips) : Fin 2 → Nat :=
  let c2_i32_87 : BitVec 32 := 2#32
  let v165 : Index := Scalar.indexCast c2_i32_87
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_86 : BitVec 32 := 16#32
  let v164 : BitVec 32 := Scalar.muli v135 c16_i32_86
  let v166 : Index := Scalar.indexCast v164
  ![2, v166.toNat]
def k1_off78 (k1_t3 : Fin k1_t3_loop.trips) : Fin 2 → Nat :=
  let c3_i32_89 : BitVec 32 := 3#32
  let v169 : Index := Scalar.indexCast c3_i32_89
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_88 : BitVec 32 := 16#32
  let v168 : BitVec 32 := Scalar.muli v135 c16_i32_88
  let v170 : Index := Scalar.indexCast v168
  ![3, v170.toNat]
def k1_off79 (k1_t3 : Fin k1_t3_loop.trips) : Fin 2 → Nat :=
  let c4_i32_91 : BitVec 32 := 4#32
  let v173 : Index := Scalar.indexCast c4_i32_91
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_90 : BitVec 32 := 16#32
  let v172 : BitVec 32 := Scalar.muli v135 c16_i32_90
  let v174 : Index := Scalar.indexCast v172
  ![4, v174.toNat]
def k1_off80 (k1_t3 : Fin k1_t3_loop.trips) : Fin 2 → Nat :=
  let c5_i32_93 : BitVec 32 := 5#32
  let v177 : Index := Scalar.indexCast c5_i32_93
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_92 : BitVec 32 := 16#32
  let v176 : BitVec 32 := Scalar.muli v135 c16_i32_92
  let v178 : Index := Scalar.indexCast v176
  ![5, v178.toNat]
def k1_off81 (k1_t3 : Fin k1_t3_loop.trips) : Fin 2 → Nat :=
  let c6_i32_95 : BitVec 32 := 6#32
  let v181 : Index := Scalar.indexCast c6_i32_95
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_94 : BitVec 32 := 16#32
  let v180 : BitVec 32 := Scalar.muli v135 c16_i32_94
  let v182 : Index := Scalar.indexCast v180
  ![6, v182.toNat]
def k1_off82 (k1_t3 : Fin k1_t3_loop.trips) : Fin 2 → Nat :=
  let c7_i32_97 : BitVec 32 := 7#32
  let v185 : Index := Scalar.indexCast c7_i32_97
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_96 : BitVec 32 := 16#32
  let v184 : BitVec 32 := Scalar.muli v135 c16_i32_96
  let v186 : Index := Scalar.indexCast v184
  ![7, v186.toNat]

def k1_chk73 (k1_t1 : Fin k1_t1_loop.trips) (v139 : IVec S16 32) (v188 : IVec S16 32) : Prop :=
  (∀ (k1_h4 : k1_cond4 k1_t1 = 1#1), ∀ a x, ((![v188, v139] : Fin 2 → IVec S16 32) a x).toNat < S32x512.size a)
theorem k1_idx73_inb : ∀ (k1_t1 : Fin k1_t1_loop.trips) (v139 : IVec S16 32) (v188 : IVec S16 32) (k1_hw73 : k1_chk73 k1_t1 v139 v188), ∀ (k1_h4 : k1_cond4 k1_t1 = 1#1), ∀ a x, ((![v188, v139] : Fin 2 → IVec S16 32) a x).toNat < S32x512.size a := fun k1_t1 v139 v188 k1_hw73 k1_h4 => k1_hw73 k1_h4

def k1_chk74 (k1_t1 : Fin k1_t1_loop.trips) (v139 : IVec S16 32) (v190 : IVec S16 32) : Prop :=
  (∀ (k1_h4 : k1_cond4 k1_t1 = 1#1), ∀ a x, ((![v190, v139] : Fin 2 → IVec S16 32) a x).toNat < S32x512.size a)
theorem k1_idx74_inb : ∀ (k1_t1 : Fin k1_t1_loop.trips) (v139 : IVec S16 32) (v190 : IVec S16 32) (k1_hw74 : k1_chk74 k1_t1 v139 v190), ∀ (k1_h4 : k1_cond4 k1_t1 = 1#1), ∀ a x, ((![v190, v139] : Fin 2 → IVec S16 32) a x).toNat < S32x512.size a := fun k1_t1 v139 v190 k1_hw74 k1_h4 => k1_hw74 k1_h4

def k1_chk75 (k1_t1 : Fin k1_t1_loop.trips) (v139 : IVec S16 32) (v192 : IVec S16 32) : Prop :=
  (∀ (k1_h4 : k1_cond4 k1_t1 = 1#1), ∀ a x, ((![v192, v139] : Fin 2 → IVec S16 32) a x).toNat < S32x512.size a)
theorem k1_idx75_inb : ∀ (k1_t1 : Fin k1_t1_loop.trips) (v139 : IVec S16 32) (v192 : IVec S16 32) (k1_hw75 : k1_chk75 k1_t1 v139 v192), ∀ (k1_h4 : k1_cond4 k1_t1 = 1#1), ∀ a x, ((![v192, v139] : Fin 2 → IVec S16 32) a x).toNat < S32x512.size a := fun k1_t1 v139 v192 k1_hw75 k1_h4 => k1_hw75 k1_h4

def k1_chk76 (k1_t1 : Fin k1_t1_loop.trips) (v139 : IVec S16 32) (v194 : IVec S16 32) : Prop :=
  (∀ (k1_h4 : k1_cond4 k1_t1 = 1#1), ∀ a x, ((![v194, v139] : Fin 2 → IVec S16 32) a x).toNat < S32x512.size a)
theorem k1_idx76_inb : ∀ (k1_t1 : Fin k1_t1_loop.trips) (v139 : IVec S16 32) (v194 : IVec S16 32) (k1_hw76 : k1_chk76 k1_t1 v139 v194), ∀ (k1_h4 : k1_cond4 k1_t1 = 1#1), ∀ a x, ((![v194, v139] : Fin 2 → IVec S16 32) a x).toNat < S32x512.size a := fun k1_t1 v139 v194 k1_hw76 k1_h4 => k1_hw76 k1_h4

def k1_chk77 (k1_t1 : Fin k1_t1_loop.trips) (v139 : IVec S16 32) (v196 : IVec S16 32) : Prop :=
  (∀ (k1_h4 : k1_cond4 k1_t1 = 1#1), ∀ a x, ((![v196, v139] : Fin 2 → IVec S16 32) a x).toNat < S32x512.size a)
theorem k1_idx77_inb : ∀ (k1_t1 : Fin k1_t1_loop.trips) (v139 : IVec S16 32) (v196 : IVec S16 32) (k1_hw77 : k1_chk77 k1_t1 v139 v196), ∀ (k1_h4 : k1_cond4 k1_t1 = 1#1), ∀ a x, ((![v196, v139] : Fin 2 → IVec S16 32) a x).toNat < S32x512.size a := fun k1_t1 v139 v196 k1_hw77 k1_h4 => k1_hw77 k1_h4

def k1_chk78 (k1_t1 : Fin k1_t1_loop.trips) (v139 : IVec S16 32) (v198 : IVec S16 32) : Prop :=
  (∀ (k1_h4 : k1_cond4 k1_t1 = 1#1), ∀ a x, ((![v198, v139] : Fin 2 → IVec S16 32) a x).toNat < S32x512.size a)
theorem k1_idx78_inb : ∀ (k1_t1 : Fin k1_t1_loop.trips) (v139 : IVec S16 32) (v198 : IVec S16 32) (k1_hw78 : k1_chk78 k1_t1 v139 v198), ∀ (k1_h4 : k1_cond4 k1_t1 = 1#1), ∀ a x, ((![v198, v139] : Fin 2 → IVec S16 32) a x).toNat < S32x512.size a := fun k1_t1 v139 v198 k1_hw78 k1_h4 => k1_hw78 k1_h4

def k1_chk79 (k1_t1 : Fin k1_t1_loop.trips) (v139 : IVec S16 32) (v200 : IVec S16 32) : Prop :=
  (∀ (k1_h4 : k1_cond4 k1_t1 = 1#1), ∀ a x, ((![v200, v139] : Fin 2 → IVec S16 32) a x).toNat < S32x512.size a)
theorem k1_idx79_inb : ∀ (k1_t1 : Fin k1_t1_loop.trips) (v139 : IVec S16 32) (v200 : IVec S16 32) (k1_hw79 : k1_chk79 k1_t1 v139 v200), ∀ (k1_h4 : k1_cond4 k1_t1 = 1#1), ∀ a x, ((![v200, v139] : Fin 2 → IVec S16 32) a x).toNat < S32x512.size a := fun k1_t1 v139 v200 k1_hw79 k1_h4 => k1_hw79 k1_h4

def k1_chk80 (k1_t1 : Fin k1_t1_loop.trips) (v139 : IVec S16 32) (v202 : IVec S16 32) : Prop :=
  (∀ (k1_h4 : k1_cond4 k1_t1 = 1#1), ∀ a x, ((![v202, v139] : Fin 2 → IVec S16 32) a x).toNat < S32x512.size a)
theorem k1_idx80_inb : ∀ (k1_t1 : Fin k1_t1_loop.trips) (v139 : IVec S16 32) (v202 : IVec S16 32) (k1_hw80 : k1_chk80 k1_t1 v139 v202), ∀ (k1_h4 : k1_cond4 k1_t1 = 1#1), ∀ a x, ((![v202, v139] : Fin 2 → IVec S16 32) a x).toNat < S32x512.size a := fun k1_t1 v139 v202 k1_hw80 k1_h4 => k1_hw80 k1_h4
def k1_off83 (k1_t3 : Fin k1_t3_loop.trips) : Fin 2 → Nat :=
  let c8_i32_99 : BitVec 32 := 8#32
  let v205 : Index := Scalar.indexCast c8_i32_99
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_98 : BitVec 32 := 16#32
  let v204 : BitVec 32 := Scalar.muli v135 c16_i32_98
  let v206 : Index := Scalar.indexCast v204
  ![8, v206.toNat]
def k1_off84 (k1_t3 : Fin k1_t3_loop.trips) : Fin 2 → Nat :=
  let c9_i32_101 : BitVec 32 := 9#32
  let v209 : Index := Scalar.indexCast c9_i32_101
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_100 : BitVec 32 := 16#32
  let v208 : BitVec 32 := Scalar.muli v135 c16_i32_100
  let v210 : Index := Scalar.indexCast v208
  ![9, v210.toNat]
def k1_off85 (k1_t3 : Fin k1_t3_loop.trips) : Fin 2 → Nat :=
  let c10_i32_103 : BitVec 32 := 10#32
  let v213 : Index := Scalar.indexCast c10_i32_103
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_102 : BitVec 32 := 16#32
  let v212 : BitVec 32 := Scalar.muli v135 c16_i32_102
  let v214 : Index := Scalar.indexCast v212
  ![10, v214.toNat]
def k1_off86 (k1_t3 : Fin k1_t3_loop.trips) : Fin 2 → Nat :=
  let c11_i32_105 : BitVec 32 := 11#32
  let v217 : Index := Scalar.indexCast c11_i32_105
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_104 : BitVec 32 := 16#32
  let v216 : BitVec 32 := Scalar.muli v135 c16_i32_104
  let v218 : Index := Scalar.indexCast v216
  ![11, v218.toNat]
def k1_off87 (k1_t3 : Fin k1_t3_loop.trips) : Fin 2 → Nat :=
  let c12_i32_107 : BitVec 32 := 12#32
  let v221 : Index := Scalar.indexCast c12_i32_107
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_106 : BitVec 32 := 16#32
  let v220 : BitVec 32 := Scalar.muli v135 c16_i32_106
  let v222 : Index := Scalar.indexCast v220
  ![12, v222.toNat]
def k1_off88 (k1_t3 : Fin k1_t3_loop.trips) : Fin 2 → Nat :=
  let c13_i32_109 : BitVec 32 := 13#32
  let v225 : Index := Scalar.indexCast c13_i32_109
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_108 : BitVec 32 := 16#32
  let v224 : BitVec 32 := Scalar.muli v135 c16_i32_108
  let v226 : Index := Scalar.indexCast v224
  ![13, v226.toNat]
def k1_off89 (k1_t3 : Fin k1_t3_loop.trips) : Fin 2 → Nat :=
  let c14_i32_111 : BitVec 32 := 14#32
  let v229 : Index := Scalar.indexCast c14_i32_111
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_110 : BitVec 32 := 16#32
  let v228 : BitVec 32 := Scalar.muli v135 c16_i32_110
  let v230 : Index := Scalar.indexCast v228
  ![14, v230.toNat]
def k1_off90 (k1_t3 : Fin k1_t3_loop.trips) : Fin 2 → Nat :=
  let c15_i32_113 : BitVec 32 := 15#32
  let v233 : Index := Scalar.indexCast c15_i32_113
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_112 : BitVec 32 := 16#32
  let v232 : BitVec 32 := Scalar.muli v135 c16_i32_112
  let v234 : Index := Scalar.indexCast v232
  ![15, v234.toNat]

def k1_chk81 (k1_t1 : Fin k1_t1_loop.trips) (v139 : IVec S16 32) (v236 : IVec S16 32) : Prop :=
  (∀ (k1_h4 : k1_cond4 k1_t1 = 1#1), ∀ a x, ((![v236, v139] : Fin 2 → IVec S16 32) a x).toNat < S32x512.size a)
theorem k1_idx81_inb : ∀ (k1_t1 : Fin k1_t1_loop.trips) (v139 : IVec S16 32) (v236 : IVec S16 32) (k1_hw81 : k1_chk81 k1_t1 v139 v236), ∀ (k1_h4 : k1_cond4 k1_t1 = 1#1), ∀ a x, ((![v236, v139] : Fin 2 → IVec S16 32) a x).toNat < S32x512.size a := fun k1_t1 v139 v236 k1_hw81 k1_h4 => k1_hw81 k1_h4

def k1_chk82 (k1_t1 : Fin k1_t1_loop.trips) (v139 : IVec S16 32) (v238 : IVec S16 32) : Prop :=
  (∀ (k1_h4 : k1_cond4 k1_t1 = 1#1), ∀ a x, ((![v238, v139] : Fin 2 → IVec S16 32) a x).toNat < S32x512.size a)
theorem k1_idx82_inb : ∀ (k1_t1 : Fin k1_t1_loop.trips) (v139 : IVec S16 32) (v238 : IVec S16 32) (k1_hw82 : k1_chk82 k1_t1 v139 v238), ∀ (k1_h4 : k1_cond4 k1_t1 = 1#1), ∀ a x, ((![v238, v139] : Fin 2 → IVec S16 32) a x).toNat < S32x512.size a := fun k1_t1 v139 v238 k1_hw82 k1_h4 => k1_hw82 k1_h4

def k1_chk83 (k1_t1 : Fin k1_t1_loop.trips) (v139 : IVec S16 32) (v240 : IVec S16 32) : Prop :=
  (∀ (k1_h4 : k1_cond4 k1_t1 = 1#1), ∀ a x, ((![v240, v139] : Fin 2 → IVec S16 32) a x).toNat < S32x512.size a)
theorem k1_idx83_inb : ∀ (k1_t1 : Fin k1_t1_loop.trips) (v139 : IVec S16 32) (v240 : IVec S16 32) (k1_hw83 : k1_chk83 k1_t1 v139 v240), ∀ (k1_h4 : k1_cond4 k1_t1 = 1#1), ∀ a x, ((![v240, v139] : Fin 2 → IVec S16 32) a x).toNat < S32x512.size a := fun k1_t1 v139 v240 k1_hw83 k1_h4 => k1_hw83 k1_h4

def k1_chk84 (k1_t1 : Fin k1_t1_loop.trips) (v139 : IVec S16 32) (v242 : IVec S16 32) : Prop :=
  (∀ (k1_h4 : k1_cond4 k1_t1 = 1#1), ∀ a x, ((![v242, v139] : Fin 2 → IVec S16 32) a x).toNat < S32x512.size a)
theorem k1_idx84_inb : ∀ (k1_t1 : Fin k1_t1_loop.trips) (v139 : IVec S16 32) (v242 : IVec S16 32) (k1_hw84 : k1_chk84 k1_t1 v139 v242), ∀ (k1_h4 : k1_cond4 k1_t1 = 1#1), ∀ a x, ((![v242, v139] : Fin 2 → IVec S16 32) a x).toNat < S32x512.size a := fun k1_t1 v139 v242 k1_hw84 k1_h4 => k1_hw84 k1_h4

def k1_chk85 (k1_t1 : Fin k1_t1_loop.trips) (v139 : IVec S16 32) (v244 : IVec S16 32) : Prop :=
  (∀ (k1_h4 : k1_cond4 k1_t1 = 1#1), ∀ a x, ((![v244, v139] : Fin 2 → IVec S16 32) a x).toNat < S32x512.size a)
theorem k1_idx85_inb : ∀ (k1_t1 : Fin k1_t1_loop.trips) (v139 : IVec S16 32) (v244 : IVec S16 32) (k1_hw85 : k1_chk85 k1_t1 v139 v244), ∀ (k1_h4 : k1_cond4 k1_t1 = 1#1), ∀ a x, ((![v244, v139] : Fin 2 → IVec S16 32) a x).toNat < S32x512.size a := fun k1_t1 v139 v244 k1_hw85 k1_h4 => k1_hw85 k1_h4

def k1_chk86 (k1_t1 : Fin k1_t1_loop.trips) (v139 : IVec S16 32) (v246 : IVec S16 32) : Prop :=
  (∀ (k1_h4 : k1_cond4 k1_t1 = 1#1), ∀ a x, ((![v246, v139] : Fin 2 → IVec S16 32) a x).toNat < S32x512.size a)
theorem k1_idx86_inb : ∀ (k1_t1 : Fin k1_t1_loop.trips) (v139 : IVec S16 32) (v246 : IVec S16 32) (k1_hw86 : k1_chk86 k1_t1 v139 v246), ∀ (k1_h4 : k1_cond4 k1_t1 = 1#1), ∀ a x, ((![v246, v139] : Fin 2 → IVec S16 32) a x).toNat < S32x512.size a := fun k1_t1 v139 v246 k1_hw86 k1_h4 => k1_hw86 k1_h4

def k1_chk87 (k1_t1 : Fin k1_t1_loop.trips) (v139 : IVec S16 32) (v248 : IVec S16 32) : Prop :=
  (∀ (k1_h4 : k1_cond4 k1_t1 = 1#1), ∀ a x, ((![v248, v139] : Fin 2 → IVec S16 32) a x).toNat < S32x512.size a)
theorem k1_idx87_inb : ∀ (k1_t1 : Fin k1_t1_loop.trips) (v139 : IVec S16 32) (v248 : IVec S16 32) (k1_hw87 : k1_chk87 k1_t1 v139 v248), ∀ (k1_h4 : k1_cond4 k1_t1 = 1#1), ∀ a x, ((![v248, v139] : Fin 2 → IVec S16 32) a x).toNat < S32x512.size a := fun k1_t1 v139 v248 k1_hw87 k1_h4 => k1_hw87 k1_h4

def k1_chk88 (k1_t1 : Fin k1_t1_loop.trips) (v139 : IVec S16 32) (v250 : IVec S16 32) : Prop :=
  (∀ (k1_h4 : k1_cond4 k1_t1 = 1#1), ∀ a x, ((![v250, v139] : Fin 2 → IVec S16 32) a x).toNat < S32x512.size a)
theorem k1_idx88_inb : ∀ (k1_t1 : Fin k1_t1_loop.trips) (v139 : IVec S16 32) (v250 : IVec S16 32) (k1_hw88 : k1_chk88 k1_t1 v139 v250), ∀ (k1_h4 : k1_cond4 k1_t1 = 1#1), ∀ a x, ((![v250, v139] : Fin 2 → IVec S16 32) a x).toNat < S32x512.size a := fun k1_t1 v139 v250 k1_hw88 k1_h4 => k1_hw88 k1_h4
def k1_off91 (k1_t3 : Fin k1_t3_loop.trips) : Fin 2 → Nat :=
  let c16_i32_116 : BitVec 32 := 16#32
  let v253 : Index := Scalar.indexCast c16_i32_116
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_115 : BitVec 32 := 16#32
  let v252 : BitVec 32 := Scalar.muli v135 c16_i32_115
  let v254 : Index := Scalar.indexCast v252
  ![16, v254.toNat]
def k1_off92 (k1_t3 : Fin k1_t3_loop.trips) : Fin 2 → Nat :=
  let c17_i32_118 : BitVec 32 := 17#32
  let v257 : Index := Scalar.indexCast c17_i32_118
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_117 : BitVec 32 := 16#32
  let v256 : BitVec 32 := Scalar.muli v135 c16_i32_117
  let v258 : Index := Scalar.indexCast v256
  ![17, v258.toNat]
def k1_off93 (k1_t3 : Fin k1_t3_loop.trips) : Fin 2 → Nat :=
  let c18_i32_120 : BitVec 32 := 18#32
  let v261 : Index := Scalar.indexCast c18_i32_120
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_119 : BitVec 32 := 16#32
  let v260 : BitVec 32 := Scalar.muli v135 c16_i32_119
  let v262 : Index := Scalar.indexCast v260
  ![18, v262.toNat]
def k1_off94 (k1_t3 : Fin k1_t3_loop.trips) : Fin 2 → Nat :=
  let c19_i32_122 : BitVec 32 := 19#32
  let v265 : Index := Scalar.indexCast c19_i32_122
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_121 : BitVec 32 := 16#32
  let v264 : BitVec 32 := Scalar.muli v135 c16_i32_121
  let v266 : Index := Scalar.indexCast v264
  ![19, v266.toNat]
def k1_off95 (k1_t3 : Fin k1_t3_loop.trips) : Fin 2 → Nat :=
  let c20_i32_124 : BitVec 32 := 20#32
  let v269 : Index := Scalar.indexCast c20_i32_124
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_123 : BitVec 32 := 16#32
  let v268 : BitVec 32 := Scalar.muli v135 c16_i32_123
  let v270 : Index := Scalar.indexCast v268
  ![20, v270.toNat]
def k1_off96 (k1_t3 : Fin k1_t3_loop.trips) : Fin 2 → Nat :=
  let c21_i32_126 : BitVec 32 := 21#32
  let v273 : Index := Scalar.indexCast c21_i32_126
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_125 : BitVec 32 := 16#32
  let v272 : BitVec 32 := Scalar.muli v135 c16_i32_125
  let v274 : Index := Scalar.indexCast v272
  ![21, v274.toNat]
def k1_off97 (k1_t3 : Fin k1_t3_loop.trips) : Fin 2 → Nat :=
  let c22_i32_128 : BitVec 32 := 22#32
  let v277 : Index := Scalar.indexCast c22_i32_128
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_127 : BitVec 32 := 16#32
  let v276 : BitVec 32 := Scalar.muli v135 c16_i32_127
  let v278 : Index := Scalar.indexCast v276
  ![22, v278.toNat]
def k1_off98 (k1_t3 : Fin k1_t3_loop.trips) : Fin 2 → Nat :=
  let c23_i32_130 : BitVec 32 := 23#32
  let v281 : Index := Scalar.indexCast c23_i32_130
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_129 : BitVec 32 := 16#32
  let v280 : BitVec 32 := Scalar.muli v135 c16_i32_129
  let v282 : Index := Scalar.indexCast v280
  ![23, v282.toNat]

def k1_chk89 (k1_t1 : Fin k1_t1_loop.trips) (v139 : IVec S16 32) (v284 : IVec S16 32) : Prop :=
  (∀ (k1_h4 : k1_cond4 k1_t1 = 1#1), ∀ a x, ((![v284, v139] : Fin 2 → IVec S16 32) a x).toNat < S32x512.size a)
theorem k1_idx89_inb : ∀ (k1_t1 : Fin k1_t1_loop.trips) (v139 : IVec S16 32) (v284 : IVec S16 32) (k1_hw89 : k1_chk89 k1_t1 v139 v284), ∀ (k1_h4 : k1_cond4 k1_t1 = 1#1), ∀ a x, ((![v284, v139] : Fin 2 → IVec S16 32) a x).toNat < S32x512.size a := fun k1_t1 v139 v284 k1_hw89 k1_h4 => k1_hw89 k1_h4

def k1_chk90 (k1_t1 : Fin k1_t1_loop.trips) (v139 : IVec S16 32) (v286 : IVec S16 32) : Prop :=
  (∀ (k1_h4 : k1_cond4 k1_t1 = 1#1), ∀ a x, ((![v286, v139] : Fin 2 → IVec S16 32) a x).toNat < S32x512.size a)
theorem k1_idx90_inb : ∀ (k1_t1 : Fin k1_t1_loop.trips) (v139 : IVec S16 32) (v286 : IVec S16 32) (k1_hw90 : k1_chk90 k1_t1 v139 v286), ∀ (k1_h4 : k1_cond4 k1_t1 = 1#1), ∀ a x, ((![v286, v139] : Fin 2 → IVec S16 32) a x).toNat < S32x512.size a := fun k1_t1 v139 v286 k1_hw90 k1_h4 => k1_hw90 k1_h4

def k1_chk91 (k1_t1 : Fin k1_t1_loop.trips) (v139 : IVec S16 32) (v288 : IVec S16 32) : Prop :=
  (∀ (k1_h4 : k1_cond4 k1_t1 = 1#1), ∀ a x, ((![v288, v139] : Fin 2 → IVec S16 32) a x).toNat < S32x512.size a)
theorem k1_idx91_inb : ∀ (k1_t1 : Fin k1_t1_loop.trips) (v139 : IVec S16 32) (v288 : IVec S16 32) (k1_hw91 : k1_chk91 k1_t1 v139 v288), ∀ (k1_h4 : k1_cond4 k1_t1 = 1#1), ∀ a x, ((![v288, v139] : Fin 2 → IVec S16 32) a x).toNat < S32x512.size a := fun k1_t1 v139 v288 k1_hw91 k1_h4 => k1_hw91 k1_h4

def k1_chk92 (k1_t1 : Fin k1_t1_loop.trips) (v139 : IVec S16 32) (v290 : IVec S16 32) : Prop :=
  (∀ (k1_h4 : k1_cond4 k1_t1 = 1#1), ∀ a x, ((![v290, v139] : Fin 2 → IVec S16 32) a x).toNat < S32x512.size a)
theorem k1_idx92_inb : ∀ (k1_t1 : Fin k1_t1_loop.trips) (v139 : IVec S16 32) (v290 : IVec S16 32) (k1_hw92 : k1_chk92 k1_t1 v139 v290), ∀ (k1_h4 : k1_cond4 k1_t1 = 1#1), ∀ a x, ((![v290, v139] : Fin 2 → IVec S16 32) a x).toNat < S32x512.size a := fun k1_t1 v139 v290 k1_hw92 k1_h4 => k1_hw92 k1_h4

def k1_chk93 (k1_t1 : Fin k1_t1_loop.trips) (v139 : IVec S16 32) (v292 : IVec S16 32) : Prop :=
  (∀ (k1_h4 : k1_cond4 k1_t1 = 1#1), ∀ a x, ((![v292, v139] : Fin 2 → IVec S16 32) a x).toNat < S32x512.size a)
theorem k1_idx93_inb : ∀ (k1_t1 : Fin k1_t1_loop.trips) (v139 : IVec S16 32) (v292 : IVec S16 32) (k1_hw93 : k1_chk93 k1_t1 v139 v292), ∀ (k1_h4 : k1_cond4 k1_t1 = 1#1), ∀ a x, ((![v292, v139] : Fin 2 → IVec S16 32) a x).toNat < S32x512.size a := fun k1_t1 v139 v292 k1_hw93 k1_h4 => k1_hw93 k1_h4

def k1_chk94 (k1_t1 : Fin k1_t1_loop.trips) (v139 : IVec S16 32) (v294 : IVec S16 32) : Prop :=
  (∀ (k1_h4 : k1_cond4 k1_t1 = 1#1), ∀ a x, ((![v294, v139] : Fin 2 → IVec S16 32) a x).toNat < S32x512.size a)
theorem k1_idx94_inb : ∀ (k1_t1 : Fin k1_t1_loop.trips) (v139 : IVec S16 32) (v294 : IVec S16 32) (k1_hw94 : k1_chk94 k1_t1 v139 v294), ∀ (k1_h4 : k1_cond4 k1_t1 = 1#1), ∀ a x, ((![v294, v139] : Fin 2 → IVec S16 32) a x).toNat < S32x512.size a := fun k1_t1 v139 v294 k1_hw94 k1_h4 => k1_hw94 k1_h4

def k1_chk95 (k1_t1 : Fin k1_t1_loop.trips) (v139 : IVec S16 32) (v296 : IVec S16 32) : Prop :=
  (∀ (k1_h4 : k1_cond4 k1_t1 = 1#1), ∀ a x, ((![v296, v139] : Fin 2 → IVec S16 32) a x).toNat < S32x512.size a)
theorem k1_idx95_inb : ∀ (k1_t1 : Fin k1_t1_loop.trips) (v139 : IVec S16 32) (v296 : IVec S16 32) (k1_hw95 : k1_chk95 k1_t1 v139 v296), ∀ (k1_h4 : k1_cond4 k1_t1 = 1#1), ∀ a x, ((![v296, v139] : Fin 2 → IVec S16 32) a x).toNat < S32x512.size a := fun k1_t1 v139 v296 k1_hw95 k1_h4 => k1_hw95 k1_h4

def k1_chk96 (k1_t1 : Fin k1_t1_loop.trips) (v139 : IVec S16 32) (v298 : IVec S16 32) : Prop :=
  (∀ (k1_h4 : k1_cond4 k1_t1 = 1#1), ∀ a x, ((![v298, v139] : Fin 2 → IVec S16 32) a x).toNat < S32x512.size a)
theorem k1_idx96_inb : ∀ (k1_t1 : Fin k1_t1_loop.trips) (v139 : IVec S16 32) (v298 : IVec S16 32) (k1_hw96 : k1_chk96 k1_t1 v139 v298), ∀ (k1_h4 : k1_cond4 k1_t1 = 1#1), ∀ a x, ((![v298, v139] : Fin 2 → IVec S16 32) a x).toNat < S32x512.size a := fun k1_t1 v139 v298 k1_hw96 k1_h4 => k1_hw96 k1_h4
def k1_off99 (k1_t3 : Fin k1_t3_loop.trips) : Fin 2 → Nat :=
  let c24_i32_132 : BitVec 32 := 24#32
  let v301 : Index := Scalar.indexCast c24_i32_132
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_131 : BitVec 32 := 16#32
  let v300 : BitVec 32 := Scalar.muli v135 c16_i32_131
  let v302 : Index := Scalar.indexCast v300
  ![24, v302.toNat]
def k1_off100 (k1_t3 : Fin k1_t3_loop.trips) : Fin 2 → Nat :=
  let c25_i32_134 : BitVec 32 := 25#32
  let v305 : Index := Scalar.indexCast c25_i32_134
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_133 : BitVec 32 := 16#32
  let v304 : BitVec 32 := Scalar.muli v135 c16_i32_133
  let v306 : Index := Scalar.indexCast v304
  ![25, v306.toNat]
def k1_off101 (k1_t3 : Fin k1_t3_loop.trips) : Fin 2 → Nat :=
  let c26_i32_136 : BitVec 32 := 26#32
  let v309 : Index := Scalar.indexCast c26_i32_136
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_135 : BitVec 32 := 16#32
  let v308 : BitVec 32 := Scalar.muli v135 c16_i32_135
  let v310 : Index := Scalar.indexCast v308
  ![26, v310.toNat]
def k1_off102 (k1_t3 : Fin k1_t3_loop.trips) : Fin 2 → Nat :=
  let c27_i32_138 : BitVec 32 := 27#32
  let v313 : Index := Scalar.indexCast c27_i32_138
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_137 : BitVec 32 := 16#32
  let v312 : BitVec 32 := Scalar.muli v135 c16_i32_137
  let v314 : Index := Scalar.indexCast v312
  ![27, v314.toNat]
def k1_off103 (k1_t3 : Fin k1_t3_loop.trips) : Fin 2 → Nat :=
  let c28_i32_140 : BitVec 32 := 28#32
  let v317 : Index := Scalar.indexCast c28_i32_140
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_139 : BitVec 32 := 16#32
  let v316 : BitVec 32 := Scalar.muli v135 c16_i32_139
  let v318 : Index := Scalar.indexCast v316
  ![28, v318.toNat]
def k1_off104 (k1_t3 : Fin k1_t3_loop.trips) : Fin 2 → Nat :=
  let c29_i32_142 : BitVec 32 := 29#32
  let v321 : Index := Scalar.indexCast c29_i32_142
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_141 : BitVec 32 := 16#32
  let v320 : BitVec 32 := Scalar.muli v135 c16_i32_141
  let v322 : Index := Scalar.indexCast v320
  ![29, v322.toNat]
def k1_off105 (k1_t3 : Fin k1_t3_loop.trips) : Fin 2 → Nat :=
  let c30_i32_144 : BitVec 32 := 30#32
  let v325 : Index := Scalar.indexCast c30_i32_144
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_143 : BitVec 32 := 16#32
  let v324 : BitVec 32 := Scalar.muli v135 c16_i32_143
  let v326 : Index := Scalar.indexCast v324
  ![30, v326.toNat]
def k1_off106 (k1_t3 : Fin k1_t3_loop.trips) : Fin 2 → Nat :=
  let c31_i32_146 : BitVec 32 := 31#32
  let v329 : Index := Scalar.indexCast c31_i32_146
  let c0_i32_55 : BitVec 32 := 0#32
  let c1_i32_56 : BitVec 32 := 1#32
  let arg15 : BitVec 32 := Scf.iv c0_i32_55 c1_i32_56 k1_t3
  let c2_i32_75 : BitVec 32 := 2#32
  let v134 : BitVec 32 := Scalar.muli arg15 c2_i32_75
  let c0_i32_76 : BitVec 32 := 0#32
  let v135 : BitVec 32 := Scalar.addi v134 c0_i32_76
  let c16_i32_145 : BitVec 32 := 16#32
  let v328 : BitVec 32 := Scalar.muli v135 c16_i32_145
  let v330 : Index := Scalar.indexCast v328
  ![31, v330.toNat]
def k1_off107 (k1_t1 : Fin k1_t1_loop.trips) (k1_t3 : Fin k1_t3_loop.trips) : Fin 1 → Nat :=
  let c0_i32_4 : BitVec 32 := 0#32
  let c1_i32 : BitVec 32 := 1#32
  let arg14 : BitVec 32 := Scf.iv c0_i32_4 c1_i32 k1_t1
  let c0_i32_48 : BitVec 32 := 0#32
  let v83 : BitVec 1 := Scalar.cmpi .sgt arg14 c0_i32_48
  let v84 : BitVec 32 := Scalar.extui v83
  let c0_i32_49 : BitVec 32 := 0#32
  let v85 : BitVec 1 := Scalar.cmpi .slt arg14 c0_i32_49
  let v86 : BitVec 32 := Scalar.extui v85
  let v87 : BitVec 32 := Scalar.subi v84 v86
  let c4_i32_47 : BitVec 32 := 4#32
  let c0_i32_50 : BitVec 32 := 0#32
  let v88 : BitVec 1 := Scalar.cmpi .sgt c4_i32_47 c0_i32_50
  let v89 : BitVec 32 := Scalar.extui v88
  let c0_i32_51 : BitVec 32 := 0#32
  let v90 : BitVec 1 := Scalar.cmpi .slt c4_i32_47 c0_i32_51
  let v91 : BitVec 32 := Scalar.extui v90
  let v92 : BitVec 32 := Scalar.subi v89 v91
  let v93 : BitVec 1 := Scalar.cmpi .ne v87 v92
  let v94 : BitVec 32 := Scalar.remsi arg14 c4_i32_47
  let c0_i32_52 : BitVec 32 := 0#32
  let v95 : BitVec 1 := Scalar.cmpi .ne v94 c0_i32_52
  let v96 : BitVec 1 := Scalar.andi v93 v95
  let v82 : BitVec 32 := Scalar.divsi arg14 c4_i32_47
  let c1_i32_53 : BitVec 32 := 1#32
  let v97 : BitVec 32 := Scalar.subi v82 c1_i32_53
  let v98 : BitVec 32 := Scalar.select v96 v97 v82
  let c512_i32 : BitVec 32 := 512#32
  let v99 : BitVec 32 := Scalar.muli v98 c512_i32
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_149 : BitVec 32 := 16#32
  let v334 : BitVec 32 := Scalar.muli v333 c16_i32_149
  let v335 : BitVec 32 := Scalar.addi v99 v334
  let v336 : Index := Scalar.indexCast v335
  ![v336.toNat]

def k1_chk97 (k1_t1 : Fin k1_t1_loop.trips) (v337 : IVec S16 32) (v338 : IVec S16 32) : Prop :=
  (∀ (k1_h4 : k1_cond4 k1_t1 = 1#1), ∀ a x, ((![v338, v337] : Fin 2 → IVec S16 32) a x).toNat < S32x512.size a)
theorem k1_idx97_inb : ∀ (k1_t1 : Fin k1_t1_loop.trips) (v337 : IVec S16 32) (v338 : IVec S16 32) (k1_hw97 : k1_chk97 k1_t1 v337 v338), ∀ (k1_h4 : k1_cond4 k1_t1 = 1#1), ∀ a x, ((![v338, v337] : Fin 2 → IVec S16 32) a x).toNat < S32x512.size a := fun k1_t1 v337 v338 k1_hw97 k1_h4 => k1_hw97 k1_h4

def k1_chk98 (k1_t1 : Fin k1_t1_loop.trips) (v337 : IVec S16 32) (v340 : IVec S16 32) : Prop :=
  (∀ (k1_h4 : k1_cond4 k1_t1 = 1#1), ∀ a x, ((![v340, v337] : Fin 2 → IVec S16 32) a x).toNat < S32x512.size a)
theorem k1_idx98_inb : ∀ (k1_t1 : Fin k1_t1_loop.trips) (v337 : IVec S16 32) (v340 : IVec S16 32) (k1_hw98 : k1_chk98 k1_t1 v337 v340), ∀ (k1_h4 : k1_cond4 k1_t1 = 1#1), ∀ a x, ((![v340, v337] : Fin 2 → IVec S16 32) a x).toNat < S32x512.size a := fun k1_t1 v337 v340 k1_hw98 k1_h4 => k1_hw98 k1_h4

def k1_chk99 (k1_t1 : Fin k1_t1_loop.trips) (v337 : IVec S16 32) (v342 : IVec S16 32) : Prop :=
  (∀ (k1_h4 : k1_cond4 k1_t1 = 1#1), ∀ a x, ((![v342, v337] : Fin 2 → IVec S16 32) a x).toNat < S32x512.size a)
theorem k1_idx99_inb : ∀ (k1_t1 : Fin k1_t1_loop.trips) (v337 : IVec S16 32) (v342 : IVec S16 32) (k1_hw99 : k1_chk99 k1_t1 v337 v342), ∀ (k1_h4 : k1_cond4 k1_t1 = 1#1), ∀ a x, ((![v342, v337] : Fin 2 → IVec S16 32) a x).toNat < S32x512.size a := fun k1_t1 v337 v342 k1_hw99 k1_h4 => k1_hw99 k1_h4

def k1_chk100 (k1_t1 : Fin k1_t1_loop.trips) (v337 : IVec S16 32) (v344 : IVec S16 32) : Prop :=
  (∀ (k1_h4 : k1_cond4 k1_t1 = 1#1), ∀ a x, ((![v344, v337] : Fin 2 → IVec S16 32) a x).toNat < S32x512.size a)
theorem k1_idx100_inb : ∀ (k1_t1 : Fin k1_t1_loop.trips) (v337 : IVec S16 32) (v344 : IVec S16 32) (k1_hw100 : k1_chk100 k1_t1 v337 v344), ∀ (k1_h4 : k1_cond4 k1_t1 = 1#1), ∀ a x, ((![v344, v337] : Fin 2 → IVec S16 32) a x).toNat < S32x512.size a := fun k1_t1 v337 v344 k1_hw100 k1_h4 => k1_hw100 k1_h4

def k1_chk101 (k1_t1 : Fin k1_t1_loop.trips) (v337 : IVec S16 32) (v346 : IVec S16 32) : Prop :=
  (∀ (k1_h4 : k1_cond4 k1_t1 = 1#1), ∀ a x, ((![v346, v337] : Fin 2 → IVec S16 32) a x).toNat < S32x512.size a)
theorem k1_idx101_inb : ∀ (k1_t1 : Fin k1_t1_loop.trips) (v337 : IVec S16 32) (v346 : IVec S16 32) (k1_hw101 : k1_chk101 k1_t1 v337 v346), ∀ (k1_h4 : k1_cond4 k1_t1 = 1#1), ∀ a x, ((![v346, v337] : Fin 2 → IVec S16 32) a x).toNat < S32x512.size a := fun k1_t1 v337 v346 k1_hw101 k1_h4 => k1_hw101 k1_h4

def k1_chk102 (k1_t1 : Fin k1_t1_loop.trips) (v337 : IVec S16 32) (v348 : IVec S16 32) : Prop :=
  (∀ (k1_h4 : k1_cond4 k1_t1 = 1#1), ∀ a x, ((![v348, v337] : Fin 2 → IVec S16 32) a x).toNat < S32x512.size a)
theorem k1_idx102_inb : ∀ (k1_t1 : Fin k1_t1_loop.trips) (v337 : IVec S16 32) (v348 : IVec S16 32) (k1_hw102 : k1_chk102 k1_t1 v337 v348), ∀ (k1_h4 : k1_cond4 k1_t1 = 1#1), ∀ a x, ((![v348, v337] : Fin 2 → IVec S16 32) a x).toNat < S32x512.size a := fun k1_t1 v337 v348 k1_hw102 k1_h4 => k1_hw102 k1_h4

def k1_chk103 (k1_t1 : Fin k1_t1_loop.trips) (v337 : IVec S16 32) (v350 : IVec S16 32) : Prop :=
  (∀ (k1_h4 : k1_cond4 k1_t1 = 1#1), ∀ a x, ((![v350, v337] : Fin 2 → IVec S16 32) a x).toNat < S32x512.size a)
theorem k1_idx103_inb : ∀ (k1_t1 : Fin k1_t1_loop.trips) (v337 : IVec S16 32) (v350 : IVec S16 32) (k1_hw103 : k1_chk103 k1_t1 v337 v350), ∀ (k1_h4 : k1_cond4 k1_t1 = 1#1), ∀ a x, ((![v350, v337] : Fin 2 → IVec S16 32) a x).toNat < S32x512.size a := fun k1_t1 v337 v350 k1_hw103 k1_h4 => k1_hw103 k1_h4

def k1_chk104 (k1_t1 : Fin k1_t1_loop.trips) (v337 : IVec S16 32) (v352 : IVec S16 32) : Prop :=
  (∀ (k1_h4 : k1_cond4 k1_t1 = 1#1), ∀ a x, ((![v352, v337] : Fin 2 → IVec S16 32) a x).toNat < S32x512.size a)
theorem k1_idx104_inb : ∀ (k1_t1 : Fin k1_t1_loop.trips) (v337 : IVec S16 32) (v352 : IVec S16 32) (k1_hw104 : k1_chk104 k1_t1 v337 v352), ∀ (k1_h4 : k1_cond4 k1_t1 = 1#1), ∀ a x, ((![v352, v337] : Fin 2 → IVec S16 32) a x).toNat < S32x512.size a := fun k1_t1 v337 v352 k1_hw104 k1_h4 => k1_hw104 k1_h4
def k1_off108 (k1_t3 : Fin k1_t3_loop.trips) : Fin 2 → Nat :=
  let c0_i32_159 : BitVec 32 := 0#32
  let v355 : Index := Scalar.indexCast c0_i32_159
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_158 : BitVec 32 := 16#32
  let v354 : BitVec 32 := Scalar.muli v333 c16_i32_158
  let v356 : Index := Scalar.indexCast v354
  ![0, v356.toNat]
def k1_off109 (k1_t3 : Fin k1_t3_loop.trips) : Fin 2 → Nat :=
  let c1_i32_161 : BitVec 32 := 1#32
  let v359 : Index := Scalar.indexCast c1_i32_161
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_160 : BitVec 32 := 16#32
  let v358 : BitVec 32 := Scalar.muli v333 c16_i32_160
  let v360 : Index := Scalar.indexCast v358
  ![1, v360.toNat]
def k1_off110 (k1_t3 : Fin k1_t3_loop.trips) : Fin 2 → Nat :=
  let c2_i32_163 : BitVec 32 := 2#32
  let v363 : Index := Scalar.indexCast c2_i32_163
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_162 : BitVec 32 := 16#32
  let v362 : BitVec 32 := Scalar.muli v333 c16_i32_162
  let v364 : Index := Scalar.indexCast v362
  ![2, v364.toNat]
def k1_off111 (k1_t3 : Fin k1_t3_loop.trips) : Fin 2 → Nat :=
  let c3_i32_165 : BitVec 32 := 3#32
  let v367 : Index := Scalar.indexCast c3_i32_165
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_164 : BitVec 32 := 16#32
  let v366 : BitVec 32 := Scalar.muli v333 c16_i32_164
  let v368 : Index := Scalar.indexCast v366
  ![3, v368.toNat]
def k1_off112 (k1_t3 : Fin k1_t3_loop.trips) : Fin 2 → Nat :=
  let c4_i32_167 : BitVec 32 := 4#32
  let v371 : Index := Scalar.indexCast c4_i32_167
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_166 : BitVec 32 := 16#32
  let v370 : BitVec 32 := Scalar.muli v333 c16_i32_166
  let v372 : Index := Scalar.indexCast v370
  ![4, v372.toNat]
def k1_off113 (k1_t3 : Fin k1_t3_loop.trips) : Fin 2 → Nat :=
  let c5_i32_169 : BitVec 32 := 5#32
  let v375 : Index := Scalar.indexCast c5_i32_169
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_168 : BitVec 32 := 16#32
  let v374 : BitVec 32 := Scalar.muli v333 c16_i32_168
  let v376 : Index := Scalar.indexCast v374
  ![5, v376.toNat]
def k1_off114 (k1_t3 : Fin k1_t3_loop.trips) : Fin 2 → Nat :=
  let c6_i32_171 : BitVec 32 := 6#32
  let v379 : Index := Scalar.indexCast c6_i32_171
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_170 : BitVec 32 := 16#32
  let v378 : BitVec 32 := Scalar.muli v333 c16_i32_170
  let v380 : Index := Scalar.indexCast v378
  ![6, v380.toNat]
def k1_off115 (k1_t3 : Fin k1_t3_loop.trips) : Fin 2 → Nat :=
  let c7_i32_173 : BitVec 32 := 7#32
  let v383 : Index := Scalar.indexCast c7_i32_173
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_172 : BitVec 32 := 16#32
  let v382 : BitVec 32 := Scalar.muli v333 c16_i32_172
  let v384 : Index := Scalar.indexCast v382
  ![7, v384.toNat]

def k1_chk105 (k1_t1 : Fin k1_t1_loop.trips) (v337 : IVec S16 32) (v386 : IVec S16 32) : Prop :=
  (∀ (k1_h4 : k1_cond4 k1_t1 = 1#1), ∀ a x, ((![v386, v337] : Fin 2 → IVec S16 32) a x).toNat < S32x512.size a)
theorem k1_idx105_inb : ∀ (k1_t1 : Fin k1_t1_loop.trips) (v337 : IVec S16 32) (v386 : IVec S16 32) (k1_hw105 : k1_chk105 k1_t1 v337 v386), ∀ (k1_h4 : k1_cond4 k1_t1 = 1#1), ∀ a x, ((![v386, v337] : Fin 2 → IVec S16 32) a x).toNat < S32x512.size a := fun k1_t1 v337 v386 k1_hw105 k1_h4 => k1_hw105 k1_h4

def k1_chk106 (k1_t1 : Fin k1_t1_loop.trips) (v337 : IVec S16 32) (v388 : IVec S16 32) : Prop :=
  (∀ (k1_h4 : k1_cond4 k1_t1 = 1#1), ∀ a x, ((![v388, v337] : Fin 2 → IVec S16 32) a x).toNat < S32x512.size a)
theorem k1_idx106_inb : ∀ (k1_t1 : Fin k1_t1_loop.trips) (v337 : IVec S16 32) (v388 : IVec S16 32) (k1_hw106 : k1_chk106 k1_t1 v337 v388), ∀ (k1_h4 : k1_cond4 k1_t1 = 1#1), ∀ a x, ((![v388, v337] : Fin 2 → IVec S16 32) a x).toNat < S32x512.size a := fun k1_t1 v337 v388 k1_hw106 k1_h4 => k1_hw106 k1_h4

def k1_chk107 (k1_t1 : Fin k1_t1_loop.trips) (v337 : IVec S16 32) (v390 : IVec S16 32) : Prop :=
  (∀ (k1_h4 : k1_cond4 k1_t1 = 1#1), ∀ a x, ((![v390, v337] : Fin 2 → IVec S16 32) a x).toNat < S32x512.size a)
theorem k1_idx107_inb : ∀ (k1_t1 : Fin k1_t1_loop.trips) (v337 : IVec S16 32) (v390 : IVec S16 32) (k1_hw107 : k1_chk107 k1_t1 v337 v390), ∀ (k1_h4 : k1_cond4 k1_t1 = 1#1), ∀ a x, ((![v390, v337] : Fin 2 → IVec S16 32) a x).toNat < S32x512.size a := fun k1_t1 v337 v390 k1_hw107 k1_h4 => k1_hw107 k1_h4

def k1_chk108 (k1_t1 : Fin k1_t1_loop.trips) (v337 : IVec S16 32) (v392 : IVec S16 32) : Prop :=
  (∀ (k1_h4 : k1_cond4 k1_t1 = 1#1), ∀ a x, ((![v392, v337] : Fin 2 → IVec S16 32) a x).toNat < S32x512.size a)
theorem k1_idx108_inb : ∀ (k1_t1 : Fin k1_t1_loop.trips) (v337 : IVec S16 32) (v392 : IVec S16 32) (k1_hw108 : k1_chk108 k1_t1 v337 v392), ∀ (k1_h4 : k1_cond4 k1_t1 = 1#1), ∀ a x, ((![v392, v337] : Fin 2 → IVec S16 32) a x).toNat < S32x512.size a := fun k1_t1 v337 v392 k1_hw108 k1_h4 => k1_hw108 k1_h4

def k1_chk109 (k1_t1 : Fin k1_t1_loop.trips) (v337 : IVec S16 32) (v394 : IVec S16 32) : Prop :=
  (∀ (k1_h4 : k1_cond4 k1_t1 = 1#1), ∀ a x, ((![v394, v337] : Fin 2 → IVec S16 32) a x).toNat < S32x512.size a)
theorem k1_idx109_inb : ∀ (k1_t1 : Fin k1_t1_loop.trips) (v337 : IVec S16 32) (v394 : IVec S16 32) (k1_hw109 : k1_chk109 k1_t1 v337 v394), ∀ (k1_h4 : k1_cond4 k1_t1 = 1#1), ∀ a x, ((![v394, v337] : Fin 2 → IVec S16 32) a x).toNat < S32x512.size a := fun k1_t1 v337 v394 k1_hw109 k1_h4 => k1_hw109 k1_h4

def k1_chk110 (k1_t1 : Fin k1_t1_loop.trips) (v337 : IVec S16 32) (v396 : IVec S16 32) : Prop :=
  (∀ (k1_h4 : k1_cond4 k1_t1 = 1#1), ∀ a x, ((![v396, v337] : Fin 2 → IVec S16 32) a x).toNat < S32x512.size a)
theorem k1_idx110_inb : ∀ (k1_t1 : Fin k1_t1_loop.trips) (v337 : IVec S16 32) (v396 : IVec S16 32) (k1_hw110 : k1_chk110 k1_t1 v337 v396), ∀ (k1_h4 : k1_cond4 k1_t1 = 1#1), ∀ a x, ((![v396, v337] : Fin 2 → IVec S16 32) a x).toNat < S32x512.size a := fun k1_t1 v337 v396 k1_hw110 k1_h4 => k1_hw110 k1_h4

def k1_chk111 (k1_t1 : Fin k1_t1_loop.trips) (v337 : IVec S16 32) (v398 : IVec S16 32) : Prop :=
  (∀ (k1_h4 : k1_cond4 k1_t1 = 1#1), ∀ a x, ((![v398, v337] : Fin 2 → IVec S16 32) a x).toNat < S32x512.size a)
theorem k1_idx111_inb : ∀ (k1_t1 : Fin k1_t1_loop.trips) (v337 : IVec S16 32) (v398 : IVec S16 32) (k1_hw111 : k1_chk111 k1_t1 v337 v398), ∀ (k1_h4 : k1_cond4 k1_t1 = 1#1), ∀ a x, ((![v398, v337] : Fin 2 → IVec S16 32) a x).toNat < S32x512.size a := fun k1_t1 v337 v398 k1_hw111 k1_h4 => k1_hw111 k1_h4

def k1_chk112 (k1_t1 : Fin k1_t1_loop.trips) (v337 : IVec S16 32) (v400 : IVec S16 32) : Prop :=
  (∀ (k1_h4 : k1_cond4 k1_t1 = 1#1), ∀ a x, ((![v400, v337] : Fin 2 → IVec S16 32) a x).toNat < S32x512.size a)
theorem k1_idx112_inb : ∀ (k1_t1 : Fin k1_t1_loop.trips) (v337 : IVec S16 32) (v400 : IVec S16 32) (k1_hw112 : k1_chk112 k1_t1 v337 v400), ∀ (k1_h4 : k1_cond4 k1_t1 = 1#1), ∀ a x, ((![v400, v337] : Fin 2 → IVec S16 32) a x).toNat < S32x512.size a := fun k1_t1 v337 v400 k1_hw112 k1_h4 => k1_hw112 k1_h4
def k1_off116 (k1_t3 : Fin k1_t3_loop.trips) : Fin 2 → Nat :=
  let c8_i32_183 : BitVec 32 := 8#32
  let v403 : Index := Scalar.indexCast c8_i32_183
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_182 : BitVec 32 := 16#32
  let v402 : BitVec 32 := Scalar.muli v333 c16_i32_182
  let v404 : Index := Scalar.indexCast v402
  ![8, v404.toNat]
def k1_off117 (k1_t3 : Fin k1_t3_loop.trips) : Fin 2 → Nat :=
  let c9_i32_185 : BitVec 32 := 9#32
  let v407 : Index := Scalar.indexCast c9_i32_185
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_184 : BitVec 32 := 16#32
  let v406 : BitVec 32 := Scalar.muli v333 c16_i32_184
  let v408 : Index := Scalar.indexCast v406
  ![9, v408.toNat]
def k1_off118 (k1_t3 : Fin k1_t3_loop.trips) : Fin 2 → Nat :=
  let c10_i32_187 : BitVec 32 := 10#32
  let v411 : Index := Scalar.indexCast c10_i32_187
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_186 : BitVec 32 := 16#32
  let v410 : BitVec 32 := Scalar.muli v333 c16_i32_186
  let v412 : Index := Scalar.indexCast v410
  ![10, v412.toNat]
def k1_off119 (k1_t3 : Fin k1_t3_loop.trips) : Fin 2 → Nat :=
  let c11_i32_189 : BitVec 32 := 11#32
  let v415 : Index := Scalar.indexCast c11_i32_189
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_188 : BitVec 32 := 16#32
  let v414 : BitVec 32 := Scalar.muli v333 c16_i32_188
  let v416 : Index := Scalar.indexCast v414
  ![11, v416.toNat]
def k1_off120 (k1_t3 : Fin k1_t3_loop.trips) : Fin 2 → Nat :=
  let c12_i32_191 : BitVec 32 := 12#32
  let v419 : Index := Scalar.indexCast c12_i32_191
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_190 : BitVec 32 := 16#32
  let v418 : BitVec 32 := Scalar.muli v333 c16_i32_190
  let v420 : Index := Scalar.indexCast v418
  ![12, v420.toNat]
def k1_off121 (k1_t3 : Fin k1_t3_loop.trips) : Fin 2 → Nat :=
  let c13_i32_193 : BitVec 32 := 13#32
  let v423 : Index := Scalar.indexCast c13_i32_193
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_192 : BitVec 32 := 16#32
  let v422 : BitVec 32 := Scalar.muli v333 c16_i32_192
  let v424 : Index := Scalar.indexCast v422
  ![13, v424.toNat]
def k1_off122 (k1_t3 : Fin k1_t3_loop.trips) : Fin 2 → Nat :=
  let c14_i32_195 : BitVec 32 := 14#32
  let v427 : Index := Scalar.indexCast c14_i32_195
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_194 : BitVec 32 := 16#32
  let v426 : BitVec 32 := Scalar.muli v333 c16_i32_194
  let v428 : Index := Scalar.indexCast v426
  ![14, v428.toNat]
def k1_off123 (k1_t3 : Fin k1_t3_loop.trips) : Fin 2 → Nat :=
  let c15_i32_197 : BitVec 32 := 15#32
  let v431 : Index := Scalar.indexCast c15_i32_197
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_196 : BitVec 32 := 16#32
  let v430 : BitVec 32 := Scalar.muli v333 c16_i32_196
  let v432 : Index := Scalar.indexCast v430
  ![15, v432.toNat]

def k1_chk113 (k1_t1 : Fin k1_t1_loop.trips) (v337 : IVec S16 32) (v434 : IVec S16 32) : Prop :=
  (∀ (k1_h4 : k1_cond4 k1_t1 = 1#1), ∀ a x, ((![v434, v337] : Fin 2 → IVec S16 32) a x).toNat < S32x512.size a)
theorem k1_idx113_inb : ∀ (k1_t1 : Fin k1_t1_loop.trips) (v337 : IVec S16 32) (v434 : IVec S16 32) (k1_hw113 : k1_chk113 k1_t1 v337 v434), ∀ (k1_h4 : k1_cond4 k1_t1 = 1#1), ∀ a x, ((![v434, v337] : Fin 2 → IVec S16 32) a x).toNat < S32x512.size a := fun k1_t1 v337 v434 k1_hw113 k1_h4 => k1_hw113 k1_h4

def k1_chk114 (k1_t1 : Fin k1_t1_loop.trips) (v337 : IVec S16 32) (v436 : IVec S16 32) : Prop :=
  (∀ (k1_h4 : k1_cond4 k1_t1 = 1#1), ∀ a x, ((![v436, v337] : Fin 2 → IVec S16 32) a x).toNat < S32x512.size a)
theorem k1_idx114_inb : ∀ (k1_t1 : Fin k1_t1_loop.trips) (v337 : IVec S16 32) (v436 : IVec S16 32) (k1_hw114 : k1_chk114 k1_t1 v337 v436), ∀ (k1_h4 : k1_cond4 k1_t1 = 1#1), ∀ a x, ((![v436, v337] : Fin 2 → IVec S16 32) a x).toNat < S32x512.size a := fun k1_t1 v337 v436 k1_hw114 k1_h4 => k1_hw114 k1_h4

def k1_chk115 (k1_t1 : Fin k1_t1_loop.trips) (v337 : IVec S16 32) (v438 : IVec S16 32) : Prop :=
  (∀ (k1_h4 : k1_cond4 k1_t1 = 1#1), ∀ a x, ((![v438, v337] : Fin 2 → IVec S16 32) a x).toNat < S32x512.size a)
theorem k1_idx115_inb : ∀ (k1_t1 : Fin k1_t1_loop.trips) (v337 : IVec S16 32) (v438 : IVec S16 32) (k1_hw115 : k1_chk115 k1_t1 v337 v438), ∀ (k1_h4 : k1_cond4 k1_t1 = 1#1), ∀ a x, ((![v438, v337] : Fin 2 → IVec S16 32) a x).toNat < S32x512.size a := fun k1_t1 v337 v438 k1_hw115 k1_h4 => k1_hw115 k1_h4

def k1_chk116 (k1_t1 : Fin k1_t1_loop.trips) (v337 : IVec S16 32) (v440 : IVec S16 32) : Prop :=
  (∀ (k1_h4 : k1_cond4 k1_t1 = 1#1), ∀ a x, ((![v440, v337] : Fin 2 → IVec S16 32) a x).toNat < S32x512.size a)
theorem k1_idx116_inb : ∀ (k1_t1 : Fin k1_t1_loop.trips) (v337 : IVec S16 32) (v440 : IVec S16 32) (k1_hw116 : k1_chk116 k1_t1 v337 v440), ∀ (k1_h4 : k1_cond4 k1_t1 = 1#1), ∀ a x, ((![v440, v337] : Fin 2 → IVec S16 32) a x).toNat < S32x512.size a := fun k1_t1 v337 v440 k1_hw116 k1_h4 => k1_hw116 k1_h4

def k1_chk117 (k1_t1 : Fin k1_t1_loop.trips) (v337 : IVec S16 32) (v442 : IVec S16 32) : Prop :=
  (∀ (k1_h4 : k1_cond4 k1_t1 = 1#1), ∀ a x, ((![v442, v337] : Fin 2 → IVec S16 32) a x).toNat < S32x512.size a)
theorem k1_idx117_inb : ∀ (k1_t1 : Fin k1_t1_loop.trips) (v337 : IVec S16 32) (v442 : IVec S16 32) (k1_hw117 : k1_chk117 k1_t1 v337 v442), ∀ (k1_h4 : k1_cond4 k1_t1 = 1#1), ∀ a x, ((![v442, v337] : Fin 2 → IVec S16 32) a x).toNat < S32x512.size a := fun k1_t1 v337 v442 k1_hw117 k1_h4 => k1_hw117 k1_h4

def k1_chk118 (k1_t1 : Fin k1_t1_loop.trips) (v337 : IVec S16 32) (v444 : IVec S16 32) : Prop :=
  (∀ (k1_h4 : k1_cond4 k1_t1 = 1#1), ∀ a x, ((![v444, v337] : Fin 2 → IVec S16 32) a x).toNat < S32x512.size a)
theorem k1_idx118_inb : ∀ (k1_t1 : Fin k1_t1_loop.trips) (v337 : IVec S16 32) (v444 : IVec S16 32) (k1_hw118 : k1_chk118 k1_t1 v337 v444), ∀ (k1_h4 : k1_cond4 k1_t1 = 1#1), ∀ a x, ((![v444, v337] : Fin 2 → IVec S16 32) a x).toNat < S32x512.size a := fun k1_t1 v337 v444 k1_hw118 k1_h4 => k1_hw118 k1_h4

def k1_chk119 (k1_t1 : Fin k1_t1_loop.trips) (v337 : IVec S16 32) (v446 : IVec S16 32) : Prop :=
  (∀ (k1_h4 : k1_cond4 k1_t1 = 1#1), ∀ a x, ((![v446, v337] : Fin 2 → IVec S16 32) a x).toNat < S32x512.size a)
theorem k1_idx119_inb : ∀ (k1_t1 : Fin k1_t1_loop.trips) (v337 : IVec S16 32) (v446 : IVec S16 32) (k1_hw119 : k1_chk119 k1_t1 v337 v446), ∀ (k1_h4 : k1_cond4 k1_t1 = 1#1), ∀ a x, ((![v446, v337] : Fin 2 → IVec S16 32) a x).toNat < S32x512.size a := fun k1_t1 v337 v446 k1_hw119 k1_h4 => k1_hw119 k1_h4

def k1_chk120 (k1_t1 : Fin k1_t1_loop.trips) (v337 : IVec S16 32) (v448 : IVec S16 32) : Prop :=
  (∀ (k1_h4 : k1_cond4 k1_t1 = 1#1), ∀ a x, ((![v448, v337] : Fin 2 → IVec S16 32) a x).toNat < S32x512.size a)
theorem k1_idx120_inb : ∀ (k1_t1 : Fin k1_t1_loop.trips) (v337 : IVec S16 32) (v448 : IVec S16 32) (k1_hw120 : k1_chk120 k1_t1 v337 v448), ∀ (k1_h4 : k1_cond4 k1_t1 = 1#1), ∀ a x, ((![v448, v337] : Fin 2 → IVec S16 32) a x).toNat < S32x512.size a := fun k1_t1 v337 v448 k1_hw120 k1_h4 => k1_hw120 k1_h4
def k1_off124 (k1_t3 : Fin k1_t3_loop.trips) : Fin 2 → Nat :=
  let c16_i32_207 : BitVec 32 := 16#32
  let v451 : Index := Scalar.indexCast c16_i32_207
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_206 : BitVec 32 := 16#32
  let v450 : BitVec 32 := Scalar.muli v333 c16_i32_206
  let v452 : Index := Scalar.indexCast v450
  ![16, v452.toNat]
def k1_off125 (k1_t3 : Fin k1_t3_loop.trips) : Fin 2 → Nat :=
  let c17_i32_209 : BitVec 32 := 17#32
  let v455 : Index := Scalar.indexCast c17_i32_209
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_208 : BitVec 32 := 16#32
  let v454 : BitVec 32 := Scalar.muli v333 c16_i32_208
  let v456 : Index := Scalar.indexCast v454
  ![17, v456.toNat]
def k1_off126 (k1_t3 : Fin k1_t3_loop.trips) : Fin 2 → Nat :=
  let c18_i32_211 : BitVec 32 := 18#32
  let v459 : Index := Scalar.indexCast c18_i32_211
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_210 : BitVec 32 := 16#32
  let v458 : BitVec 32 := Scalar.muli v333 c16_i32_210
  let v460 : Index := Scalar.indexCast v458
  ![18, v460.toNat]
def k1_off127 (k1_t3 : Fin k1_t3_loop.trips) : Fin 2 → Nat :=
  let c19_i32_213 : BitVec 32 := 19#32
  let v463 : Index := Scalar.indexCast c19_i32_213
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_212 : BitVec 32 := 16#32
  let v462 : BitVec 32 := Scalar.muli v333 c16_i32_212
  let v464 : Index := Scalar.indexCast v462
  ![19, v464.toNat]
def k1_off128 (k1_t3 : Fin k1_t3_loop.trips) : Fin 2 → Nat :=
  let c20_i32_215 : BitVec 32 := 20#32
  let v467 : Index := Scalar.indexCast c20_i32_215
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_214 : BitVec 32 := 16#32
  let v466 : BitVec 32 := Scalar.muli v333 c16_i32_214
  let v468 : Index := Scalar.indexCast v466
  ![20, v468.toNat]
def k1_off129 (k1_t3 : Fin k1_t3_loop.trips) : Fin 2 → Nat :=
  let c21_i32_217 : BitVec 32 := 21#32
  let v471 : Index := Scalar.indexCast c21_i32_217
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_216 : BitVec 32 := 16#32
  let v470 : BitVec 32 := Scalar.muli v333 c16_i32_216
  let v472 : Index := Scalar.indexCast v470
  ![21, v472.toNat]
def k1_off130 (k1_t3 : Fin k1_t3_loop.trips) : Fin 2 → Nat :=
  let c22_i32_219 : BitVec 32 := 22#32
  let v475 : Index := Scalar.indexCast c22_i32_219
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_218 : BitVec 32 := 16#32
  let v474 : BitVec 32 := Scalar.muli v333 c16_i32_218
  let v476 : Index := Scalar.indexCast v474
  ![22, v476.toNat]
def k1_off131 (k1_t3 : Fin k1_t3_loop.trips) : Fin 2 → Nat :=
  let c23_i32_221 : BitVec 32 := 23#32
  let v479 : Index := Scalar.indexCast c23_i32_221
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_220 : BitVec 32 := 16#32
  let v478 : BitVec 32 := Scalar.muli v333 c16_i32_220
  let v480 : Index := Scalar.indexCast v478
  ![23, v480.toNat]

def k1_chk121 (k1_t1 : Fin k1_t1_loop.trips) (v337 : IVec S16 32) (v482 : IVec S16 32) : Prop :=
  (∀ (k1_h4 : k1_cond4 k1_t1 = 1#1), ∀ a x, ((![v482, v337] : Fin 2 → IVec S16 32) a x).toNat < S32x512.size a)
theorem k1_idx121_inb : ∀ (k1_t1 : Fin k1_t1_loop.trips) (v337 : IVec S16 32) (v482 : IVec S16 32) (k1_hw121 : k1_chk121 k1_t1 v337 v482), ∀ (k1_h4 : k1_cond4 k1_t1 = 1#1), ∀ a x, ((![v482, v337] : Fin 2 → IVec S16 32) a x).toNat < S32x512.size a := fun k1_t1 v337 v482 k1_hw121 k1_h4 => k1_hw121 k1_h4

def k1_chk122 (k1_t1 : Fin k1_t1_loop.trips) (v337 : IVec S16 32) (v484 : IVec S16 32) : Prop :=
  (∀ (k1_h4 : k1_cond4 k1_t1 = 1#1), ∀ a x, ((![v484, v337] : Fin 2 → IVec S16 32) a x).toNat < S32x512.size a)
theorem k1_idx122_inb : ∀ (k1_t1 : Fin k1_t1_loop.trips) (v337 : IVec S16 32) (v484 : IVec S16 32) (k1_hw122 : k1_chk122 k1_t1 v337 v484), ∀ (k1_h4 : k1_cond4 k1_t1 = 1#1), ∀ a x, ((![v484, v337] : Fin 2 → IVec S16 32) a x).toNat < S32x512.size a := fun k1_t1 v337 v484 k1_hw122 k1_h4 => k1_hw122 k1_h4

def k1_chk123 (k1_t1 : Fin k1_t1_loop.trips) (v337 : IVec S16 32) (v486 : IVec S16 32) : Prop :=
  (∀ (k1_h4 : k1_cond4 k1_t1 = 1#1), ∀ a x, ((![v486, v337] : Fin 2 → IVec S16 32) a x).toNat < S32x512.size a)
theorem k1_idx123_inb : ∀ (k1_t1 : Fin k1_t1_loop.trips) (v337 : IVec S16 32) (v486 : IVec S16 32) (k1_hw123 : k1_chk123 k1_t1 v337 v486), ∀ (k1_h4 : k1_cond4 k1_t1 = 1#1), ∀ a x, ((![v486, v337] : Fin 2 → IVec S16 32) a x).toNat < S32x512.size a := fun k1_t1 v337 v486 k1_hw123 k1_h4 => k1_hw123 k1_h4

def k1_chk124 (k1_t1 : Fin k1_t1_loop.trips) (v337 : IVec S16 32) (v488 : IVec S16 32) : Prop :=
  (∀ (k1_h4 : k1_cond4 k1_t1 = 1#1), ∀ a x, ((![v488, v337] : Fin 2 → IVec S16 32) a x).toNat < S32x512.size a)
theorem k1_idx124_inb : ∀ (k1_t1 : Fin k1_t1_loop.trips) (v337 : IVec S16 32) (v488 : IVec S16 32) (k1_hw124 : k1_chk124 k1_t1 v337 v488), ∀ (k1_h4 : k1_cond4 k1_t1 = 1#1), ∀ a x, ((![v488, v337] : Fin 2 → IVec S16 32) a x).toNat < S32x512.size a := fun k1_t1 v337 v488 k1_hw124 k1_h4 => k1_hw124 k1_h4

def k1_chk125 (k1_t1 : Fin k1_t1_loop.trips) (v337 : IVec S16 32) (v490 : IVec S16 32) : Prop :=
  (∀ (k1_h4 : k1_cond4 k1_t1 = 1#1), ∀ a x, ((![v490, v337] : Fin 2 → IVec S16 32) a x).toNat < S32x512.size a)
theorem k1_idx125_inb : ∀ (k1_t1 : Fin k1_t1_loop.trips) (v337 : IVec S16 32) (v490 : IVec S16 32) (k1_hw125 : k1_chk125 k1_t1 v337 v490), ∀ (k1_h4 : k1_cond4 k1_t1 = 1#1), ∀ a x, ((![v490, v337] : Fin 2 → IVec S16 32) a x).toNat < S32x512.size a := fun k1_t1 v337 v490 k1_hw125 k1_h4 => k1_hw125 k1_h4

def k1_chk126 (k1_t1 : Fin k1_t1_loop.trips) (v337 : IVec S16 32) (v492 : IVec S16 32) : Prop :=
  (∀ (k1_h4 : k1_cond4 k1_t1 = 1#1), ∀ a x, ((![v492, v337] : Fin 2 → IVec S16 32) a x).toNat < S32x512.size a)
theorem k1_idx126_inb : ∀ (k1_t1 : Fin k1_t1_loop.trips) (v337 : IVec S16 32) (v492 : IVec S16 32) (k1_hw126 : k1_chk126 k1_t1 v337 v492), ∀ (k1_h4 : k1_cond4 k1_t1 = 1#1), ∀ a x, ((![v492, v337] : Fin 2 → IVec S16 32) a x).toNat < S32x512.size a := fun k1_t1 v337 v492 k1_hw126 k1_h4 => k1_hw126 k1_h4

def k1_chk127 (k1_t1 : Fin k1_t1_loop.trips) (v337 : IVec S16 32) (v494 : IVec S16 32) : Prop :=
  (∀ (k1_h4 : k1_cond4 k1_t1 = 1#1), ∀ a x, ((![v494, v337] : Fin 2 → IVec S16 32) a x).toNat < S32x512.size a)
theorem k1_idx127_inb : ∀ (k1_t1 : Fin k1_t1_loop.trips) (v337 : IVec S16 32) (v494 : IVec S16 32) (k1_hw127 : k1_chk127 k1_t1 v337 v494), ∀ (k1_h4 : k1_cond4 k1_t1 = 1#1), ∀ a x, ((![v494, v337] : Fin 2 → IVec S16 32) a x).toNat < S32x512.size a := fun k1_t1 v337 v494 k1_hw127 k1_h4 => k1_hw127 k1_h4

def k1_chk128 (k1_t1 : Fin k1_t1_loop.trips) (v337 : IVec S16 32) (v496 : IVec S16 32) : Prop :=
  (∀ (k1_h4 : k1_cond4 k1_t1 = 1#1), ∀ a x, ((![v496, v337] : Fin 2 → IVec S16 32) a x).toNat < S32x512.size a)
theorem k1_idx128_inb : ∀ (k1_t1 : Fin k1_t1_loop.trips) (v337 : IVec S16 32) (v496 : IVec S16 32) (k1_hw128 : k1_chk128 k1_t1 v337 v496), ∀ (k1_h4 : k1_cond4 k1_t1 = 1#1), ∀ a x, ((![v496, v337] : Fin 2 → IVec S16 32) a x).toNat < S32x512.size a := fun k1_t1 v337 v496 k1_hw128 k1_h4 => k1_hw128 k1_h4
def k1_off132 (k1_t3 : Fin k1_t3_loop.trips) : Fin 2 → Nat :=
  let c24_i32_231 : BitVec 32 := 24#32
  let v499 : Index := Scalar.indexCast c24_i32_231
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_230 : BitVec 32 := 16#32
  let v498 : BitVec 32 := Scalar.muli v333 c16_i32_230
  let v500 : Index := Scalar.indexCast v498
  ![24, v500.toNat]
def k1_off133 (k1_t3 : Fin k1_t3_loop.trips) : Fin 2 → Nat :=
  let c25_i32_233 : BitVec 32 := 25#32
  let v503 : Index := Scalar.indexCast c25_i32_233
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_232 : BitVec 32 := 16#32
  let v502 : BitVec 32 := Scalar.muli v333 c16_i32_232
  let v504 : Index := Scalar.indexCast v502
  ![25, v504.toNat]
def k1_off134 (k1_t3 : Fin k1_t3_loop.trips) : Fin 2 → Nat :=
  let c26_i32_235 : BitVec 32 := 26#32
  let v507 : Index := Scalar.indexCast c26_i32_235
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_234 : BitVec 32 := 16#32
  let v506 : BitVec 32 := Scalar.muli v333 c16_i32_234
  let v508 : Index := Scalar.indexCast v506
  ![26, v508.toNat]
def k1_off135 (k1_t3 : Fin k1_t3_loop.trips) : Fin 2 → Nat :=
  let c27_i32_237 : BitVec 32 := 27#32
  let v511 : Index := Scalar.indexCast c27_i32_237
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_236 : BitVec 32 := 16#32
  let v510 : BitVec 32 := Scalar.muli v333 c16_i32_236
  let v512 : Index := Scalar.indexCast v510
  ![27, v512.toNat]
def k1_off136 (k1_t3 : Fin k1_t3_loop.trips) : Fin 2 → Nat :=
  let c28_i32_239 : BitVec 32 := 28#32
  let v515 : Index := Scalar.indexCast c28_i32_239
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_238 : BitVec 32 := 16#32
  let v514 : BitVec 32 := Scalar.muli v333 c16_i32_238
  let v516 : Index := Scalar.indexCast v514
  ![28, v516.toNat]
def k1_off137 (k1_t3 : Fin k1_t3_loop.trips) : Fin 2 → Nat :=
  let c29_i32_241 : BitVec 32 := 29#32
  let v519 : Index := Scalar.indexCast c29_i32_241
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_240 : BitVec 32 := 16#32
  let v518 : BitVec 32 := Scalar.muli v333 c16_i32_240
  let v520 : Index := Scalar.indexCast v518
  ![29, v520.toNat]
def k1_off138 (k1_t3 : Fin k1_t3_loop.trips) : Fin 2 → Nat :=
  let c30_i32_243 : BitVec 32 := 30#32
  let v523 : Index := Scalar.indexCast c30_i32_243
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_242 : BitVec 32 := 16#32
  let v522 : BitVec 32 := Scalar.muli v333 c16_i32_242
  let v524 : Index := Scalar.indexCast v522
  ![30, v524.toNat]
def k1_off139 (k1_t3 : Fin k1_t3_loop.trips) : Fin 2 → Nat :=
  let c31_i32_245 : BitVec 32 := 31#32
  let v527 : Index := Scalar.indexCast c31_i32_245
  let c0_i32_55 : BitVec 32 := 0#32
  let c1_i32_56 : BitVec 32 := 1#32
  let arg15 : BitVec 32 := Scf.iv c0_i32_55 c1_i32_56 k1_t3
  let c2_i32_147 : BitVec 32 := 2#32
  let v332 : BitVec 32 := Scalar.muli arg15 c2_i32_147
  let c1_i32_148 : BitVec 32 := 1#32
  let v333 : BitVec 32 := Scalar.addi v332 c1_i32_148
  let c16_i32_244 : BitVec 32 := 16#32
  let v526 : BitVec 32 := Scalar.muli v333 c16_i32_244
  let v528 : Index := Scalar.indexCast v526
  ![31, v528.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x4096x512 : Shape := ⟨3, ![8, 4096, 512]⟩
abbrev S512 : Shape := ⟨1, ![512]⟩
abbrev S_ : Shape := ⟨0, ![]⟩
abbrev S8x512 : Shape := ⟨2, ![8, 512]⟩
abbrev S1x512 : Shape := ⟨2, ![1, 512]⟩
abbrev S8 : Shape := ⟨1, ![8]⟩
abbrev S8x1 : Shape := ⟨2, ![8, 1]⟩
abbrev S8x1x512 : Shape := ⟨3, ![8, 1, 512]⟩
abbrev S8x4096x512x1 : Shape := ⟨4, ![8, 4096, 512, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S512, .f32⟩
  | .hbm, ⟨2, _⟩ => ⟨S_, .f32⟩
  | .hbm, ⟨3, _⟩ => ⟨S8x512, .f32⟩
  | .hbm, ⟨4, _⟩ => ⟨S1x512, .f32⟩
  | .hbm, ⟨5, _⟩ => ⟨S8x512, .f32⟩
  | .hbm, ⟨6, _⟩ => ⟨S8x512, .f32⟩
  | .hbm, ⟨7, _⟩ => ⟨S_, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8x1, .f32⟩
  | .hbm, ⟨18, _⟩ => ⟨S1x512, .f32⟩
  | .hbm, ⟨19, _⟩ => ⟨S8x512, .f32⟩
  | .hbm, ⟨20, _⟩ => ⟨S8x512, .f32⟩
  | .hbm, ⟨21, _⟩ => ⟨S8x512, .f32⟩
  | .hbm, ⟨22, _⟩ => ⟨S8x512, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S8x512, .i32⟩
  | .hbm, ⟨27, _⟩ => ⟨S8x512, .i32⟩
  | .hbm, ⟨28, _⟩ => ⟨S_, .i32⟩
  | .hbm, ⟨29, _⟩ => ⟨S8x512, .i32⟩
  | .hbm, ⟨30, _⟩ => ⟨S8x512, .i32⟩
  | .hbm, ⟨31, _⟩ => ⟨S8x1x512, .i32⟩
  | .hbm, ⟨32, _⟩ => ⟨S8x4096x512, .i32⟩
  | .hbm, ⟨33, _⟩ => ⟨S_, .i32⟩
  | .hbm, ⟨34, _⟩ => ⟨S8x4096x512, .i32⟩
  | .hbm, ⟨35, _⟩ => ⟨S8x4096x512, .i1⟩
  | .hbm, ⟨36, _⟩ => ⟨S_, .i32⟩
  | .hbm, ⟨37, _⟩ => ⟨S8x4096x512, .i32⟩
  | .hbm, ⟨38, _⟩ => ⟨S8x4096x512, .i32⟩
  | .hbm, ⟨39, _⟩ => ⟨S8x4096x512, .i32⟩
  | .hbm, ⟨40, _⟩ => ⟨S8x4096x512x1, .i32⟩
  | .hbm, ⟨41, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_c_4 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_v20 : Ref sig .tc := ⟨.hbm, 41, rfl⟩

abbrev nD : Nat := 1
abbrev τ : Topo := Topo.v7x

variable {F : FTy → Type} [FloatOps F]
-- ==== Proof.Steps.lean ====
/-
  One step of a subcore's inner trip, as a rule about what the trip holds.

  A trip of the inner loop copies sixteen columns of the staged block, chosen by sixteen index words, to sixteen
  adjacent columns of the output block, twice. It does so row by row: gather sixteen words of the row, store them in
  the row of the output. What the subcore holds meanwhile has one shape throughout (`H`): the index words, the staged
  block, and an output block of which the columns below `base` and the first `r` rows of the next sixteen are already
  the wanted function `G`. Each rule here takes that state over one operation.
-/
module

public import proofs.«01_k».proof.Defs
public import proofs.«01_k».proof.Proof.Gen.KernelIdeal
public import proofs.«01_k».proof.Proof.Gen.KernelIdeal.Skeleton
public import Idealize.ShloMosaic.Lib.SparseCore.Ops
public import Idealize.ShloMosaic.Lib.Pipeline.Value
public import Idealize.ShloMosaic.Lib.Writes
public import Idealize.ShloMosaic.Lib.Tactic

@[expose] public section

noncomputable section

namespace Cert.Proof.Steps

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix Name U Lvl : Type} [DecidableEq Ix] [DecidableEq Name] [URA U] [Preorder Lvl]
variable {Λ : Labels} {defs : Defs nD τ sig (Elt F) Λ} (𝒱 : Variants) {c : Thread nD τ} {bd : Option 𝒱.V} {E : Set Name}

/-- The output block is the wanted function on the columns below `base`, and on the first `r` rows of the sixteen
    columns from `base`. Nothing is said of the rest. -/
def Done (G f : S32x512.Idx → F .f32) (base r : ℕ) : Prop :=
  ∀ y, ((y 1).val < base ∨ ((y 1).val < base + 16 ∧ (y 0).val < r)) → f y = G y

/-- Sixteen words are row `r` of the wanted function, from column `base`. -/
def RowOK (G : S32x512.Idx → F .f32) (base r : ℕ) (v : S16.Idx → F .f32) : Prop :=
  ∀ (x : S16.Idx) (y : S32x512.Idx), (y 0).val = r → (y 1).val = base + (x 0).val → v x = G y

/-- Sixteen index words are the columns from which the wanted function takes the sixteen columns from `base`. -/
def ColOK (G R : S32x512.Idx → F .f32) (base : ℕ) (col : S16.Idx → BitVec 32) : Prop :=
  (∀ x, (col x).toNat < 512) ∧
    ∀ (x : S16.Idx) (y z : S32x512.Idx), (y 1).val = base + (x 0).val → (z 0).val = (y 0).val → (z 1).val = (col x).toNat → R z = G y

/-- What the subcore holds between two steps: a share of the index words, the staged block, and the output block. -/
def H (G : S32x512.Idx → F .f32) (mI : Memref sig c.2.kind .vmem S4096 .i32) (mB mO : Memref sig c.2.kind .vmem S32x512 .f32)
    (fI : Buf (Elt F) (mI.view.loc c)) (fB : Buf (Elt F) (mB.view.loc c)) (base r : ℕ) :
    sProp (MT nD τ sig Ix (Elt F) Name U Lvl) :=
  iprop((mI.view.loc c ↦[Finset.univ]{fullShare} fI) ∗ (mB.view.loc c ↦[Finset.univ]{fullShare} fB)
    ∗ ∃ f : Buf (Elt F) (mO.view.loc c), ⌜Done G (mO.view.read (Elt F) f) base r⌝ ∗ (mO.view.loc c ↦[Finset.univ]{fullShare} f))

variable {α : Type} {Q : α → sProp (MT nD τ sig Ix (Elt F) Name U Lvl)}
variable {G : S32x512.Idx → F .f32} {mI : Memref sig c.2.kind .vmem S4096 .i32} {mB mO : Memref sig c.2.kind .vmem S32x512 .f32}
variable {fI : Buf (Elt F) (mI.view.loc c)} {fB : Buf (Elt F) (mB.view.loc c)} {base r : ℕ}

theorem Done.roll {f : S32x512.Idx → F .f32} (h : Done G f base 32) : Done G f (base + 16) 0 := by
  intro y hy
  have h0 : (y 0).val < 32 := (y 0).isLt
  exact h y (by omega)

theorem Done.all {f : S32x512.Idx → F .f32} (h : Done G f 512 0) : f = G :=
  funext fun y => h y (.inl (y 1).isLt)

theorem Done.none {f : S32x512.Idx → F .f32} : Done G f 0 0 := fun y hy => by omega

/-- Storing a row of the wanted function extends what is done by that row. -/
theorem Done.store {f : Buf (Elt F) (mO.view.loc c)} {off : Fin 2 → ℕ} {inb : ∀ a, off a + S1x16.size a ≤ S32x512.size a}
    {v : S16.Idx → F .f32} {hc : S16.ShapeCasts S1x16} (hd : Done G (mO.view.read (Elt F) f) base r)
    (hoff : off = ![r, base]) (hv : RowOK G base r v) :
    Done G (mO.view.read (Elt F) ((mO.access (Rect.unit (s := S32x512) off S1x16.size inb)).write (Elt F) f (shapeCast S1x16 v hc) Finset.univ)) base (r + 1) := by
  subst hoff
  have hr : r + 1 ≤ 32 := inb 0
  have hb : base + 16 ≤ 512 := inb 1
  intro y hy
  have h0 : (y 0).val < 32 := (y 0).isLt
  by_cases hm : y ∈ (Rect.unit (s := S32x512) ![r, base] S1x16.size inb).set
  · obtain ⟨x, rfl⟩ := (Rect.unit (s := S32x512) ![r, base] S1x16.size inb).exists_idx_of_mem hm
    refine (View.read_slice_write_emb (v := mO.view) (Rect.unit (s := S32x512) ![r, base] S1x16.size inb) f
      (shapeCast S1x16 v hc) (Finset.mem_univ x)).trans ?_
    refine (shapeCast_addUnit_apply (n := 1) ![16] v hc x).trans (hv _ _ ?_ ?_)
    · have : (x 0).val < 1 := (x 0).isLt
      show r + 1 * (x 0).val = r
      omega
    · show base + 1 * (x 1).val = base + (x 1).val
      omega
  · refine (View.read_slice_write_of_not_mem (v := mO.view) (Rect.unit (s := S32x512) ![r, base] S1x16.size inb) f
      (shapeCast S1x16 v hc) Finset.univ (by rwa [Rect.map_emb_univ])).trans (hd y ?_)
    by_contra hn
    refine hm (Rect.mem_set_unit.mpr fun a => ?_)
    match a with
    | 0 => show r ≤ (y 0).val ∧ (y 0).val < r + 1; omega
    | 1 => show base ≤ (y 1).val ∧ (y 1).val < base + 16; omega

/-- The indices of a gather out of one row of a block are inside the block. -/
theorem idx_inb {col : S16.Idx → BitVec 32} {n : ℕ} (hcol : ∀ x, (col x).toNat < 512) (hn : n < 32) :
    ∀ a x, ((![broadcast S16 (BitVec.ofNat 32 n), col] : Fin 2 → IVec S16 32) a x).toNat < S32x512.size a := by
  intro a x
  match a with
  | 0 => show (BitVec.ofNat 32 n).toNat < 32; rw [BitVec.toNat_ofNat, Nat.mod_eq_of_lt (by omega)]; exact hn
  | 1 => exact hcol x

/-- What a gather out of row `n` reads at columns of the wanted function is row `n` of it. -/
theorem row_ok {R : S32x512.Idx → F .f32} {col : S16.Idx → BitVec 32} {n : ℕ} (hcol : ColOK G R base col) (hn : n < 32)
    (h : ∀ a x, ((![broadcast S16 (BitVec.ofNat 32 n), col] : Fin 2 → IVec S16 32) a x).toNat < S32x512.size a) :
    RowOK G base n (loadIdx (F := F) (e := .f32) R ![broadcast S16 (BitVec.ofNat 32 n), col] h) := by
  intro x y h0 h1
  refine hcol.2 x y _ h1 ?_ rfl
  show (BitVec.ofNat 32 n).toNat = _
  rw [BitVec.toNat_ofNat, Nat.mod_eq_of_lt (by omega), h0]

/-- A part of the body is entered at its own text. -/
theorem step_part {β : Type} {P : sProp (MT nD τ sig Ix (Elt F) Name U Lvl)} {p p' : Prog (TpuEff nD τ sig (Elt F) Λ c.2) β}
    {k : β → Prog (TpuEff nD τ sig (Elt F) Λ c.2) α} (hp : p = p') (h : P ⊢ wp frame (wpE defs 𝒱 c bd) E p' fun v => wp frame (wpE defs 𝒱 c bd) E (k v) Q) : P ⊢ wp frame (wpE defs 𝒱 c bd) E (p >>= k) Q := by
  subst hp; rw [wp_bind]; exact h

/-- A part's end hands its values to the rest. -/
theorem step_pure {β : Type} {P : sProp (MT nD τ sig Ix (Elt F) Name U Lvl)} {v : β} {Φ : β → sProp (MT nD τ sig Ix (Elt F) Name U Lvl)}
    (h : P ⊢ Φ v) : P ⊢ wp frame (wpE defs 𝒱 c bd) E (pure v : Prog (TpuEff nD τ sig (Elt F) Λ c.2) β) Φ := by
  rw [wp_pure]; exact h.trans fupd_intro

/-- An assumed fact that holds is passed by. -/
theorem step_assume {P : sProp (MT nD τ sig Ix (Elt F) Name U Lvl)} {A : Prop} {d : Decidable A} {k : PLift A → Prog (TpuEff nD τ sig (Elt F) Λ c.2) α}
    (hA : A) (h : P ⊢ wp frame (wpE defs 𝒱 c bd) E (k ⟨hA⟩) Q) : P ⊢ wp frame (wpE defs 𝒱 c bd) E (Prog.lift (.assume A d) >>= k) Q :=
  h.trans (wp_assume 𝒱 c bd E hA)

/-- Sixteen index words are loaded: whatever is known of them at every index is known of the value. -/
theorem step_col {rI : Rect S4096} {hl : mI.view.LoadsAt rI.toLoadRect} {k : (rI.shape.Idx → BitVec 32) → Prog (TpuEff nD τ sig (Elt F) Λ c.2) α}
    {C : (rI.shape.Idx → BitVec 32) → Prop} (hC : C (mI.view.readAt (Elt F) rI.toLoadRect fI))
    (h : ∀ v, C v → H G mI mB mO fI fB base r ⊢ wp frame (wpE defs 𝒱 c bd) E (k v) Q) :
    H G mI mB mO fI fB base r ⊢ wp frame (wpE defs 𝒱 c bd) E (Prog.lift (.load mI rI.toLoadRect hl) >>= k) Q := by
  have h' := h _ hC
  unfold H at h' ⊢
  iintro ⟨HI, HR⟩
  iapply (wp_load 𝒱 c bd E (hl := hl) (S := Finset.univ) (Finset.subset_univ _)) $$ [HI]
  · iexact HI
  · iintro HI
    iapply h'
    isplitl [HI]
    · iexact HI
    · iexact HR

/-- A row's words are gathered. -/
theorem step_gather {col : S16.Idx → BitVec 32} {n : ℕ} (hcol : ColOK G (mB.view.read (Elt F) fB) base col) (hn : n < 32)
    {hi : ∀ a x, ((![broadcast S16 (BitVec.ofNat 32 n), col] : Fin 2 → IVec S16 32) a x).toNat < S32x512.size a} {hl : mB.view.Loads}
    {k : (S16.Idx → F .f32) → Prog (TpuEff nD τ sig (Elt F) Λ c.2) α}
    (h : ∀ v, RowOK G base n v → H G mI mB mO fI fB base r ⊢ wp frame (wpE defs 𝒱 c bd) E (k v) Q) :
    H G mI mB mO fI fB base r
      ⊢ wp frame (wpE defs 𝒱 c bd) E (SparseCore.vectorLoadIdx mB ![broadcast S16 (BitVec.ofNat 32 n), col] hi hl >>= k) Q := by
  have e : (mB.access (Rect.whole S32x512)).read (Elt F) fB = mB.view.read (Elt F) fB :=
    funext fun x => congrArg (mB.view.read (Elt F) fB) (funext fun a => Fin.ext (by show 0 + 1 * (x a).val = (x a).val; omega))
  rw [← e] at hcol
  have h' := h _ (row_ok hcol hn hi)
  unfold H at h' ⊢
  iintro ⟨HI, HB, HR⟩
  iapply (SparseCore.wp_vectorLoadIdx 𝒱 c bd E (S := Finset.univ) (q := fullShare) (f := fB) (Finset.subset_univ _)) $$ [HB]
  · iexact HB
  · iintro HB
    iapply h'
    isplitl [HI]
    · iexact HI
    · isplitl [HB]
      · iexact HB
      · iexact HR

/-- The words a store is about to replace are read first, and not used. -/
theorem step_load {rO : Rect S32x512} {hl : mO.view.LoadsAt rO.toLoadRect} {k : (rO.shape.Idx → F .f32) → Prog (TpuEff nD τ sig (Elt F) Λ c.2) α}
    (h : ∀ v, H G mI mB mO fI fB base r ⊢ wp frame (wpE defs 𝒱 c bd) E (k v) Q) :
    H G mI mB mO fI fB base r ⊢ wp frame (wpE defs 𝒱 c bd) E (Prog.lift (.load mO rO.toLoadRect hl) >>= k) Q := by
  unfold H at h ⊢
  iintro ⟨HI, HB, ⟨%f, %hd, HO⟩⟩
  iapply (wp_load 𝒱 c bd E (hl := hl) (S := Finset.univ) (q := fullShare) (f := f) (Finset.subset_univ _)) $$ [HO]
  · iexact HO
  · iintro HO
    iapply (h _)
    isplitl [HI]
    · iexact HI
    · isplitl [HB]
      · iexact HB
      · iexists f
        isplitr
        · ipureintro; exact hd
        · iexact HO

/-- A row of the wanted function is stored. -/
theorem step_store {off : Fin 2 → ℕ} {inb : ∀ a, off a + S1x16.size a ≤ S32x512.size a} {v : S16.Idx → F .f32} {hc : S16.ShapeCasts S1x16}
    {hx : (mO.access (Rect.unit (s := S32x512) off S1x16.size inb)).Stores Finset.univ} {hm : Finset.univ = Finset.univ ∨ ∀ a, (Rect.unit (s := S32x512) off S1x16.size inb).stride a = 1}
    {k : PUnit → Prog (TpuEff nD τ sig (Elt F) Λ c.2) α} (hoff : off = ![r, base]) (hv : RowOK G base r v)
    (h : H G mI mB mO fI fB base (r + 1) ⊢ wp frame (wpE defs 𝒱 c bd) E (k ⟨⟩) Q) :
    H G mI mB mO fI fB base r
      ⊢ wp frame (wpE defs 𝒱 c bd) E (Prog.lift (.store mO (Rect.unit (s := S32x512) off S1x16.size inb) (shapeCast S1x16 v hc) Finset.univ hx hm) >>= k) Q := by
  unfold H at h ⊢
  iintro ⟨HI, HB, ⟨%f, %hd, HO⟩⟩
  iapply (wp_store 𝒱 c bd E (hx := hx) (hm := hm) (S := Finset.univ) (f := f) (Finset.subset_univ _)) $$ [HO]
  · iexact HO
  · iintro HO
    iapply h
    isplitl [HI]
    · iexact HI
    · isplitl [HB]
      · iexact HB
      · iexists ((mO.access (Rect.unit (s := S32x512) off S1x16.size inb)).write (Elt F) f (shapeCast S1x16 v hc) Finset.univ)
        isplitr
        · ipureintro; exact hd.store hoff hv
        · iexact HO

/-- Once all thirty-two rows of sixteen columns are done, the next sixteen begin. -/
theorem step_roll {P : sProp (MT nD τ sig Ix (Elt F) Name U Lvl)} (h : H G mI mB mO fI fB (base + 16) 0 ⊢ P) :
    H G mI mB mO fI fB base 32 ⊢ P := by
  refine BIBase.Entails.trans ?_ h
  unfold H
  iintro ⟨HI, HB, ⟨%f, %hd, HO⟩⟩
  isplitl [HI]
  · iexact HI
  · isplitl [HB]
    · iexact HB
    · iexists f
      isplitr
      · ipureintro; exact hd.roll
      · iexact HO

end Cert.Proof.Steps

end
-- ==== Proof.Trip.lean ====
/-
  One trip of each inner loop: thirty-two columns of the output block.

  In outer trip `t` the staged block is thirty-two rows of batch `t / 4`; inner trip `j` moves the columns
  `32 j … 32 j + 31` of the output block, each from the column that batch's index word names. `picked X R b` is the
  block wanted: row by row, the staged block `R` at the columns the words `X` of batch `b` name. The even and the odd
  outer trips run the same steps over different buffers.
-/
module

public import proofs.«01_k».proof.Proof.Steps

@[expose] public section

noncomputable section

namespace Cert.Proof.Trip

open Cert.KernelIdeal Cert.KernelIdeal.Gen Cert.Proof.Steps
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A place of the array of index words. -/
abbrev at1 (n : ℕ) (h : n < 4096) : S4096.Idx := fun a => match a with | 0 => ⟨n, h⟩
/-- A place of a block. -/
abbrev at2 (r k : ℕ) (hr : r < 32) (hk : k < 512) : S32x512.Idx := fun a => match a with | 0 => ⟨r, hr⟩ | 1 => ⟨k, hk⟩

/-- The block of batch `b` with its columns chosen by the index words: column `k` of it is the column of `R` the word
    `512 b + k` of `X` names. -/
def picked (X : S4096.Idx → BitVec 32) (R : S32x512.Idx → F .f32) (b : ℕ) : S32x512.Idx → F .f32 := fun y =>
  R (at2 (y 0).val ((X (at1 ((512 * b + (y 1).val) % 4096) (Nat.mod_lt _ (by decide)))).toNat % 512) (y 0).isLt (Nat.mod_lt _ (by decide)))

/-- Sixteen index words read at `512 b + base` are the columns of the block from column `base`. -/
theorem col_ok {X : S4096.Idx → BitVec 32} {R : S32x512.Idx → F .f32} (hX : ∀ j, (X j).toNat < 512) {b base : ℕ} {off : Fin 1 → ℕ}
    {inb : ∀ a, off a + S16.size a ≤ S4096.size a} (hoff : off 0 = 512 * b + base) :
    ColOK (picked X R b) R base (fun x => X ((Rect.unit (s := S4096) off S16.size inb).toLoadRect.idx x)) := by
  refine ⟨fun x => hX _, fun x y z h1 h0 hz => ?_⟩
  have hi : (Rect.unit (s := S4096) off S16.size inb).toLoadRect.idx x
      = at1 ((512 * b + (y 1).val) % 4096) (Nat.mod_lt _ (by decide)) := by
    funext a
    match a with
    | 0 =>
      apply Fin.ext
      have hb : off 0 + 16 ≤ 4096 := inb 0
      have hx : (x 0).val < 16 := (x 0).isLt
      show off 0 + 1 * (x 0).val = (512 * b + (y 1).val) % 4096
      rw [Nat.mod_eq_of_lt (by omega)]
      omega
  have hz' : (z 1).val = (X (at1 ((512 * b + (y 1).val) % 4096) (Nat.mod_lt _ (by decide)))).toNat := by rw [← hi]; exact hz
  unfold picked
  congr 1
  funext a
  match a with
  | 0 => exact Fin.ext h0
  | 1 =>
    apply Fin.ext
    show (z 1).val = _ % 512
    rw [hz', Nat.mod_eq_of_lt (hX _)]

/-! ## Where the sixteens of a trip lie -/

theorem w_lo : ∀ j : Fin k1_t2_loop.trips,
    (Scalar.indexCast (Scalar.muli (Scalar.addi (Scalar.muli (Scf.iv 0#32 1#32 j.val) 2#32) 0#32) 16#32)).toNat = 32 * j.val := by decide +kernel
theorem w_hi : ∀ j : Fin k1_t2_loop.trips,
    (Scalar.indexCast (Scalar.muli (Scalar.addi (Scalar.muli (Scf.iv 0#32 1#32 j.val) 2#32) 1#32) 16#32)).toNat = 32 * j.val + 16 := by decide +kernel

/-- The first sixteen columns of trip `j`, in row `n`. -/
theorem off_lo (n : ℕ) (j : Fin k1_t2_loop.trips) :
    (![n, (Scalar.indexCast (Scalar.muli (Scalar.addi (Scalar.muli (Scf.iv 0#32 1#32 j.val) 2#32) 0#32) 16#32)).toNat] : Fin 2 → ℕ)
      = ![n, 32 * j.val] := by rw [w_lo]
/-- The second sixteen, in row `n`. -/
theorem off_hi (n : ℕ) (j : Fin k1_t2_loop.trips) :
    (![n, (Scalar.indexCast (Scalar.muli (Scalar.addi (Scalar.muli (Scf.iv 0#32 1#32 j.val) 2#32) 1#32) 16#32)).toNat] : Fin 2 → ℕ)
      = ![n, 32 * j.val + 16] := by rw [w_hi]

theorem col_lo : ∀ (t : Fin k1_t1_loop.trips) (j : Fin k1_t2_loop.trips), k1_off5 t j 0 = 512 * (t.val / 4) + 32 * j.val := by decide +kernel
theorem col_hi : ∀ (t : Fin k1_t1_loop.trips) (j : Fin k1_t2_loop.trips), k1_off38 t j 0 = 512 * (t.val / 4) + (32 * j.val + 16) := by decide +kernel
theorem col_lo' : ∀ (t : Fin k1_t1_loop.trips) (j : Fin k1_t3_loop.trips), k1_off74 t j 0 = 512 * (t.val / 4) + 32 * j.val := by decide +kernel
theorem col_hi' : ∀ (t : Fin k1_t1_loop.trips) (j : Fin k1_t3_loop.trips), k1_off107 t j 0 = 512 * (t.val / 4) + (32 * j.val + 16) := by decide +kernel

variable {Ix Name U Lvl : Type} [DecidableEq Ix] [DecidableEq Name] [URA U] [Preorder Lvl]
variable {Λ : Labels} (𝒱 : Variants)

set_option maxHeartbeats 8000000 in
set_option maxRecDepth 65536 in
/-- An even outer trip's inner trip `j`: the columns below `32 j` done, the columns below `32 j + 32` are done after. -/
theorem trip_even (d : Dev nD) (i : grid1.Coords) {defs : Defs nD τ sig (Elt F) Λ₀} {bd : Option 𝒱.V} {E : Set Name}
    (arg2 : Memref sig .scVector .hbm S32768x512 .f32) (harg2 : arg2.IsWhole) (arg3 : Memref sig .scVector .hbm S4096 .i32) (harg3 : arg3.IsWhole)
    (arg4 : Memref sig .scVector .hbm S32768x512 .f32) (harg4 : arg4.IsWhole) (arg5 : Memref sig .scVector .vmem S4096 .i32) (harg5 : arg5.IsWhole)
    (arg6 : Memref sig .scVector .vmem S32x512 .f32) (harg6 : arg6.IsWhole) (arg7 : Memref sig .scVector .vmem S32x512 .f32) (harg7 : arg7.IsWhole)
    (arg8 : Memref sig .scVector .vmem S32x512 .f32) (harg8 : arg8.IsWhole) (arg9 : Memref sig .scVector .vmem S32x512 .f32) (harg9 : arg9.IsWhole)
    (arg10 arg11 arg12 arg13 v16_r0 : DmaSems sig S_) (t : Fin k1_t1_loop.trips) (arg14 : BitVec 32) (h1 : k1_cond1 t = 1#1) (v99 : BitVec 32)
    (j : Fin k1_t2_loop.trips)
    (fI : Buf (Elt F) (arg5.view.loc ((d, .scVector ((i 0).castLE hcore1) ((i 1).castLE hsub1)) : Thread nD τ)))
    (fB : Buf (Elt F) (arg6.view.loc ((d, .scVector ((i 0).castLE hcore1) ((i 1).castLE hsub1)) : Thread nD τ)))
    (hX : ∀ n, (arg5.view.read (Elt F) fI n).toNat < 512) :
    (H (c := (d, .scVector ((i 0).castLE hcore1) ((i 1).castLE hsub1))) (picked (arg5.view.read (Elt F) fI) (arg6.view.read (Elt F) fB) (t.val / 4)) arg5 arg6 arg8 fI fB (32 * j.val) 0 : sProp (MT nD τ sig Ix (Elt F) Name U Lvl))
      ⊢ wp frame (wpE defs 𝒱 (d, .scVector ((i 0).castLE hcore1) ((i 1).castLE hsub1)) bd) E
        (k1_t2_body (F := F) i arg2 harg2 arg3 harg3 arg4 harg4 arg5 harg5 arg6 harg6 arg7 harg7 arg8 harg8 arg9 harg9 arg10 arg11 arg12 arg13 v16_r0 t arg14 h1 v99 j ())
        fun _ => H (c := (d, .scVector ((i 0).castLE hcore1) ((i 1).castLE hsub1))) (picked (arg5.view.read (Elt F) fI) (arg6.view.read (Elt F) fB) (t.val / 4)) arg5 arg6 arg8 fI fB (32 * j.val + 32) 0 := by
  unfold k1_t2_body
  rw [wp_bind, k1_part1_eq_skeleton]; unfold k1_part1_skel
  refine step_col 𝒱 (C := ColOK (F := F) (picked (arg5.view.read (Elt F) fI) (arg6.view.read (Elt F) fB) (t.val / 4)) (arg6.view.read (Elt F) fB) (32 * j.val))
    (col_ok hX (col_lo t j)) fun col hcol => ?_
  iterate 8 (refine step_assume 𝒱 (fun _ => idx_inb hcol.1 (by decide)) ?_; refine step_gather 𝒱 hcol (by decide) fun v hv => ?_)
  iterate 2 (refine step_load 𝒱 fun _ => ?_; refine step_store 𝒱 (off_lo _ j) (by assumption) ?_)
  refine step_pure 𝒱 ?_; dsimp only
  rw [wp_bind, k1_part2_eq_skeleton]; unfold k1_part2_skel
  iterate 6 (refine step_load 𝒱 fun _ => ?_; refine step_store 𝒱 (off_lo _ j) (by assumption) ?_)
  iterate 3 (refine step_assume 𝒱 (fun _ => idx_inb hcol.1 (by decide)) ?_; refine step_gather 𝒱 hcol (by decide) fun v hv => ?_)
  refine step_pure 𝒱 ?_; dsimp only
  rw [wp_bind, k1_part3_eq_skeleton]; unfold k1_part3_skel
  iterate 5 (refine step_assume 𝒱 (fun _ => idx_inb hcol.1 (by decide)) ?_; refine step_gather 𝒱 hcol (by decide) fun v hv => ?_)
  iterate 5 (refine step_load 𝒱 fun _ => ?_; refine step_store 𝒱 (off_lo _ j) (by assumption) ?_)
  refine step_pure 𝒱 ?_; dsimp only
  rw [wp_bind, k1_part4_eq_skeleton]; unfold k1_part4_skel
  iterate 3 (refine step_load 𝒱 fun _ => ?_; refine step_store 𝒱 (off_lo _ j) (by assumption) ?_)
  iterate 8 (refine step_assume 𝒱 (fun _ => idx_inb hcol.1 (by decide)) ?_; refine step_gather 𝒱 hcol (by decide) fun v hv => ?_)
  refine step_load 𝒱 fun _ => ?_
  refine step_pure 𝒱 ?_; dsimp only
  rw [wp_bind, k1_part5_eq_skeleton]; unfold k1_part5_skel
  refine step_store 𝒱 (off_lo _ j) (by assumption) ?_
  iterate 7 (refine step_load 𝒱 fun _ => ?_; refine step_store 𝒱 (off_lo _ j) (by assumption) ?_)
  refine step_pure 𝒱 ?_
  rw [wp_bind, k1_part6_eq_skeleton]; unfold k1_part6_skel
  iterate 8 (refine step_assume 𝒱 (fun _ => idx_inb hcol.1 (by decide)) ?_; refine step_gather 𝒱 hcol (by decide) fun v hv => ?_)
  iterate 3 (refine step_load 𝒱 fun _ => ?_; refine step_store 𝒱 (off_lo _ j) (by assumption) ?_)
  refine step_load 𝒱 fun _ => ?_
  refine step_pure 𝒱 ?_; dsimp only
  rw [wp_bind, k1_part7_eq_skeleton]; unfold k1_part7_skel
  refine step_store 𝒱 (off_lo _ j) (by assumption) ?_
  iterate 4 (refine step_load 𝒱 fun _ => ?_; refine step_store 𝒱 (off_lo _ j) (by assumption) ?_)
  refine step_roll ?_
  refine step_col 𝒱 (C := ColOK (F := F) (picked (arg5.view.read (Elt F) fI) (arg6.view.read (Elt F) fB) (t.val / 4)) (arg6.view.read (Elt F) fB) (32 * j.val + 16))
    (col_ok hX (col_hi t j)) fun col hcol => ?_
  iterate 4 (refine step_assume 𝒱 (fun _ => idx_inb hcol.1 (by decide)) ?_; refine step_gather 𝒱 hcol (by decide) fun v hv => ?_)
  refine step_pure 𝒱 ?_; dsimp only
  rw [wp_bind, k1_part8_eq_skeleton]; unfold k1_part8_skel
  iterate 4 (refine step_assume 𝒱 (fun _ => idx_inb hcol.1 (by decide)) ?_; refine step_gather 𝒱 hcol (by decide) fun v hv => ?_)
  iterate 5 (refine step_load 𝒱 fun _ => ?_; refine step_store 𝒱 (off_hi _ j) (by assumption) ?_)
  refine step_pure 𝒱 ?_; dsimp only
  rw [wp_bind, k1_part9_eq_skeleton]; unfold k1_part9_skel
  iterate 3 (refine step_load 𝒱 fun _ => ?_; refine step_store 𝒱 (off_hi _ j) (by assumption) ?_)
  iterate 8 (refine step_assume 𝒱 (fun _ => idx_inb hcol.1 (by decide)) ?_; refine step_gather 𝒱 hcol (by decide) fun v hv => ?_)
  iterate 1 (refine step_load 𝒱 fun _ => ?_; refine step_store 𝒱 (off_hi _ j) (by assumption) ?_)
  refine step_pure 𝒱 ?_; dsimp only
  rw [wp_bind, k1_part10_eq_skeleton]; unfold k1_part10_skel
  iterate 7 (refine step_load 𝒱 fun _ => ?_; refine step_store 𝒱 (off_hi _ j) (by assumption) ?_)
  iterate 1 (refine step_assume 𝒱 (fun _ => idx_inb hcol.1 (by decide)) ?_; refine step_gather 𝒱 hcol (by decide) fun v hv => ?_)
  refine step_pure 𝒱 ?_; dsimp only
  rw [wp_bind, k1_part11_eq_skeleton]; unfold k1_part11_skel
  iterate 7 (refine step_assume 𝒱 (fun _ => idx_inb hcol.1 (by decide)) ?_; refine step_gather 𝒱 hcol (by decide) fun v hv => ?_)
  iterate 4 (refine step_load 𝒱 fun _ => ?_; refine step_store 𝒱 (off_hi _ j) (by assumption) ?_)
  refine step_pure 𝒱 ?_; dsimp only
  rw [wp_bind, k1_part12_eq_skeleton]; unfold k1_part12_skel
  iterate 4 (refine step_load 𝒱 fun _ => ?_; refine step_store 𝒱 (off_hi _ j) (by assumption) ?_)
  iterate 7 (refine step_assume 𝒱 (fun _ => idx_inb hcol.1 (by decide)) ?_; refine step_gather 𝒱 hcol (by decide) fun v hv => ?_)
  refine step_pure 𝒱 ?_; dsimp only
  rw [wp_bind, k1_part13_eq_skeleton]; unfold k1_part13_skel
  iterate 1 (refine step_assume 𝒱 (fun _ => idx_inb hcol.1 (by decide)) ?_; refine step_gather 𝒱 hcol (by decide) fun v hv => ?_)
  iterate 7 (refine step_load 𝒱 fun _ => ?_; refine step_store 𝒱 (off_hi _ j) (by assumption) ?_)
  refine step_pure 𝒱 ?_; dsimp only
  iterate 1 (refine step_load 𝒱 fun _ => ?_; refine step_store 𝒱 (off_hi _ j) (by assumption) ?_)
  refine step_pure 𝒱 (step_roll ?_)
  exact .rfl

set_option maxHeartbeats 8000000 in
set_option maxRecDepth 65536 in
/-- An odd outer trip's inner trip `j`: the columns below `32 j` done, the columns below `32 j + 32` are done after. -/
theorem trip_odd (d : Dev nD) (i : grid1.Coords) {defs : Defs nD τ sig (Elt F) Λ₀} {bd : Option 𝒱.V} {E : Set Name}
    (arg2 : Memref sig .scVector .hbm S32768x512 .f32) (harg2 : arg2.IsWhole) (arg3 : Memref sig .scVector .hbm S4096 .i32) (harg3 : arg3.IsWhole)
    (arg4 : Memref sig .scVector .hbm S32768x512 .f32) (harg4 : arg4.IsWhole) (arg5 : Memref sig .scVector .vmem S4096 .i32) (harg5 : arg5.IsWhole)
    (arg6 : Memref sig .scVector .vmem S32x512 .f32) (harg6 : arg6.IsWhole) (arg7 : Memref sig .scVector .vmem S32x512 .f32) (harg7 : arg7.IsWhole)
    (arg8 : Memref sig .scVector .vmem S32x512 .f32) (harg8 : arg8.IsWhole) (arg9 : Memref sig .scVector .vmem S32x512 .f32) (harg9 : arg9.IsWhole)
    (arg10 arg11 arg12 arg13 v16_r0 : DmaSems sig S_) (t : Fin k1_t1_loop.trips) (arg14 : BitVec 32) (h4 : k1_cond4 t = 1#1) (v99 : BitVec 32)
    (j : Fin k1_t3_loop.trips)
    (fI : Buf (Elt F) (arg5.view.loc ((d, .scVector ((i 0).castLE hcore1) ((i 1).castLE hsub1)) : Thread nD τ)))
    (fB : Buf (Elt F) (arg7.view.loc ((d, .scVector ((i 0).castLE hcore1) ((i 1).castLE hsub1)) : Thread nD τ)))
    (hX : ∀ n, (arg5.view.read (Elt F) fI n).toNat < 512) :
    (H (c := (d, .scVector ((i 0).castLE hcore1) ((i 1).castLE hsub1))) (picked (arg5.view.read (Elt F) fI) (arg7.view.read (Elt F) fB) (t.val / 4)) arg5 arg7 arg9 fI fB (32 * j.val) 0 : sProp (MT nD τ sig Ix (Elt F) Name U Lvl))
      ⊢ wp frame (wpE defs 𝒱 (d, .scVector ((i 0).castLE hcore1) ((i 1).castLE hsub1)) bd) E
        (k1_t3_body (F := F) i arg2 harg2 arg3 harg3 arg4 harg4 arg5 harg5 arg6 harg6 arg7 harg7 arg8 harg8 arg9 harg9 arg10 arg11 arg12 arg13 v16_r0 t arg14 h4 v99 j ())
        fun _ => H (c := (d, .scVector ((i 0).castLE hcore1) ((i 1).castLE hsub1))) (picked (arg5.view.read (Elt F) fI) (arg7.view.read (Elt F) fB) (t.val / 4)) arg5 arg7 arg9 fI fB (32 * j.val + 32) 0 := by
  unfold k1_t3_body
  rw [wp_bind, k1_part16_eq_skeleton]; unfold k1_part16_skel
  refine step_col 𝒱 (C := ColOK (F := F) (picked (arg5.view.read (Elt F) fI) (arg7.view.read (Elt F) fB) (t.val / 4)) (arg7.view.read (Elt F) fB) (32 * j.val))
    (col_ok hX (col_lo' t j)) fun col hcol => ?_
  iterate 8 (refine step_assume 𝒱 (fun _ => idx_inb hcol.1 (by decide)) ?_; refine step_gather 𝒱 hcol (by decide) fun v hv => ?_)
  iterate 2 (refine step_load 𝒱 fun _ => ?_; refine step_store 𝒱 (off_lo _ j) (by assumption) ?_)
  refine step_pure 𝒱 ?_; dsimp only
  rw [wp_bind, k1_part17_eq_skeleton]; unfold k1_part17_skel
  iterate 6 (refine step_load 𝒱 fun _ => ?_; refine step_store 𝒱 (off_lo _ j) (by assumption) ?_)
  iterate 3 (refine step_assume 𝒱 (fun _ => idx_inb hcol.1 (by decide)) ?_; refine step_gather 𝒱 hcol (by decide) fun v hv => ?_)
  refine step_pure 𝒱 ?_; dsimp only
  rw [wp_bind, k1_part18_eq_skeleton]; unfold k1_part18_skel
  iterate 5 (refine step_assume 𝒱 (fun _ => idx_inb hcol.1 (by decide)) ?_; refine step_gather 𝒱 hcol (by decide) fun v hv => ?_)
  iterate 5 (refine step_load 𝒱 fun _ => ?_; refine step_store 𝒱 (off_lo _ j) (by assumption) ?_)
  refine step_pure 𝒱 ?_; dsimp only
  rw [wp_bind, k1_part19_eq_skeleton]; unfold k1_part19_skel
  iterate 3 (refine step_load 𝒱 fun _ => ?_; refine step_store 𝒱 (off_lo _ j) (by assumption) ?_)
  iterate 8 (refine step_assume 𝒱 (fun _ => idx_inb hcol.1 (by decide)) ?_; refine step_gather 𝒱 hcol (by decide) fun v hv => ?_)
  refine step_load 𝒱 fun _ => ?_
  refine step_pure 𝒱 ?_; dsimp only
  rw [wp_bind, k1_part20_eq_skeleton]; unfold k1_part20_skel
  refine step_store 𝒱 (off_lo _ j) (by assumption) ?_
  iterate 7 (refine step_load 𝒱 fun _ => ?_; refine step_store 𝒱 (off_lo _ j) (by assumption) ?_)
  refine step_pure 𝒱 ?_
  rw [wp_bind, k1_part21_eq_skeleton]; unfold k1_part21_skel
  iterate 8 (refine step_assume 𝒱 (fun _ => idx_inb hcol.1 (by decide)) ?_; refine step_gather 𝒱 hcol (by decide) fun v hv => ?_)
  iterate 3 (refine step_load 𝒱 fun _ => ?_; refine step_store 𝒱 (off_lo _ j) (by assumption) ?_)
  refine step_load 𝒱 fun _ => ?_
  refine step_pure 𝒱 ?_; dsimp only
  rw [wp_bind, k1_part22_eq_skeleton]; unfold k1_part22_skel
  refine step_store 𝒱 (off_lo _ j) (by assumption) ?_
  iterate 4 (refine step_load 𝒱 fun _ => ?_; refine step_store 𝒱 (off_lo _ j) (by assumption) ?_)
  refine step_roll ?_
  refine step_col 𝒱 (C := ColOK (F := F) (picked (arg5.view.read (Elt F) fI) (arg7.view.read (Elt F) fB) (t.val / 4)) (arg7.view.read (Elt F) fB) (32 * j.val + 16))
    (col_ok hX (col_hi' t j)) fun col hcol => ?_
  iterate 4 (refine step_assume 𝒱 (fun _ => idx_inb hcol.1 (by decide)) ?_; refine step_gather 𝒱 hcol (by decide) fun v hv => ?_)
  refine step_pure 𝒱 ?_; dsimp only
  rw [wp_bind, k1_part23_eq_skeleton]; unfold k1_part23_skel
  iterate 4 (refine step_assume 𝒱 (fun _ => idx_inb hcol.1 (by decide)) ?_; refine step_gather 𝒱 hcol (by decide) fun v hv => ?_)
  iterate 5 (refine step_load 𝒱 fun _ => ?_; refine step_store 𝒱 (off_hi _ j) (by assumption) ?_)
  refine step_pure 𝒱 ?_; dsimp only
  rw [wp_bind, k1_part24_eq_skeleton]; unfold k1_part24_skel
  iterate 3 (refine step_load 𝒱 fun _ => ?_; refine step_store 𝒱 (off_hi _ j) (by assumption) ?_)
  iterate 8 (refine step_assume 𝒱 (fun _ => idx_inb hcol.1 (by decide)) ?_; refine step_gather 𝒱 hcol (by decide) fun v hv => ?_)
  iterate 1 (refine step_load 𝒱 fun _ => ?_; refine step_store 𝒱 (off_hi _ j) (by assumption) ?_)
  refine step_pure 𝒱 ?_; dsimp only
  rw [wp_bind, k1_part25_eq_skeleton]; unfold k1_part25_skel
  iterate 7 (refine step_load 𝒱 fun _ => ?_; refine step_store 𝒱 (off_hi _ j) (by assumption) ?_)
  iterate 1 (refine step_assume 𝒱 (fun _ => idx_inb hcol.1 (by decide)) ?_; refine step_gather 𝒱 hcol (by decide) fun v hv => ?_)
  refine step_pure 𝒱 ?_; dsimp only
  rw [wp_bind, k1_part26_eq_skeleton]; unfold k1_part26_skel
  iterate 7 (refine step_assume 𝒱 (fun _ => idx_inb hcol.1 (by decide)) ?_; refine step_gather 𝒱 hcol (by decide) fun v hv => ?_)
  iterate 4 (refine step_load 𝒱 fun _ => ?_; refine step_store 𝒱 (off_hi _ j) (by assumption) ?_)
  refine step_pure 𝒱 ?_; dsimp only
  rw [wp_bind, k1_part27_eq_skeleton]; unfold k1_part27_skel
  iterate 4 (refine step_load 𝒱 fun _ => ?_; refine step_store 𝒱 (off_hi _ j) (by assumption) ?_)
  iterate 7 (refine step_assume 𝒱 (fun _ => idx_inb hcol.1 (by decide)) ?_; refine step_gather 𝒱 hcol (by decide) fun v hv => ?_)
  refine step_pure 𝒱 ?_; dsimp only
  rw [wp_bind, k1_part28_eq_skeleton]; unfold k1_part28_skel
  iterate 1 (refine step_assume 𝒱 (fun _ => idx_inb hcol.1 (by decide)) ?_; refine step_gather 𝒱 hcol (by decide) fun v hv => ?_)
  iterate 7 (refine step_load 𝒱 fun _ => ?_; refine step_store 𝒱 (off_hi _ j) (by assumption) ?_)
  refine step_pure 𝒱 ?_; dsimp only
  iterate 1 (refine step_load 𝒱 fun _ => ?_; refine step_store 𝒱 (off_hi _ j) (by assumption) ?_)
  refine step_pure 𝒱 (step_roll ?_)
  exact .rfl

end Cert.Proof.Trip

end
-- ==== Proof.Copies.lean ====
/-
  The copies of one subcore: a block of thirty-two rows comes in, a block of thirty-two rows goes out.

  A fetch takes the rows from `n` on of the data array into a staging buffer; a write-back takes an output buffer to the
  same rows of the result array. Both are local copies on a semaphore the subcore alone uses: from the moment one is
  issued until its wait, what it touches is held by the copy (`Fetch`, `Out`), and the wait hands it back.
-/
module

public import proofs.«01_k».proof.Proof.Trip
public import Idealize.ShloMosaic.Lib.SparseCore.Quiescent

@[expose] public section

noncomputable section

namespace Cert.Proof.Copies

open Cert.KernelIdeal Cert.KernelIdeal.Gen Cert.Proof.Steps Cert.Proof.Trip
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Rows -/

/-- The thirty-two rows from `n` on of a 32768-row array. -/
def rowsAt (n : ℕ) : Finset S32768x512.Idx := Finset.univ.filter fun y => n ≤ (y 0).val ∧ (y 0).val < n + 32

theorem mem_rowsAt {n : ℕ} {y : S32768x512.Idx} : y ∈ rowsAt n ↔ n ≤ (y 0).val ∧ (y 0).val < n + 32 := by simp [rowsAt]

/-- A slice of thirty-two whole rows. -/
theorem set_rows {n : ℕ} {off : Fin 2 → ℕ} {inb : ∀ a, off a + S32x512.size a ≤ S32768x512.size a} (hoff : off = ![n, 0]) :
    (Rect.unit (s := S32768x512) off S32x512.size inb).set = rowsAt n := by
  subst hoff
  ext y
  rw [Rect.mem_set_unit, mem_rowsAt, Fin.forall_fin_two]
  have h1 : (y 1).val < 512 := (y 1).isLt
  show (n ≤ (y 0).val ∧ (y 0).val < n + 32) ∧ (0 ≤ (y 1).val ∧ (y 1).val < 0 + 512) ↔ _
  omega

/-- Where the slice places an index. -/
theorem emb_rows {n : ℕ} {off : Fin 2 → ℕ} {inb : ∀ a, off a + S32x512.size a ≤ S32768x512.size a} (hoff : off = ![n, 0]) (y : S32x512.Idx) :
    (((Rect.unit (s := S32768x512) off S32x512.size inb).emb y : S32768x512.Idx) 0).val = n + (y 0).val
      ∧ (((Rect.unit (s := S32768x512) off S32x512.size inb).emb y : S32768x512.Idx) 1).val = (y 1).val := by
  subst hoff
  constructor
  · show n + 1 * (y 0).val = _; omega
  · show 0 + 1 * (y 1).val = _; omega

/-- A block holds the rows from `n` on of an array. -/
def Holds (dat : S32768x512.Idx → F .f32) (n : ℕ) (f : S32x512.Idx → F .f32) : Prop :=
  ∀ (y : S32x512.Idx) (z : S32768x512.Idx), (z 0).val = n + (y 0).val → (z 1).val = (y 1).val → f y = dat z

/-- A place of the 32768-row arrays. -/
abbrev atRow (z : S32768x512.Idx) (k : ℕ) (hk : k < 512) : S32768x512.Idx := fun a => match a with | 0 => z 0 | 1 => ⟨k, hk⟩

/-- The result: each element from the same row of the data, at the column its batch's index word names. -/
def result (dat : S32768x512.Idx → F .f32) (X : S4096.Idx → BitVec 32) : S32768x512.Idx → F .f32 := fun z =>
  dat (atRow z ((X (at1 ((512 * ((z 0).val / 4096) + (z 1).val) % 4096) (Nat.mod_lt _ (by decide)))).toNat % 512) (Nat.mod_lt _ (by decide)))

/-- The picked block of rows of one batch is the result on those rows. -/
theorem picked_result {dat : S32768x512.Idx → F .f32} {X : S4096.Idx → BitVec 32} {R : S32x512.Idx → F .f32} {n b : ℕ} (hR : Holds dat n R)
    (hb : 4096 * b ≤ n ∧ n + 32 ≤ 4096 * (b + 1)) (y : S32x512.Idx) (z : S32768x512.Idx) (h0 : (z 0).val = n + (y 0).val) (h1 : (z 1).val = (y 1).val) :
    picked X R b y = result dat X z := by
  have hy : (y 0).val < 32 := (y 0).isLt
  have hq : (z 0).val / 4096 = b := by omega
  unfold picked result
  refine hR _ _ h0 ?_
  have e : ∀ (m m' : ℕ) (hm : m < 4096) (hm' : m' < 4096), m = m' → (X (at1 m hm)).toNat % 512 = (X (at1 m' hm')).toNat % 512 :=
    fun m m' hm hm' e => by subst e; rfl
  exact e _ _ _ _ (by rw [hq, h1])

/-! ## What a copy holds while it is under way -/

variable {Ix Name U Lvl : Type} [DecidableEq Ix] [DecidableEq Name] [Infinite Name] [URA U] [Preorder Lvl]
variable (EC : UEmb Counters (MT nD τ sig Ix (Elt F) Name U Lvl)) [EC.LandsIn (upEmb : UEmb _ (MT nD τ sig Ix (Elt F) Name U Lvl))] (ι : Ix)
variable {Λ : Labels} {defs : Defs nD τ sig (Elt F) Λ} (𝒱 : Variants) {bd : Option 𝒱.V}
variable (d : Dev nD) (i : grid1.Coords)

/-- The subcore at the grid's coordinates `i`. -/
abbrev thr : Thread nD τ := (d, .scVector ((i 0).castLE hcore1) ((i 1).castLE hsub1))

local notation "𝕄" => MT nD τ sig Ix (Elt F) Name U Lvl

abbrev mD : Memref sig .scVector .hbm S32768x512 .f32 := Memref.whole main_v2_scv
abbrev mR : Memref sig .scVector .hbm S32768x512 .f32 := Memref.whole main_v3_scv

/-- What a write-back of thirty-two rows credits its semaphore with. -/
def rowsCredit : ℕ := (mR.slice (Rect.unit (s := S32768x512) ![0, 0] S32x512.size (by decide)) (fun _ => rfl)).view.dmaCredit
theorem rowsCredit_pos : 0 < rowsCredit := View.dmaCredit_pos _ (by decide)

/-- Rows of the data array, at its contents; -/
abbrev dataP (dat : S32768x512.Idx → F .f32) (n : ℕ) : sProp 𝕄 := (thr d i).loc main_v2_scv ↦[rowsAt n]{fullShare} dat
/-- rows of the result array, at given contents; -/
abbrev resP (res : S32768x512.Idx → F .f32) (n : ℕ) : sProp 𝕄 := (thr d i).loc main_v3_scv ↦[rowsAt n]{fullShare} res
/-- at any. -/
abbrev resAny (n : ℕ) : sProp 𝕄 := iprop(∃ g, resP (Ix := Ix) (Name := Name) (U := U) (Lvl := Lvl) d i g n)
/-- A buffer of one block at any contents. -/
abbrev bufAny (mB : Memref sig .scVector .vmem S32x512 .f32) : sProp 𝕄 :=
  iprop(∃ f : Buf (Elt F) (mB.view.loc (thr d i)), mB.view.loc (thr d i) ↦[Finset.univ]{fullShare} f)
/-- A buffer that is free: no copy is under way on its semaphore. -/
abbrev free (mB : Memref sig .scVector .vmem S32x512 .f32) (s : DmaSem sig) : sProp 𝕄 := iprop(bufAny d i mB ∗ semVal (thr d i, .dma s) 0)
/-- A staging buffer holding the rows from `n` on of the data. -/
abbrev staged (dat : S32768x512.Idx → F .f32) (mB : Memref sig .scVector .vmem S32x512 .f32) (n : ℕ) : sProp 𝕄 :=
  iprop(∃ f : Buf (Elt F) (mB.view.loc (thr d i)), ⌜Holds dat n (mB.view.read (Elt F) f)⌝ ∗ mB.view.loc (thr d i) ↦[Finset.univ]{fullShare} f)

/-- A fetch of the rows from `n` on into `mB`, under way. -/
abbrev Fetch (dat : S32768x512.Idx → F .f32) (mB : Memref sig .scVector .vmem S32x512 .f32) (s : DmaSem sig) (n : ℕ) : sProp 𝕄 :=
  Transfers.Flight EC (thr d i) (.dma s) ι mB.view.dmaCredit iprop(staged d i dat mB n ∗ dataP d i dat n)
/-- A write-back of `mO` to the rows from `n` on of the result, under way. -/
abbrev Out (res : S32768x512.Idx → F .f32) (mO : Memref sig .scVector .vmem S32x512 .f32) (s : DmaSem sig) (n : ℕ) : sProp 𝕄 :=
  Transfers.Flight EC (thr d i) (.dma s) ι rowsCredit iprop(resP d i res n ∗ bufAny d i mO)

variable {α : Type} {Q : α → sProp (MT nD τ sig Ix (Elt F) Name U Lvl)}
variable {dat : S32768x512.Idx → F .f32} {mB : Memref sig .scVector .vmem S32x512 .f32} {s : DmaSem sig} {n : ℕ}
variable {off : Fin 2 → ℕ} {inb : ∀ a, off a + S32x512.size a ≤ S32768x512.size a}

/-- A fetch begins. -/
theorem fetch_start (hoff : off = ![n, 0]) {h1 : (mD.slice (Rect.unit (s := S32768x512) off S32x512.size inb) (fun _ => rfl)).view.WordExact} {h2 : mB.view.WordExact}
    {h3 : DmaTarget.Typed (nD := nD) .hbm (.dma s) (.here (p := (thr d i).2) mB)} {k : PUnit → Prog (TpuEff nD τ sig (Elt F) Λ (thr d i).2) α} :
    iprop(dataP d i dat n ∗ free d i mB s)
      ⊢ iprop((Fetch EC ι d i dat mB s n -∗ wp frame (wpE defs 𝒱 (thr d i) bd) Set.univ (k ⟨⟩) Q)
        -∗ wp frame (wpE defs 𝒱 (thr d i) bd) Set.univ (Prog.lift (.enqueueDma (mD.slice (Rect.unit (s := S32768x512) off S32x512.size inb) (fun _ => rfl)) (.here (p := (thr d i).2) mB) (.dma s) h1 h2 h3) >>= k) Q) := by
  have hset : (mD.slice (Rect.unit (s := S32768x512) off S32x512.size inb) (fun _ => rfl)).view.set = rowsAt n := (View.set_slice_whole _ _).trans (set_rows hoff)
  iintro ⟨HD, ⟨%f, HB⟩, Hs⟩ Hk
  iapply (Transfers.wp_dmaLocal EC 𝒱 (thr d i) bd (src := mD.slice (Rect.unit (s := S32768x512) off S32x512.size inb) (fun _ => rfl)) (via := .same) (dst := mB) (sm := .dma s) (hsrc := h1) (hdst := h2) (hsem := h3)
    (q := fullShare) (fs := dat) (Sd := Finset.univ) (fd := f) ι mB.view.dmaCredit rfl (View.dmaCredit_pos _ (by decide)) (Finset.subset_univ _)) $$ [HD HB Hs]
  · isplitl [HD]
    · rw [hset]; iexact HD
    · isplitl [HB] <;> iassumption
  · iintro HF
    iapply Hk
    iapply (Transfers.Flight_mono EC (thr d i)) $$ HF
    rw [hset]
    iintro ⟨HB, HD⟩
    isplitl [HB]
    · iexists (mB.view.write (Elt F) f ((mD.slice (Rect.unit (s := S32768x512) off S32x512.size inb) (fun _ => rfl)).view.read (Elt F) dat) Finset.univ)
      isplitr
      · ipureintro
        intro y z h0 h1
        rw [View.read_write_univ]
        obtain ⟨e0, e1⟩ := emb_rows (inb := inb) hoff y
        show dat (Rect.emb (Rect.unit (s := S32768x512) off S32x512.size inb) y) = dat z
        congr 1
        funext a
        match a with
        | 0 => exact Fin.ext (e0.trans h0.symm)
        | 1 => exact Fin.ext (e1.trans h1.symm)
      · iexact HB
    · iexact HD

/-- A fetch is waited for: the staged block, the data's rows and the semaphore at zero come back. -/
theorem fetch_wait {h1 : (mD.slice (Rect.unit (s := S32768x512) off S32x512.size inb) (fun _ => rfl)).view.WordExact} {h2 : mB.view.WordExact} {k : PUnit → Prog (TpuEff nD τ sig (Elt F) Λ (thr d i).2) α}
    {O : CellTallies nD τ sig Ix} {W : Waits sig Ix} :
    iprop(Fetch EC ι d i dat mB s n ∗ owes (thr d i) O W ∗ MayWait (thr d i) (.dma s) ι O)
      ⊢ iprop((iprop((staged d i dat mB n ∗ dataP d i dat n) ∗ semVal (thr d i, .dma s) 0 ∗ owes (thr d i) O (insert (SemLoc.dma s, ι) W))
          -∗ wp frame (wpE defs 𝒱 (thr d i) bd) Set.univ (k ⟨⟩) Q)
        -∗ wp frame (wpE defs 𝒱 (thr d i) bd) Set.univ (Prog.lift (.waitDma2 s (mD.slice (Rect.unit (s := S32768x512) off S32x512.size inb) (fun _ => rfl)) mB h1 h2) >>= k) Q) :=
  Transfers.wp_waitLocalO EC 𝒱 (thr d i) bd ι rfl

/-- A write-back begins: the buffer holds the picked block of rows staged from one batch. -/
theorem out_start (hw : mB.view.set = Finset.univ) (hoff : off = ![n, 0]) {X : S4096.Idx → BitVec 32} {R : S32x512.Idx → F .f32} {b : ℕ} (hR : Holds dat n R)
    (hb : 4096 * b ≤ n ∧ n + 32 ≤ 4096 * (b + 1)) {f : Buf (Elt F) (mB.view.loc (thr d i))} (hf : mB.view.read (Elt F) f = picked X R b)
    {h1 : mB.view.WordExact} {h2 : (mR.slice (Rect.unit (s := S32768x512) off S32x512.size inb) (fun _ => rfl)).view.WordExact}
    {h3 : DmaTarget.Typed (nD := nD) .vmem (.dma s) (.here (p := (thr d i).2) (mR.slice (Rect.unit (s := S32768x512) off S32x512.size inb) (fun _ => rfl)))} {k : PUnit → Prog (TpuEff nD τ sig (Elt F) Λ (thr d i).2) α} :
    iprop((mB.view.loc (thr d i) ↦[Finset.univ]{fullShare} f) ∗ resAny d i n ∗ semVal (thr d i, .dma s) 0)
      ⊢ iprop((Out EC ι d i (result dat X) mB s n -∗ wp frame (wpE defs 𝒱 (thr d i) bd) Set.univ (k ⟨⟩) Q)
        -∗ wp frame (wpE defs 𝒱 (thr d i) bd) Set.univ (Prog.lift (.enqueueDma mB (.here (p := (thr d i).2) (mR.slice (Rect.unit (s := S32768x512) off S32x512.size inb) (fun _ => rfl))) (.dma s) h1 h2 h3) >>= k) Q) := by
  have hset : (mR.slice (Rect.unit (s := S32768x512) off S32x512.size inb) (fun _ => rfl)).view.set = rowsAt n := (View.set_slice_whole _ _).trans (set_rows hoff)
  iintro ⟨HB, ⟨%g, HR⟩, Hs⟩ Hk
  iapply (Transfers.wp_dmaLocal EC 𝒱 (thr d i) bd (src := mB) (via := .same) (dst := mR.slice (Rect.unit (s := S32768x512) off S32x512.size inb) (fun _ => rfl)) (sm := .dma s) (hsrc := h1) (hdst := h2) (hsem := h3)
    (q := fullShare) (fs := f) (Sd := rowsAt n) (fd := g) ι rowsCredit rfl rowsCredit_pos hset.le) $$ [HB HR Hs]
  · isplitl [HB]
    · rw [hw]; iexact HB
    · isplitl [HR] <;> iassumption
  · iintro HF
    iapply Hk
    iapply (Transfers.Flight_mono EC (thr d i)) $$ HF
    rw [hw]
    iintro ⟨HR, HB⟩
    isplitl [HR]
    · iapply (Entails.of_eq (pointsTo_congr (ℓ := (thr d i).loc main_v3_scv) (I := rowsAt n) (q := fullShare) (g := result dat X) ?_)) $$ HR
      intro z hz
      rw [← hset] at hz
      obtain ⟨y, -, rfl⟩ := Finset.mem_map.mp hz
      refine (View.write_emb_of_mem _ _ (Finset.mem_univ _)).trans ?_
      obtain ⟨e0, e1⟩ := emb_rows (inb := inb) hoff y
      exact (congrFun hf y).trans (picked_result hR hb y _ e0 e1)
    · iexists f; iexact HB

end Cert.Proof.Copies

end
-- ==== Proof.Offsets.lean ====
/-
  Which rows each copy of a subcore addresses, and which of the four conditions of a step hold.

  Subcore `i` handles thirty-two blocks of thirty-two rows, four per batch: block `t` starts at row `rowOf i t`. Step `t`
  waits for the write-back of block `t - 2`, fetches block `t + 1`, and works on block `t`.
-/
module

public import proofs.«01_k».proof.KernelIdeal
public import proofs.«01_k».proof.Proof.Gen.KernelIdeal
public import proofs.«01_k».proof.Proof.Gen.KernelIdeal.Skeleton

@[expose] public section

namespace Cert.Proof.Offsets

open Cert.KernelIdeal Cert.KernelIdeal.Gen
open Idealize.ShloMosaic

/-- The first row of block `t` of subcore `i`. -/
def rowOf (i : grid1.Coords) (t : ℕ) : ℕ := t / 4 * 4096 + (2 * (i 1).val + (i 0).val) * 128 + t % 4 * 32

/-- The coordinates, from the core's and the subcore's. -/
def mk (c : Fin 2) (s : Fin 16) : grid1.Coords := fun a => match a with | 0 => c | 1 => s

theorem eq_mk (i : grid1.Coords) : i = mk (i 0) (i 1) := by
  funext a
  match a with
  | 0 => rfl
  | 1 => rfl

/-- The even steps; -/
theorem cond_even : ∀ t : Fin k1_t1_loop.trips, k1_cond1 t = 1#1 ↔ t.val % 2 = 0 := by decide +kernel
/-- the odd steps. -/
theorem cond_odd : ∀ t : Fin k1_t1_loop.trips, k1_cond4 t = 1#1 ↔ t.val % 2 = 1 := by decide +kernel
/-- The steps that wait for an earlier write-back; -/
theorem cond_out : ∀ t : Fin k1_t1_loop.trips, k1_cond2 t = 1#1 ↔ 2 ≤ t.val := by decide +kernel
theorem cond_out' : ∀ t : Fin k1_t1_loop.trips, k1_cond5 t = 1#1 ↔ 2 ≤ t.val := by decide +kernel
/-- the steps that fetch the next block. -/
theorem cond_in : ∀ t : Fin k1_t1_loop.trips, k1_cond3 t = 1#1 ↔ t.val + 1 < 32 := by decide +kernel
theorem cond_in' : ∀ t : Fin k1_t1_loop.trips, k1_cond6 t = 1#1 ↔ t.val + 1 < 32 := by decide +kernel

theorem off_first_aux : ∀ (c : Fin 2) (s : Fin 16), k1_off1 (mk c s) 0#32 0#32 0 = rowOf (mk c s) 0
    ∧ k1_off1 (mk c s) 28672#32 64#32 0 = rowOf (mk c s) 30 ∧ k1_off1 (mk c s) 28672#32 96#32 0 = rowOf (mk c s) 31 := by decide +kernel

theorem off_even_aux : ∀ (c : Fin 2) (s : Fin 16) (t : Fin k1_t1_loop.trips), k1_off4 (mk c s) t 0 = rowOf (mk c s) t
    ∧ (t.val + 1 < 32 → k1_off3 (mk c s) t 0 = rowOf (mk c s) (t + 1)) ∧ (2 ≤ t.val → k1_off2 (mk c s) t 0 = rowOf (mk c s) (t - 2)) := by decide +kernel

theorem off_odd_aux : ∀ (c : Fin 2) (s : Fin 16) (t : Fin k1_t1_loop.trips), k1_off73 (mk c s) t 0 = rowOf (mk c s) t
    ∧ (t.val + 1 < 32 → k1_off72 (mk c s) t 0 = rowOf (mk c s) (t + 1)) ∧ (2 ≤ t.val → k1_off71 (mk c s) t 0 = rowOf (mk c s) (t - 2)) := by decide +kernel

/-- An offset whose second component is zero. -/
theorem off_eq {off : Fin 2 → ℕ} {n : ℕ} (h0 : off 0 = n) (h1 : off 1 = 0) : off = ![n, 0] := by
  funext a
  match a with
  | 0 => exact h0
  | 1 => exact h1

variable (i : grid1.Coords) (t : Fin k1_t1_loop.trips)

theorem off_first : k1_off1 i 0#32 0#32 = ![rowOf i 0, 0] := off_eq (by rw [eq_mk i]; exact (off_first_aux _ _).1) rfl
theorem off_last : k1_off1 i 28672#32 64#32 = ![rowOf i 30, 0] := off_eq (by rw [eq_mk i]; exact (off_first_aux _ _).2.1) rfl
theorem off_last' : k1_off1 i 28672#32 96#32 = ![rowOf i 31, 0] := off_eq (by rw [eq_mk i]; exact (off_first_aux _ _).2.2) rfl
theorem off_cur : k1_off4 i t = ![rowOf i t, 0] := off_eq (by rw [eq_mk i]; exact (off_even_aux _ _ t).1) rfl
theorem off_cur' : k1_off73 i t = ![rowOf i t, 0] := off_eq (by rw [eq_mk i]; exact (off_odd_aux _ _ t).1) rfl
theorem off_next (h : t.val + 1 < 32) : k1_off3 i t = ![rowOf i (t + 1), 0] := off_eq (by rw [eq_mk i]; exact (off_even_aux _ _ t).2.1 h) rfl
theorem off_next' (h : t.val + 1 < 32) : k1_off72 i t = ![rowOf i (t + 1), 0] := off_eq (by rw [eq_mk i]; exact (off_odd_aux _ _ t).2.1 h) rfl
theorem off_prev (h : 2 ≤ t.val) : k1_off2 i t = ![rowOf i (t - 2), 0] := off_eq (by rw [eq_mk i]; exact (off_even_aux _ _ t).2.2 h) rfl
theorem off_prev' (h : 2 ≤ t.val) : k1_off71 i t = ![rowOf i (t - 2), 0] := off_eq (by rw [eq_mk i]; exact (off_odd_aux _ _ t).2.2 h) rfl

/-- Block `t` lies within batch `t / 4`. -/
theorem rowOf_batch (t : ℕ) : 4096 * (t / 4) ≤ rowOf i t ∧ rowOf i t + 32 ≤ 4096 * (t / 4 + 1) := by
  have h0 : (i 0).val < 2 := (i 0).isLt
  have h1 : (i 1).val < 16 := (i 1).isLt
  unfold rowOf
  omega

/-- Equal or disjoint: two blocks that share a row are the same. -/
theorem rowOf_inj {i j : grid1.Coords} {t u n : ℕ} (h : rowOf i t ≤ n ∧ n < rowOf i t + 32) (h' : rowOf j u ≤ n ∧ n < rowOf j u + 32) :
    (i 0).val = (j 0).val ∧ (i 1).val = (j 1).val ∧ t = u := by
  have h0 : (i 0).val < 2 := (i 0).isLt
  have h1 : (i 1).val < 16 := (i 1).isLt
  have h2 : (j 0).val < 2 := (j 0).isLt
  have h3 : (j 1).val < 16 := (j 1).isLt
  unfold rowOf at h h'
  omega

end Cert.Proof.Offsets
-- ==== Proof.Phase.lean ====
/-
  One step of a subcore, as five moves.

  A step works on one block. It waits for the output buffer's earlier write-back, starts the next block's fetch, waits for
  its own block's fetch, picks the columns, and starts its write-back. The staging buffers and the output buffers swap
  their roles from one step to the next, so the moves speak of the buffers by role (`Bufs`): `a` holds this block's rows,
  `b` receives the next one's, `o` takes this block's picked rows, `o'` is the other output buffer.
-/
module

public import proofs.«01_k».proof.Proof.Copies
public import proofs.«01_k».proof.Proof.Offsets

@[expose] public section

noncomputable section

namespace Cert.Proof.Phase

open Cert.KernelIdeal Cert.KernelIdeal.Gen Cert.Proof.Steps Cert.Proof.Trip Cert.Proof.Copies Cert.Proof.Offsets
open Idealize.ShloMosaic
open Idealize.SL Idealize.SL.RA Idealize.SL.BI
open scoped Idealize.SL.BI
open Idealize.SL.BI.BIBase Idealize.SL.BI.Laws Idealize.SL.ProofMode Idealize.SL.Sem

/-- The four block buffers and their semaphores, by role. -/
structure Bufs where
  a : Memref sig .scVector .vmem S32x512 .f32
  b : Memref sig .scVector .vmem S32x512 .f32
  o : Memref sig .scVector .vmem S32x512 .f32
  o' : Memref sig .scVector .vmem S32x512 .f32
  sa : DmaSem sig
  sb : DmaSem sig
  so : DmaSem sig
  so' : DmaSem sig

/-- The roles in the next step. -/
abbrev Bufs.swap (β : Bufs) : Bufs := ⟨β.b, β.a, β.o', β.o, β.sb, β.sa, β.so', β.so⟩

variable {F : FTy → Type} [FloatOps F]
variable {Ix Name U Lvl : Type} [DecidableEq Ix] [DecidableEq Name] [Infinite Name] [URA U] [Preorder Lvl]
variable (EC : UEmb Counters (MT nD τ sig Ix (Elt F) Name U Lvl)) [EC.LandsIn (upEmb : UEmb _ (MT nD τ sig Ix (Elt F) Name U Lvl))] (ι : Ix)
variable {Λ : Labels} {defs : Defs nD τ sig (Elt F) Λ} (𝒱 : Variants) {bd : Option 𝒱.V}
variable (d : Dev nD) (i : grid1.Coords)
variable (dat : S32768x512.Idx → F .f32) (mI : Memref sig .scVector .vmem S4096 .i32) (fI : Buf (Elt F) (mI.view.loc (thr d i)))
variable (Ow : CellTallies nD τ sig Ix) (W : Waits sig Ix) (β : Bufs) (t : ℕ)

local notation "𝕄" => MT nD τ sig Ix (Elt F) Name U Lvl

/-- What the subcore owes, its waits so far all among those known to end. -/
def owing : sProp 𝕄 := iprop(Transfers.MayWaits (thr d i) ι Ow ∗ ∃ W', ⌜∀ p ∈ W', p ∈ W ∨ p.2 = ι⌝ ∗ owes (thr d i) Ow W')

/-- A staging buffer before step `t`: the block's fetch is under way, after the last block it is free. -/
def inSlot (m : Memref sig .scVector .vmem S32x512 .f32) (s : DmaSem sig) (t : ℕ) : sProp 𝕄 :=
  if t < 32 then Fetch EC ι d i dat m s (rowOf i t) else free d i m s
/-- An output buffer before step `t`: the write-back of two steps ago is under way, before that it is free. -/
def outSlot (m : Memref sig .scVector .vmem S32x512 .f32) (s : DmaSem sig) (t : ℕ) : sProp 𝕄 :=
  if 2 ≤ t then Out EC ι d i (result dat (View.read (Elt F) mI.view fI : S4096.Idx → BitVec 32)) m s (rowOf i (t - 2)) else free d i m s

/-- The data's rows in hand while block `t` is being fetched; -/
def dataHold (t : ℕ) : sProp 𝕄 := bigSep ((Finset.range 32).erase t) fun u => dataP d i dat (rowOf i u)
/-- while `t` and the next are. -/
def dataMid (t : ℕ) : sProp 𝕄 := bigSep (((Finset.range 32).erase t).erase (t + 1)) fun u => dataP d i dat (rowOf i u)
/-- The result's rows not yet written; -/
def resFrom (t : ℕ) : sProp 𝕄 := bigSep ((Finset.range 32).filter (t ≤ ·)) fun u => resAny d i (rowOf i u)
/-- the rows whose write-back has been waited for. -/
def resBelow (k : ℕ) : sProp 𝕄 := bigSep (Finset.range k) fun u => resP d i (result dat (View.read (Elt F) mI.view fI : S4096.Idx → BitVec 32)) (rowOf i u)

/-- The index words in the subcore's own memory. -/
abbrev idxP : sProp 𝕄 := mI.view.loc (thr d i) ↦[Finset.univ]{fullShare} fI

/-- Before step `t`. -/
def S0 : sProp 𝕄 := iprop(inSlot EC ι d i dat β.a β.sa t ∗ free d i β.b β.sb ∗ outSlot EC ι d i dat mI fI β.o β.so t
  ∗ outSlot EC ι d i dat mI fI β.o' β.so' (t + 1) ∗ idxP d i mI fI ∗ owing ι d i Ow W ∗ dataHold d i dat t ∗ resFrom d i t ∗ resBelow d i dat mI fI (t - 2))
/-- The output buffer is free. -/
def S1 : sProp 𝕄 := iprop(inSlot EC ι d i dat β.a β.sa t ∗ free d i β.b β.sb ∗ free d i β.o β.so
  ∗ outSlot EC ι d i dat mI fI β.o' β.so' (t + 1) ∗ idxP d i mI fI ∗ owing ι d i Ow W ∗ dataHold d i dat t ∗ resFrom d i t ∗ resBelow d i dat mI fI (t - 1))
/-- The next block's fetch is under way. -/
def S2 : sProp 𝕄 := iprop(inSlot EC ι d i dat β.a β.sa t ∗ inSlot EC ι d i dat β.b β.sb (t + 1) ∗ free d i β.o β.so
  ∗ outSlot EC ι d i dat mI fI β.o' β.so' (t + 1) ∗ idxP d i mI fI ∗ owing ι d i Ow W ∗ dataMid d i dat t ∗ resFrom d i t ∗ resBelow d i dat mI fI (t - 1))
/-- This block's rows are there. -/
def S3 : sProp 𝕄 := iprop((staged d i dat β.a (rowOf i t) ∗ semVal (thr d i, .dma β.sa) 0) ∗ inSlot EC ι d i dat β.b β.sb (t + 1) ∗ free d i β.o β.so
  ∗ outSlot EC ι d i dat mI fI β.o' β.so' (t + 1) ∗ idxP d i mI fI ∗ owing ι d i Ow W ∗ dataHold d i dat (t + 1) ∗ resFrom d i t ∗ resBelow d i dat mI fI (t - 1))
/-- The picked rows are there. -/
def S4 : sProp 𝕄 := iprop(free d i β.a β.sa ∗ inSlot EC ι d i dat β.b β.sb (t + 1)
  ∗ ((∃ (R : S32x512.Idx → F .f32) (f : Buf (Elt F) (β.o.view.loc (thr d i))), ⌜Holds dat (rowOf i t) R ∧ β.o.view.read (Elt F) f = picked (View.read (Elt F) mI.view fI : S4096.Idx → BitVec 32) R (t / 4)⌝
      ∗ β.o.view.loc (thr d i) ↦[Finset.univ]{fullShare} f) ∗ semVal (thr d i, .dma β.so) 0)
  ∗ outSlot EC ι d i dat mI fI β.o' β.so' (t + 1) ∗ idxP d i mI fI ∗ owing ι d i Ow W ∗ dataHold d i dat (t + 1) ∗ resFrom d i t ∗ resBelow d i dat mI fI (t - 1))

variable {α : Type} {Q : α → sProp (MT nD τ sig Ix (Elt F) Name U Lvl)} {k : PUnit → Prog (TpuEff nD τ sig (Elt F) Λ (thr d i).2) α}
variable {off : Fin 2 → ℕ} {inb : ∀ a, off a + S32x512.size a ≤ S32768x512.size a}
variable {dat mI fI Ow W β t}

/-- One wait more, on a semaphore known to be raised. -/
theorem owing_insert {W' : Waits sig Ix} (hW : ∀ p ∈ W', p ∈ W ∨ p.2 = ι) (s : SemLoc sig) : ∀ p ∈ insert (s, ι) W', p ∈ W ∨ p.2 = ι := by
  intro p hp
  rcases Finset.mem_insert.mp hp with rfl | hp
  · exact .inr rfl
  · exact hW p hp

/-- A write-back is waited for. -/
theorem out_wait {m : Memref sig .scVector .vmem S32x512 .f32} {s : DmaSem sig} {n : ℕ} {r : S32768x512.Idx → F .f32}
    {h1 : m.view.WordExact} {h2 : (mR.slice (Rect.unit (s := S32768x512) off S32x512.size inb) (fun _ => rfl)).view.WordExact} :
    iprop(Out EC ι d i r m s n ∗ owing ι d i Ow W)
      ⊢ iprop((iprop((resP d i r n ∗ free d i m s) ∗ owing ι d i Ow W) -∗ wp frame (wpE defs 𝒱 (thr d i) bd) Set.univ (k ⟨⟩) Q)
        -∗ wp frame (wpE defs 𝒱 (thr d i) bd) Set.univ (Prog.lift (.waitDma2 s m (mR.slice (Rect.unit (s := S32768x512) off S32x512.size inb) (fun _ => rfl)) h1 h2) >>= k) Q) := by
  unfold owing
  iintro ⟨HF, #HM, %W', %hW, Ho⟩ Hk
  iapply (Transfers.wp_waitLocalO EC 𝒱 (thr d i) bd (srcw := m) (dstw := mR.slice (Rect.unit (s := S32768x512) off S32x512.size inb) (fun _ => rfl)) (hsrc := h1) (hdst := h2) (N := rowsCredit) ι rfl) $$ [HF Ho]
  · isplitl [HF]; · iexact HF
    isplitl [Ho]; · iexact Ho
    iapply (Transfers.MayWaits.elim (.dma s)) $$ HM
  · iintro ⟨⟨HR, HB⟩, Hs, Ho⟩
    iapply Hk
    isplitl [HR HB Hs]
    · isplitl [HR]; · iexact HR
      isplitl [HB] <;> iassumption
    · isplitr; · iexact HM
      iexists (insert (SemLoc.dma s, ι) W')
      isplitr; · ipureintro; exact owing_insert ι hW _
      iexact Ho

/-- The earlier write-back is waited for. -/
theorem s01_wait (ht : 2 ≤ t) {h1 : β.o.view.WordExact} {h2 : (mR.slice (Rect.unit (s := S32768x512) off S32x512.size inb) (fun _ => rfl)).view.WordExact}
    (h : S1 EC ι d i dat mI fI Ow W β t ⊢ wp frame (wpE defs 𝒱 (thr d i) bd) Set.univ (k ⟨⟩) Q) :
    S0 EC ι d i dat mI fI Ow W β t ⊢ wp frame (wpE defs 𝒱 (thr d i) bd) Set.univ (Prog.lift (.waitDma2 β.so β.o (mR.slice (Rect.unit (s := S32768x512) off S32x512.size inb) (fun _ => rfl)) h1 h2) >>= k) Q := by
  unfold S0
  rw [show outSlot EC ι d i dat mI fI β.o β.so t = Out EC ι d i (result dat (View.read (Elt F) mI.view fI : S4096.Idx → BitVec 32)) β.o β.so (rowOf i (t - 2)) from if_pos ht]
  iintro ⟨HA, HB, HO, HO', HI, Hw, HD, HR, Hb⟩
  iapply (out_wait EC ι 𝒱 d i) $$ [HO Hw]
  · isplitl [HO] <;> iassumption
  · iintro ⟨⟨HRn, HO⟩, Hw⟩
    iapply h
    unfold S1
    isplitl [HA]; · iexact HA
    isplitl [HB]; · iexact HB
    isplitl [HO]; · iexact HO
    isplitl [HO']; · iexact HO'
    isplitl [HI]; · iexact HI
    isplitl [Hw]; · iexact Hw
    isplitl [HD]; · iexact HD
    isplitl [HR]; · iexact HR
    unfold resBelow
    rw [show t - 1 = t - 2 + 1 by omega, Finset.range_add_one, SparseCore.bigSep_insert' (by simp)]
    isplitl [HRn] <;> iassumption

/-- In the first two steps there is none. -/
theorem s01_skip (ht : ¬ 2 ≤ t) : S0 EC ι d i dat mI fI Ow W β t ⊢ S1 EC ι d i dat mI fI Ow W β t := by
  unfold S0 S1
  rw [show outSlot EC ι d i dat mI fI β.o β.so t = free d i β.o β.so from if_neg ht, show t - 1 = t - 2 by omega]

/-- The next block's fetch begins. -/
theorem s12_start (ht : t + 1 < 32) (hoff : off = ![rowOf i (t + 1), 0]) {h1 : (mD.slice (Rect.unit (s := S32768x512) off S32x512.size inb) (fun _ => rfl)).view.WordExact} {h2 : β.b.view.WordExact}
    {h3 : DmaTarget.Typed (nD := nD) .hbm (.dma β.sb) (.here (p := (thr d i).2) β.b)} (h : S2 EC ι d i dat mI fI Ow W β t ⊢ wp frame (wpE defs 𝒱 (thr d i) bd) Set.univ (k ⟨⟩) Q) :
    S1 EC ι d i dat mI fI Ow W β t
      ⊢ wp frame (wpE defs 𝒱 (thr d i) bd) Set.univ (Prog.lift (.enqueueDma (mD.slice (Rect.unit (s := S32768x512) off S32x512.size inb) (fun _ => rfl)) (.here (p := (thr d i).2) β.b) (.dma β.sb) h1 h2 h3) >>= k) Q := by
  unfold S1 dataHold
  rw [SparseCore.bigSep_erase' (i := t + 1) (s := (Finset.range 32).erase t) (by simp; omega)]
  iintro ⟨HA, HB, HO, HO', HI, Hw, ⟨HDn, HD⟩, HR, Hb⟩
  iapply (fetch_start EC ι 𝒱 d i hoff) $$ [HDn HB]
  · isplitl [HDn] <;> iassumption
  · iintro HF
    iapply h
    unfold S2 inSlot
    isplitl [HA]; · iexact HA
    isplitl [HF]; · rw [if_pos ht]; iexact HF
    isplitl [HO]; · iexact HO
    isplitl [HO']; · iexact HO'
    isplitl [HI]; · iexact HI
    isplitl [Hw]; · iexact Hw
    isplitl [HD]; · unfold dataMid; iexact HD
    isplitl [HR] <;> iassumption

/-- After the last block there is none. -/
theorem s12_skip (ht : t < 32) (ht' : ¬ t + 1 < 32) : S1 EC ι d i dat mI fI Ow W β t ⊢ S2 EC ι d i dat mI fI Ow W β t := by
  unfold S1 S2
  have e : ((Finset.range 32).erase t).erase (t + 1) = (Finset.range 32).erase t := Finset.erase_eq_of_notMem (by simp; omega)
  rw [dataMid, e, dataHold, show inSlot EC ι d i dat β.b β.sb (t + 1) = free d i β.b β.sb from if_neg ht']

/-- The block's own fetch is waited for. -/
theorem s23_wait (ht : t < 32) {h1 : (mD.slice (Rect.unit (s := S32768x512) off S32x512.size inb) (fun _ => rfl)).view.WordExact} {h2 : β.a.view.WordExact}
    (h : S3 EC ι d i dat mI fI Ow W β t ⊢ wp frame (wpE defs 𝒱 (thr d i) bd) Set.univ (k ⟨⟩) Q) :
    S2 EC ι d i dat mI fI Ow W β t ⊢ wp frame (wpE defs 𝒱 (thr d i) bd) Set.univ (Prog.lift (.waitDma2 β.sa (mD.slice (Rect.unit (s := S32768x512) off S32x512.size inb) (fun _ => rfl)) β.a h1 h2) >>= k) Q := by
  unfold S2
  rw [show inSlot EC ι d i dat β.a β.sa t = Fetch EC ι d i dat β.a β.sa (rowOf i t) from if_pos ht]
  unfold owing
  iintro ⟨HA, HB, HO, HO', HI, ⟨#HM, %W', %hW, Ho⟩, HD, HR, Hb⟩
  iapply (fetch_wait EC ι 𝒱 d i) $$ [HA Ho]
  · isplitl [HA]; · iexact HA
    isplitl [Ho]; · iexact Ho
    iapply (Transfers.MayWaits.elim (.dma β.sa)) $$ HM
  · iintro ⟨⟨HA, HDn⟩, Hs, Ho⟩
    iapply h
    unfold S3 owing
    isplitl [HA Hs]
    · isplitl [HA] <;> iassumption
    isplitl [HB]; · iexact HB
    isplitl [HO]; · iexact HO
    isplitl [HO']; · iexact HO'
    isplitl [HI]; · iexact HI
    isplitl [Ho]
    · isplitr; · iexact HM
      iexists (insert (SemLoc.dma β.sa, ι) W')
      isplitr; · ipureintro; exact owing_insert ι hW _
      iexact Ho
    isplitl [HD HDn]
    · unfold dataHold dataMid
      rw [SparseCore.bigSep_erase' (i := t) (s := (Finset.range 32).erase (t + 1)) (by simp; omega), Finset.erase_right_comm]
      isplitl [HDn] <;> iassumption
    isplitl [HR] <;> iassumption

/-- The columns are picked by a loop of sixteen trips, each of which does thirty-two columns. -/
theorem s34_pick {L : Scf.Loop 32} (hL : L.trips = 16) (hok : L.OK) {body : Fin L.trips → PUnit → Prog (TpuEff nD τ sig (Elt F) Λ (thr d i).2) PUnit}
    (htrip : ∀ (fB : Buf (Elt F) (β.a.view.loc (thr d i))) (j : Fin L.trips),
      (H (c := thr d i) (picked (View.read (Elt F) mI.view fI : S4096.Idx → BitVec 32) (β.a.view.read (Elt F) fB) (t / 4)) mI β.a β.o fI fB (32 * j.val) 0 : sProp 𝕄)
        ⊢ wp frame (wpE defs 𝒱 (thr d i) bd) Set.univ (body j ⟨⟩) fun _ => H (c := thr d i) (picked (View.read (Elt F) mI.view fI : S4096.Idx → BitVec 32) (β.a.view.read (Elt F) fB) (t / 4)) mI β.a β.o fI fB (32 * j.val + 32) 0)
    (h : S4 EC ι d i dat mI fI Ow W β t ⊢ wp frame (wpE defs 𝒱 (thr d i) bd) Set.univ (k ⟨⟩) Q) :
    S3 EC ι d i dat mI fI Ow W β t ⊢ wp frame (wpE defs 𝒱 (thr d i) bd) Set.univ (Scf.Loop.for L hok ⟨⟩ body >>= k) Q := by
  unfold S3
  iintro ⟨⟨⟨%fB, %hB, HA⟩, Hs⟩, HB, ⟨⟨%f, HO⟩, Hso⟩, HO', HI, Hw, HD, HR, Hb⟩
  iapply (Scf.wp_for_bind frame (wpE defs 𝒱 (thr d i) bd) Set.univ L.lb L.ub L.st hok ⟨⟩ body
    (fun j _ => H (c := thr d i) (picked (View.read (Elt F) mI.view fI : S4096.Idx → BitVec 32) (β.a.view.read (Elt F) fB) (t / 4)) mI β.a β.o fI fB (32 * j) 0) (fun j _ => htrip fB j)) $$ [HA HO HI]
  · unfold H
    isplitl [HI]; · iexact HI
    isplitl [HA]; · iexact HA
    iexists f
    isplitr; · ipureintro; exact Done.none
    iexact HO
  · iintro %acc HH
    rw [show Scf.trips L.lb L.ub L.st = 16 from hL]
    unfold H
    icases HH with ⟨HI, HA, %g, %hg, HO⟩
    iapply h
    unfold S4
    isplitl [HA Hs]
    · isplitl [HA]; · iexists fB; iexact HA
      iexact Hs
    isplitl [HB]; · iexact HB
    isplitl [HO Hso]
    · isplitl [HO]
      · iexists (β.a.view.read (Elt F) fB), g
        isplitr; · ipureintro; exact ⟨hB, Done.all hg⟩
        iexact HO
      · iexact Hso
    isplitl [HO']; · iexact HO'
    isplitl [HI]; · iexact HI
    isplitl [Hw]; · iexact Hw
    isplitl [HD]; · iexact HD
    isplitl [HR] <;> iassumption

/-- The block's write-back begins: the roles swap. -/
theorem s45_start (hw : β.o.view.set = Finset.univ) (ht : t < 32) (hoff : off = ![rowOf i t, 0]) {h1 : β.o.view.WordExact} {h2 : (mR.slice (Rect.unit (s := S32768x512) off S32x512.size inb) (fun _ => rfl)).view.WordExact}
    {h3 : DmaTarget.Typed (nD := nD) .vmem (.dma β.so) (.here (p := (thr d i).2) (mR.slice (Rect.unit (s := S32768x512) off S32x512.size inb) (fun _ => rfl)))}
    (h : S0 EC ι d i dat mI fI Ow W β.swap (t + 1) ⊢ wp frame (wpE defs 𝒱 (thr d i) bd) Set.univ (k ⟨⟩) Q) :
    S4 EC ι d i dat mI fI Ow W β t
      ⊢ wp frame (wpE defs 𝒱 (thr d i) bd) Set.univ (Prog.lift (.enqueueDma β.o (.here (p := (thr d i).2) (mR.slice (Rect.unit (s := S32768x512) off S32x512.size inb) (fun _ => rfl))) (.dma β.so) h1 h2 h3) >>= k) Q := by
  unfold S4 resFrom
  have e : (Finset.range 32).filter (t ≤ ·) = insert t ((Finset.range 32).filter (t + 1 ≤ ·)) := by
    ext u
    simp only [Finset.mem_filter, Finset.mem_range, Finset.mem_insert]
    omega
  rw [e, SparseCore.bigSep_insert' (by simp)]
  iintro ⟨HA, HB, ⟨⟨%R, %f, %hf, HO⟩, Hs⟩, HO', HI, Hw, HD, ⟨HRn, HR⟩, Hb⟩
  iapply (out_start EC ι 𝒱 d i hw hoff hf.1 (rowOf_batch i t) hf.2) $$ [HO HRn Hs]
  · isplitl [HO]; · iexact HO
    isplitl [HRn] <;> iassumption
  · iintro HO
    iapply h
    unfold S0
    isplitl [HB]; · iexact HB
    isplitl [HA]; · iexact HA
    isplitl [HO']; · iexact HO'
    isplitl [HO]
    · rw [show outSlot EC ι d i dat mI fI β.o β.so (t + 1 + 1) = Out EC ι d i (result dat (View.read (Elt F) mI.view fI : S4096.Idx → BitVec 32)) β.o β.so (rowOf i t) from if_pos (by omega)]
      iexact HO
    isplitl [HI]; · iexact HI
    isplitl [Hw]; · iexact Hw
    isplitl [HD]; · iexact HD
    isplitl [HR]; · unfold resFrom; iexact HR
    iexact Hb

end Cert.Proof.Phase

end
-- ==== Proof.Body.lean ====
/-
  The subcore's program run: the steps of its loop, and the whole of it.

  Steps of even and of odd number are the same five moves with the buffers' roles exchanged.
-/
module

public import proofs.«01_k».proof.Proof.Phase

@[expose] public section

set_option maxHeartbeats 8000000
set_option maxRecDepth 65536

noncomputable section

namespace Cert.Proof.Body

open Cert.KernelIdeal Cert.KernelIdeal.Gen Cert.Proof.Steps Cert.Proof.Trip Cert.Proof.Copies Cert.Proof.Offsets Cert.Proof.Phase
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix Name U Lvl : Type} [DecidableEq Ix] [DecidableEq Name] [Infinite Name] [URA U] [Preorder Lvl]
variable (EC : UEmb Counters (MT nD τ sig Ix (Elt F) Name U Lvl)) [EC.LandsIn (upEmb : UEmb _ (MT nD τ sig Ix (Elt F) Name U Lvl))] (ι : Ix)
variable {defs : Defs nD τ sig (Elt F) Λ₀} (𝒱 : Variants) {bd : Option 𝒱.V}
variable (d : Dev nD) (i : grid1.Coords)
variable (arg3 : Memref sig .scVector .hbm S4096 .i32) (harg3 : arg3.IsWhole)
  (arg5 : Memref sig .scVector .vmem S4096 .i32) (harg5 : arg5.IsWhole)
  (arg6 : Memref sig .scVector .vmem S32x512 .f32) (harg6 : arg6.IsWhole) (arg7 : Memref sig .scVector .vmem S32x512 .f32) (harg7 : arg7.IsWhole)
  (arg8 : Memref sig .scVector .vmem S32x512 .f32) (harg8 : arg8.IsWhole) (arg9 : Memref sig .scVector .vmem S32x512 .f32) (harg9 : arg9.IsWhole)
  (arg10 arg11 arg12 arg13 v16_r0 : DmaSems sig S_) (v2 : BitVec 32) (t : Fin k1_t1_loop.trips)
variable (dat : S32768x512.Idx → F .f32) (fI : Buf (Elt F) (arg5.view.loc (thr d i)))
variable (Ow : CellTallies nD τ sig Ix) (W : Waits sig Ix)

local notation "𝕄" => MT nD τ sig Ix (Elt F) Name U Lvl

/-- The roles of the buffers in the even steps. -/
abbrev evenB : Bufs := ⟨arg6, arg7, arg8, arg9, arg10.sem, arg11.sem, arg12.sem, arg13.sem⟩

/-- A conditional prefix leads to a state, and the rest runs from it. -/
theorem step_if {α : Type} {P : sProp (MT nD τ sig Ix (Elt F) Name U Lvl)} (M : sProp (MT nD τ sig Ix (Elt F) Name U Lvl)) {Q : α → sProp (MT nD τ sig Ix (Elt F) Name U Lvl)}
    {c : Prop} [Decidable c] {p : c → Prog (TpuEff nD τ sig (Elt F) Λ₀ (thr d i).2) α} {j : Prog (TpuEff nD τ sig (Elt F) Λ₀ (thr d i).2) α}
    (hy : ∀ h, (M ⊢ wp frame (wpE defs 𝒱 (thr d i) bd) Set.univ j Q) → P ⊢ wp frame (wpE defs 𝒱 (thr d i) bd) Set.univ (p h) Q) (hn : ¬ c → P ⊢ M) (hj : M ⊢ wp frame (wpE defs 𝒱 (thr d i) bd) Set.univ j Q) : P ⊢ wp frame (wpE defs 𝒱 (thr d i) bd) Set.univ (if h : c then p h else j) Q := by
  by_cases h : c
  · rw [dif_pos h]; exact hy h hj
  · rw [dif_neg h]; exact (hn h).trans hj

/-- A part leads to a state, and the rest runs from it. -/
theorem step_run {α β : Type} {P M : sProp (MT nD τ sig Ix (Elt F) Name U Lvl)} {Q : α → sProp (MT nD τ sig Ix (Elt F) Name U Lvl)}
    {p : Prog (TpuEff nD τ sig (Elt F) Λ₀ (thr d i).2) β} {k : β → Prog (TpuEff nD τ sig (Elt F) Λ₀ (thr d i).2) α}
    (hp : P ⊢ wp frame (wpE defs 𝒱 (thr d i) bd) Set.univ p fun _ => M) (hk : ∀ v, M ⊢ wp frame (wpE defs 𝒱 (thr d i) bd) Set.univ (k v) Q) : P ⊢ wp frame (wpE defs 𝒱 (thr d i) bd) Set.univ (p >>= k) Q := by
  rw [wp_bind]
  exact hp.trans ((wp _ _ _ p).mono hk)

/-- An even step's first two moves. -/
theorem even_ahead (h1 : k1_cond1 t = 1#1) :
    (S0 EC ι d i dat arg5 fI Ow W (evenB arg6 arg7 arg8 arg9 arg10 arg11 arg12 arg13) t.val : sProp 𝕄)
      ⊢ wp frame (wpE defs 𝒱 (thr d i) bd) Set.univ (k1_part14 (F := F) i mD (Memref.isWhole_whole main_v2_scv) arg3 harg3 mR (Memref.isWhole_whole main_v3_scv) arg5 harg5 arg6 harg6 arg7 harg7 arg8 harg8 arg9 harg9 arg10 arg11 arg12 arg13 v16_r0 v2 t (Scf.iv 0#32 1#32 t) h1)
        fun _ => S2 EC ι d i dat arg5 fI Ow W (evenB arg6 arg7 arg8 arg9 arg10 arg11 arg12 arg13) t.val := by
  rw [k1_part14_eq_skeleton]; unfold k1_part14_skel
  refine step_if 𝒱 d i (S1 EC ι d i dat arg5 fI Ow W (evenB arg6 arg7 arg8 arg9 arg10 arg11 arg12 arg13) t.val) (fun h hr => s01_wait EC ι 𝒱 d i ((cond_out t).mp h) hr)
    (fun h => s01_skip EC ι d i fun ht => h ((cond_out t).mpr ht)) ?_
  exact step_if 𝒱 d i (S2 EC ι d i dat arg5 fI Ow W (evenB arg6 arg7 arg8 arg9 arg10 arg11 arg12 arg13) t.val) (fun h hr => s12_start EC ι 𝒱 d i ((cond_in t).mp h) (off_next i t ((cond_in t).mp h)) hr)
    (fun h => s12_skip EC ι d i t.isLt fun ht => h ((cond_in t).mpr ht)) (step_pure 𝒱 .rfl)

/-- An even step's next two. -/
theorem even_pick (h1 : k1_cond1 t = 1#1) (hX : ∀ n, (arg5.view.read (Elt F) fI n).toNat < 512) :
    (S2 EC ι d i dat arg5 fI Ow W (evenB arg6 arg7 arg8 arg9 arg10 arg11 arg12 arg13) t.val : sProp 𝕄)
      ⊢ wp frame (wpE defs 𝒱 (thr d i) bd) Set.univ (k1_part15 (F := F) i mD (Memref.isWhole_whole main_v2_scv) arg3 harg3 mR (Memref.isWhole_whole main_v3_scv) arg5 harg5 arg6 harg6 arg7 harg7 arg8 harg8 arg9 harg9 arg10 arg11 arg12 arg13 v16_r0 t (Scf.iv 0#32 1#32 t) h1)
        fun _ => S4 EC ι d i dat arg5 fI Ow W (evenB arg6 arg7 arg8 arg9 arg10 arg11 arg12 arg13) t.val := by
  rw [k1_part15_eq_skeleton]; unfold k1_part15_skel
  refine s23_wait EC ι 𝒱 d i t.isLt ?_
  refine s34_pick EC ι 𝒱 d i (L := k1_t2_loop) (by decide) _ (fun fB j => ?_) (step_pure 𝒱 .rfl)
  exact trip_even 𝒱 d i mD (Memref.isWhole_whole main_v2_scv) arg3 harg3 mR (Memref.isWhole_whole main_v3_scv) arg5 harg5 arg6 harg6 arg7 harg7 arg8 harg8 arg9 harg9 arg10 arg11 arg12 arg13 v16_r0 t _ h1 _ j fI fB hX

/-- An odd step's first two moves. -/
theorem odd_ahead (h4 : k1_cond4 t = 1#1) :
    (S0 EC ι d i dat arg5 fI Ow W (Bufs.swap (evenB arg6 arg7 arg8 arg9 arg10 arg11 arg12 arg13)) t.val : sProp 𝕄)
      ⊢ wp frame (wpE defs 𝒱 (thr d i) bd) Set.univ (k1_part29 (F := F) i mD (Memref.isWhole_whole main_v2_scv) arg3 harg3 mR (Memref.isWhole_whole main_v3_scv) arg5 harg5 arg6 harg6 arg7 harg7 arg8 harg8 arg9 harg9 arg10 arg11 arg12 arg13 v16_r0 v2 t (Scf.iv 0#32 1#32 t) h4)
        fun _ => S2 EC ι d i dat arg5 fI Ow W (Bufs.swap (evenB arg6 arg7 arg8 arg9 arg10 arg11 arg12 arg13)) t.val := by
  rw [k1_part29_eq_skeleton]; unfold k1_part29_skel
  refine step_if 𝒱 d i (S1 EC ι d i dat arg5 fI Ow W (Bufs.swap (evenB arg6 arg7 arg8 arg9 arg10 arg11 arg12 arg13)) t.val) (fun h hr => s01_wait EC ι 𝒱 d i ((cond_out' t).mp h) hr)
    (fun h => s01_skip EC ι d i fun ht => h ((cond_out' t).mpr ht)) ?_
  exact step_if 𝒱 d i (S2 EC ι d i dat arg5 fI Ow W (Bufs.swap (evenB arg6 arg7 arg8 arg9 arg10 arg11 arg12 arg13)) t.val) (fun h hr => s12_start EC ι 𝒱 d i ((cond_in' t).mp h) (off_next' i t ((cond_in' t).mp h)) hr)
    (fun h => s12_skip EC ι d i t.isLt fun ht => h ((cond_in' t).mpr ht)) (step_pure 𝒱 .rfl)

/-- An odd step's next two. -/
theorem odd_pick (h4 : k1_cond4 t = 1#1) (hX : ∀ n, (arg5.view.read (Elt F) fI n).toNat < 512) :
    (S2 EC ι d i dat arg5 fI Ow W (Bufs.swap (evenB arg6 arg7 arg8 arg9 arg10 arg11 arg12 arg13)) t.val : sProp 𝕄)
      ⊢ wp frame (wpE defs 𝒱 (thr d i) bd) Set.univ (k1_part30 (F := F) i mD (Memref.isWhole_whole main_v2_scv) arg3 harg3 mR (Memref.isWhole_whole main_v3_scv) arg5 harg5 arg6 harg6 arg7 harg7 arg8 harg8 arg9 harg9 arg10 arg11 arg12 arg13 v16_r0 t (Scf.iv 0#32 1#32 t) h4)
        fun _ => S4 EC ι d i dat arg5 fI Ow W (Bufs.swap (evenB arg6 arg7 arg8 arg9 arg10 arg11 arg12 arg13)) t.val := by
  rw [k1_part30_eq_skeleton]; unfold k1_part30_skel
  refine s23_wait EC ι 𝒱 d i t.isLt ?_
  refine s34_pick EC ι 𝒱 d i (L := k1_t3_loop) (by decide) _ (fun fB j => ?_) (step_pure 𝒱 .rfl)
  exact trip_odd 𝒱 d i mD (Memref.isWhole_whole main_v2_scv) arg3 harg3 mR (Memref.isWhole_whole main_v3_scv) arg5 harg5 arg6 harg6 arg7 harg7 arg8 harg8 arg9 harg9 arg10 arg11 arg12 arg13 v16_r0 t _ h4 _ j fI fB hX

/-- Before step `t`, whichever its parity. -/
def Before (t : ℕ) : sProp 𝕄 := S0 EC ι d i dat arg5 fI Ow W (if t % 2 = 0 then (evenB arg6 arg7 arg8 arg9 arg10 arg11 arg12 arg13) else Bufs.swap (evenB arg6 arg7 arg8 arg9 arg10 arg11 arg12 arg13)) t

/-- A step, from before it to before the next. -/
theorem step (hX : ∀ n, (arg5.view.read (Elt F) fI n).toNat < 512) :
    (Before EC ι d i arg5 arg6 arg7 arg8 arg9 arg10 arg11 arg12 arg13 dat fI Ow W t.val : sProp 𝕄)
      ⊢ wp frame (wpE defs 𝒱 (thr d i) bd) Set.univ (k1_t1_body (F := F) i mD (Memref.isWhole_whole main_v2_scv) arg3 harg3 mR (Memref.isWhole_whole main_v3_scv) arg5 harg5 arg6 harg6 arg7 harg7 arg8 harg8 arg9 harg9 arg10 arg11 arg12 arg13 v16_r0 v2 t ⟨⟩)
        fun _ => Before EC ι d i arg5 arg6 arg7 arg8 arg9 arg10 arg11 arg12 arg13 dat fI Ow W (t.val + 1) := by
  unfold Before k1_t1_body
  by_cases hpar : t.val % 2 = 0
  · have h4 : ¬ k1_cond4 t = 1#1 := fun h => by have := (cond_odd t).mp h; omega
    rw [if_pos hpar, if_neg (show ¬ (t.val + 1) % 2 = 0 by omega)]
    refine step_if 𝒱 d i (S0 EC ι d i dat arg5 fI Ow W (Bufs.swap (evenB arg6 arg7 arg8 arg9 arg10 arg11 arg12 arg13)) (t.val + 1))
      (fun h hr => step_run 𝒱 d i (even_ahead EC ι 𝒱 d i arg3 harg3 arg5 harg5 arg6 harg6 arg7 harg7 arg8 harg8 arg9 harg9 arg10 arg11 arg12 arg13 v16_r0 v2 t dat fI Ow W h) fun _ =>
        step_run 𝒱 d i (even_pick EC ι 𝒱 d i arg3 harg3 arg5 harg5 arg6 harg6 arg7 harg7 arg8 harg8 arg9 harg9 arg10 arg11 arg12 arg13 v16_r0 t dat fI Ow W h hX) fun _ => s45_start EC ι 𝒱 d i harg8.set_eq_univ t.isLt (off_cur i t) hr)
      (fun h => absurd ((cond_even t).mpr hpar) h) ?_
    exact step_if 𝒱 d i (S0 EC ι d i dat arg5 fI Ow W (Bufs.swap (evenB arg6 arg7 arg8 arg9 arg10 arg11 arg12 arg13)) (t.val + 1)) (fun h => absurd h h4) (fun _ => .rfl) (step_pure 𝒱 .rfl)
  · have h1 : ¬ k1_cond1 t = 1#1 := fun h => hpar ((cond_even t).mp h)
    rw [if_neg hpar, if_pos (show (t.val + 1) % 2 = 0 by omega)]
    refine step_if 𝒱 d i (S0 EC ι d i dat arg5 fI Ow W (Bufs.swap (evenB arg6 arg7 arg8 arg9 arg10 arg11 arg12 arg13)) t.val) (fun h => absurd h h1) (fun _ => .rfl) ?_
    exact step_if 𝒱 d i (S0 EC ι d i dat arg5 fI Ow W (evenB arg6 arg7 arg8 arg9 arg10 arg11 arg12 arg13) (t.val + 1))
      (fun h hr => step_run 𝒱 d i (odd_ahead EC ι 𝒱 d i arg3 harg3 arg5 harg5 arg6 harg6 arg7 harg7 arg8 harg8 arg9 harg9 arg10 arg11 arg12 arg13 v16_r0 v2 t dat fI Ow W h) fun _ =>
        step_run 𝒱 d i (odd_pick EC ι 𝒱 d i arg3 harg3 arg5 harg5 arg6 harg6 arg7 harg7 arg8 harg8 arg9 harg9 arg10 arg11 arg12 arg13 v16_r0 t dat fI Ow W h hX) fun _ => s45_start EC ι 𝒱 d i harg9.set_eq_univ t.isLt (off_cur' i t) hr)
      (fun h => absurd ((cond_odd t).mpr (by omega)) h) (step_pure 𝒱 .rfl)

end Cert.Proof.Body

end
-- ==== Proof.Task.lean ====
/-
  What one subcore computes: its thirty-two blocks of the result.

  The subcore copies the index words into its own memory, fetches its first block, runs the loop's thirty-two steps, and
  waits for the last two write-backs.
-/
module

public import proofs.«01_k».proof.Proof.Body

@[expose] public section

set_option maxHeartbeats 8000000
set_option maxRecDepth 65536

noncomputable section

namespace Cert.Proof.Task

open Cert.KernelIdeal Cert.KernelIdeal.Gen Cert.Proof.Steps Cert.Proof.Trip Cert.Proof.Copies Cert.Proof.Offsets Cert.Proof.Phase Cert.Proof.Body
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix Name U Lvl : Type} [DecidableEq Ix] [DecidableEq Name] [Infinite Name] [URA U] [Preorder Lvl]
variable (EC : UEmb Counters (MT nD τ sig Ix (Elt F) Name U Lvl)) [EC.LandsIn (upEmb : UEmb _ (MT nD τ sig Ix (Elt F) Name U Lvl))] (ι : Ix)
variable {defs : Defs nD τ sig (Elt F) Λ₀} (𝒱 : Variants) {bd : Option 𝒱.V}
variable (d : Dev nD) (i : grid1.Coords)
variable (arg3 : Memref sig .scVector .hbm S4096 .i32) (harg3 : arg3.IsWhole)
  (arg5 : Memref sig .scVector .vmem S4096 .i32) (harg5 : arg5.IsWhole)
  (arg6 : Memref sig .scVector .vmem S32x512 .f32) (harg6 : arg6.IsWhole) (arg7 : Memref sig .scVector .vmem S32x512 .f32) (harg7 : arg7.IsWhole)
  (arg8 : Memref sig .scVector .vmem S32x512 .f32) (harg8 : arg8.IsWhole) (arg9 : Memref sig .scVector .vmem S32x512 .f32) (harg9 : arg9.IsWhole)
  (arg10 arg11 arg12 arg13 v16_r0 : DmaSems sig S_)
variable (dat : S32768x512.Idx → F .f32) (q : PosShare TreeShare) (fX : Buf (Elt F) (arg3.view.loc (thr d i)))
variable (Ow : CellTallies nD τ sig Ix) (W : Waits sig Ix)

local notation "𝕄" => MT nD τ sig Ix (Elt F) Name U Lvl

/-- The subcore's own memory, at any contents, and its semaphores at zero. -/
def local' : sProp 𝕄 := iprop((∃ f : Buf (Elt F) (arg5.view.loc (thr d i)), arg5.view.loc (thr d i) ↦[Finset.univ]{fullShare} f)
  ∗ free d i arg6 arg10.sem ∗ free d i arg7 arg11.sem ∗ free d i arg8 arg12.sem ∗ free d i arg9 arg13.sem ∗ semVal (thr d i, .dma v16_r0.sem) 0)

/-- The index words, read. -/
abbrev idxIn : sProp 𝕄 := arg3.view.loc (thr d i) ↦[arg3.view.set]{q} fX

/-- The subcore's rows of the data, -/
def dataRows : sProp 𝕄 := bigSep (Finset.range 32) fun u => dataP d i dat (rowOf i u)
/-- of the result at any contents, -/
def resRowsAny : sProp 𝕄 := bigSep (Finset.range 32) fun u => resAny d i (rowOf i u)
/-- and at given ones. -/
def resRows (r : S32768x512.Idx → F .f32) : sProp 𝕄 := bigSep (Finset.range 32) fun u => resP d i r (rowOf i u)

/-- The first block's rows apart; -/
theorem data_first : (dataRows d i dat : sProp 𝕄)
    = iprop(dataP d i dat (rowOf i 0) ∗ bigSep ((Finset.range 32).erase 0) fun u => dataP d i dat (rowOf i u)) :=
  SparseCore.bigSep_erase' (i := 0) (s := Finset.range 32) (by simp)

/-- the last two blocks' rows apart. -/
theorem res_last (r : S32768x512.Idx → F .f32) : (resRows d i r : sProp 𝕄)
    = iprop(resP d i r (rowOf i 31) ∗ resP d i r (rowOf i 30) ∗ bigSep (Finset.range 30) fun u => resP d i r (rowOf i u)) := by
  unfold resRows
  rw [show Finset.range 32 = insert 31 (insert 30 (Finset.range 30)) by decide, SparseCore.bigSep_insert' (by decide), SparseCore.bigSep_insert' (by decide)]

/-- Before the first step. -/
theorem before_zero (fI : Buf (Elt F) (arg5.view.loc (thr d i))) :
    iprop(Fetch EC ι d i dat arg6 arg10.sem (rowOf i 0) ∗ free d i arg7 arg11.sem ∗ free d i arg8 arg12.sem ∗ free d i arg9 arg13.sem ∗ idxP d i arg5 fI
        ∗ owing ι d i Ow W ∗ (bigSep ((Finset.range 32).erase 0) fun u => dataP d i dat (rowOf i u)) ∗ resRowsAny d i)
      ⊢ (Before EC ι d i arg5 arg6 arg7 arg8 arg9 arg10 arg11 arg12 arg13 dat fI Ow W 0 : sProp 𝕄) := by
  unfold Before S0
  rw [if_pos (show 0 % 2 = 0 from rfl), show inSlot EC ι d i dat ((evenB arg6 arg7 arg8 arg9 arg10 arg11 arg12 arg13)).a ((evenB arg6 arg7 arg8 arg9 arg10 arg11 arg12 arg13)).sa 0 = Fetch EC ι d i dat arg6 arg10.sem (rowOf i 0) from if_pos (by decide),
    show outSlot EC ι d i dat arg5 fI ((evenB arg6 arg7 arg8 arg9 arg10 arg11 arg12 arg13)).o ((evenB arg6 arg7 arg8 arg9 arg10 arg11 arg12 arg13)).so 0 = free d i arg8 arg12.sem from if_neg (by decide),
    show outSlot EC ι d i dat arg5 fI ((evenB arg6 arg7 arg8 arg9 arg10 arg11 arg12 arg13)).o' ((evenB arg6 arg7 arg8 arg9 arg10 arg11 arg12 arg13)).so' (0 + 1) = free d i arg9 arg13.sem from if_neg (by decide)]
  iintro ⟨HF, H7, H8, H9, HI, Hw, HD, HR⟩
  isplitl [HF]; · iexact HF
  isplitl [H7]; · iexact H7
  isplitl [H8]; · iexact H8
  isplitl [H9]; · iexact H9
  isplitl [HI]; · iexact HI
  isplitl [Hw]; · iexact Hw
  isplitl [HD]; · unfold dataHold; iexact HD
  isplitl [HR]
  · unfold resRowsAny resFrom
    rw [show (Finset.range 32).filter (0 ≤ ·) = Finset.range 32 by ext; simp]
    iexact HR
  · unfold resBelow
    rw [show (0 : ℕ) - 2 = 0 from rfl, Finset.range_zero, bigSep_empty]
    iempintro

/-- After the last. -/
theorem before_end (fI : Buf (Elt F) (arg5.view.loc (thr d i))) :
    (Before EC ι d i arg5 arg6 arg7 arg8 arg9 arg10 arg11 arg12 arg13 dat fI Ow W 32 : sProp 𝕄)
      ⊢ iprop((free d i arg6 arg10.sem ∗ free d i arg7 arg11.sem ∗ idxP d i arg5 fI ∗ owing ι d i Ow W ∗ dataRows d i dat)
        ∗ Out EC ι d i (result dat (arg5.view.read (Elt F) fI)) arg8 arg12.sem (rowOf i 30)
        ∗ Out EC ι d i (result dat (arg5.view.read (Elt F) fI)) arg9 arg13.sem (rowOf i 31)
        ∗ bigSep (Finset.range 30) fun u => resP d i (result dat (arg5.view.read (Elt F) fI)) (rowOf i u)) := by
  unfold Before S0
  rw [if_pos (show 32 % 2 = 0 from rfl), show inSlot EC ι d i dat ((evenB arg6 arg7 arg8 arg9 arg10 arg11 arg12 arg13)).a ((evenB arg6 arg7 arg8 arg9 arg10 arg11 arg12 arg13)).sa 32 = free d i arg6 arg10.sem from if_neg (by decide),
    show outSlot EC ι d i dat arg5 fI ((evenB arg6 arg7 arg8 arg9 arg10 arg11 arg12 arg13)).o ((evenB arg6 arg7 arg8 arg9 arg10 arg11 arg12 arg13)).so 32 = Out EC ι d i (result dat (arg5.view.read (Elt F) fI)) arg8 arg12.sem (rowOf i 30) from if_pos (by decide),
    show outSlot EC ι d i dat arg5 fI ((evenB arg6 arg7 arg8 arg9 arg10 arg11 arg12 arg13)).o' ((evenB arg6 arg7 arg8 arg9 arg10 arg11 arg12 arg13)).so' (32 + 1) = Out EC ι d i (result dat (arg5.view.read (Elt F) fI)) arg9 arg13.sem (rowOf i 31) from if_pos (by decide)]
  iintro ⟨H6, H7, H8, H9, HI, Hw, HD, -, Hb⟩
  isplitl [H6 H7 HI Hw HD]
  · isplitl [H6]; · iexact H6
    isplitl [H7]; · iexact H7
    isplitl [HI]; · iexact HI
    isplitl [Hw]; · iexact Hw
    unfold dataHold dataRows
    rw [show (Finset.range 32).erase 32 = Finset.range 32 from Finset.erase_eq_of_notMem (by simp)]
    iexact HD
  isplitl [H8]; · iexact H8
  isplitl [H9]; · iexact H9
  unfold resBelow
  iexact Hb

include EC in
/-- The subcore's program, from its rows of the data to its rows of the result. -/
theorem run (hX : ∀ n, (arg3.view.read (Elt F) fX n).toNat < 512) :
    iprop(local' d i arg5 arg6 arg7 arg8 arg9 arg10 arg11 arg12 arg13 v16_r0 ∗ idxIn d i arg3 q fX ∗ dataRows d i dat ∗ resRowsAny d i ∗ owing ι d i Ow W)
      ⊢ (wp frame (wpE defs 𝒱 (thr d i) bd) Set.univ (cc1_sc_gather (F := F) i mD (Memref.isWhole_whole main_v2_scv) arg3 harg3 mR (Memref.isWhole_whole main_v3_scv) arg5 harg5 arg6 harg6 arg7 harg7 arg8 harg8 arg9 harg9 arg10 arg11 arg12 arg13 v16_r0)
        fun _ => iprop(local' d i arg5 arg6 arg7 arg8 arg9 arg10 arg11 arg12 arg13 v16_r0 ∗ idxIn d i arg3 q fX ∗ dataRows d i dat
          ∗ resRows d i (result dat (arg3.view.read (Elt F) fX)) ∗ owing ι d i Ow W) : sProp 𝕄) := by
  rw [cc1_sc_gather_eq_skeleton]; unfold cc1_sc_gather_skel local'
  rw [data_first, res_last]
  unfold resRowsAny
  iintro ⟨⟨⟨%f5, H5⟩, H6, H7, H8, H9, Hs⟩, HX, ⟨HD0, HD⟩, HR, Hw⟩
  iapply (Transfers.wp_dmaLocal EC 𝒱 (thr d i) bd (src := arg3) (via := .same) (dst := arg5) (sm := .dma v16_r0.sem)
    (q := q) (fs := fX) (Sd := Finset.univ) (fd := f5) ι arg5.view.dmaCredit rfl (View.dmaCredit_pos _ (by decide)) (Finset.subset_univ _)) $$ [HX H5 Hs]
  · isplitl [HX]; · iexact HX
    isplitl [H5] <;> iassumption
  iintro HF
  unfold owing
  icases Hw with ⟨#HM, %W₀, %hW₀, Ho⟩
  iapply (Transfers.wp_waitLocalO EC 𝒱 (thr d i) bd (N := arg5.view.dmaCredit) ι rfl) $$ [HF Ho]
  · isplitl [HF]; · iexact HF
    isplitl [Ho]; · iexact Ho
    iapply (Transfers.MayWaits.elim (.dma v16_r0.sem)) $$ HM
  iintro ⟨⟨H5, HX⟩, Hs, Ho⟩
  iapply (fetch_start EC ι 𝒱 d i (off_first i)) $$ [HD0 H6]
  · isplitl [HD0] <;> iassumption
  iintro HF
  have hrd : arg5.view.read (Elt F) (arg5.view.write (Elt F) f5 (arg3.view.read (Elt F) fX) Finset.univ) = arg3.view.read (Elt F) fX := View.read_write_univ ..
  generalize hfI : arg5.view.write (Elt F) f5 (arg3.view.read (Elt F) fX) Finset.univ = fI at hrd
  iapply (Scf.wp_for_bind frame (wpE defs 𝒱 (thr d i) bd) Set.univ k1_t1_loop.lb k1_t1_loop.ub k1_t1_loop.st k1_t1_ok ⟨⟩ _
    (fun t _ => Before EC ι d i arg5 arg6 arg7 arg8 arg9 arg10 arg11 arg12 arg13 dat fI Ow W t)
    (fun t _ => step EC ι 𝒱 d i arg3 harg3 arg5 harg5 arg6 harg6 arg7 harg7 arg8 harg8 arg9 harg9 arg10 arg11 arg12 arg13 v16_r0 _ t dat fI Ow W
      (by rw [hrd]; exact hX))) $$ [HF H5 H7 H8 H9 HD HR Ho]
  · iapply (before_zero EC ι d i arg5 arg6 arg7 arg8 arg9 arg10 arg11 arg12 arg13 dat Ow W fI)
    isplitl [HF]; · iexact HF
    isplitl [H7]; · iexact H7
    isplitl [H8]; · iexact H8
    isplitl [H9]; · iexact H9
    isplitl [H5]; · iexact H5
    isplitl [Ho]
    · unfold owing
      isplitr; · iexact HM
      iexists (insert (SemLoc.dma v16_r0.sem, ι) W₀)
      isplitr; · ipureintro; exact owing_insert ι hW₀ _
      iexact Ho
    isplitl [HD]; · iexact HD
    unfold resRowsAny; iexact HR
  iintro %acc HB
  rw [show Scf.trips k1_t1_loop.lb k1_t1_loop.ub k1_t1_loop.st = 32 by decide]
  ihave ⟨⟨H6, H7, HI, Hw, HD⟩, H8, H9, Hb⟩ := (before_end EC ι d i arg5 arg6 arg7 arg8 arg9 arg10 arg11 arg12 arg13 dat Ow W fI) $$ HB
  rw [hrd]
  iapply (out_wait EC ι 𝒱 d i) $$ [H8 Hw]
  · isplitl [H8] <;> iassumption
  iintro ⟨⟨HR0, H8⟩, Hw⟩
  iapply (out_wait EC ι 𝒱 d i) $$ [H9 Hw]
  · isplitl [H9] <;> iassumption
  iintro ⟨⟨HR1, H9⟩, Hw⟩
  rw [wp_pure]
  imodintro
  isplitl [HI H6 H7 H8 H9 Hs]
  · isplitl [HI]; · iexists fI; iexact HI
    isplitl [H6]; · iexact H6
    isplitl [H7]; · iexact H7
    isplitl [H8]; · iexact H8
    isplitl [H9]; · iexact H9
    iexact Hs
  isplitl [HX]; · iexact HX
  isplitl [HD]; · rw [← data_first]; iexact HD
  isplitl [HR0 HR1 Hb]
  · isplitl [HR1]; · iexact HR1
    isplitl [HR0]; · iexact HR0
    iexact Hb
  unfold owing
  iexact Hw

end Cert.Proof.Task

end
-- ==== Proof.Setup.lean ====
/-
  The program as its launch sees it, and the resources the proof counts with.

  Three kinds: the rounds of the handshakes between the cores, the rounds of the first kernel's transfers, and the counters
  of the gather's own copies.
-/
module

public import proofs.«01_k».proof.Proof.Task
public import proofs.«01_k».proof.Proof.Gen.KernelIdeal.Launch
public import proofs.«01_k».proof.Proof.Gen.KernelIdeal.Points
public import Idealize.ShloMosaic.Lib.SparseCore.Quiescent
public import Idealize.ShloMosaic.Lib.StableHlo.Run

@[expose] public section

noncomputable section

namespace Cert.Proof.Setup

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are distinct and no kernel's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the first kernel's, and all three resources together. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
abbrev EC : UEmb Counters (MT nD τ sig (HIx 1) (Elt F) ℕ UU ℕ) := countersEmb

instance EP_landsIn : (EP : Emb UP 𝕄).LandsIn (upEmb : UEmb _ 𝕄) := by unfold EP; infer_instance

/-- What the launch starts the two kinds of rounds at. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What the first kernel's transfers start from, on one core. -/
abbrev rounds (d : Dev nD) : sProp 𝕄 := iprop(Pipeline.cellsGhost (nD := nD) (τ := τ) cfgs EP 0 d ∗ Pipeline.toksInit (nD := nD) (τ := τ) cfgs EP 0 d)

/-- The second and third of the three apart. -/
theorem deal (a : UP) (b : Counters) : BI.own ((embR : Emb (UP × Counters) 𝕄) (a, b)) ⊢ iprop(BI.own ((EP : Emb UP 𝕄) a) ∗ BI.own (((Emb.inr : Emb Counters (UP × Counters)).trans (embR : Emb (UP × Counters) 𝕄)) b)) := by
  unfold EP; exact own_pair_emb _ a b

theorem single (Φ : Dev nD → Fin 1 → sProp 𝕄) : (bigSep Finset.univ fun d => bigSep Finset.univ fun p => Φ d p) = bigSep Finset.univ fun d => Φ d 0 :=
  bigSep_congr fun d _ => bigSep_univ_of_subsingleton (Φ := Φ d) (0 : Fin 1)

/-- The launch's resources, dealt: the handshakes' rounds to the launch, the first kernel's to each core. -/
theorem fund : (ownU (u₀ (F := F)) : sProp 𝕄)
    ⊢ |={Set.univ}=> iprop(BI.own (EH (initOf (K (F := F)).hsCells (K (F := F)).hsToks)) ∗ bigSep Finset.univ fun d : Dev nD => rounds d) := by
  unfold u₀
  iintro Hu
  ihave H := (ownU_pair _ _) $$ Hu
  icases H with ⟨HH, HR⟩
  ihave H := (deal _ _) $$ HR
  icases H with ⟨HP, -⟩
  imod (Pipeline.fund_ghost (nD := nD) (τ := τ) cfgs EP cellOf_inj) $$ HP with ⟨Hg, Ht⟩
  imodintro
  isplitl [HH]; · iexact HH
  rw [bigSep_sep', ← single fun (d : Dev nD) p => (Pipeline.cellsGhost (nD := nD) (τ := τ) cfgs EP p d : sProp 𝕄),
    ← single fun (d : Dev nD) p => (Pipeline.toksInit (nD := nD) (τ := τ) cfgs EP p d : sProp 𝕄)]
  isplitl [Hg]; · iexact Hg
  iexact Ht

end Cert.Proof.Setup

end
-- ==== Proof.Own.lean ====
/-
  What a subcore holds of its own: the five scratch buffers and the five semaphores the gather uses, apart from the rest.
-/
module

public import proofs.«01_k».proof.Proof.Setup

@[expose] public section

set_option maxRecDepth 65536

noncomputable section

namespace Cert.Proof.Own

open Cert.KernelIdeal Cert.KernelIdeal.Gen
open Cert.Proof.Offsets Cert.Proof.Copies Cert.Proof.Task Cert.Proof.Setup
open Idealize.ShloMosaic
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The scratch buffers; -/
def scratch : Finset (Ref sig .scVector) := {cc1_scratch0, cc1_scratch1, cc1_scratch2, cc1_scratch3, cc1_scratch4}
/-- the semaphores. -/
def sems : Finset (SemLoc sig) := {.dma cc1_scratch5.sem, .dma cc1_scratch6.sem, .dma cc1_scratch7.sem, .dma cc1_scratch8.sem, .dma cc1_scoped0.sem}

variable (d : Dev nD) (i : grid1.Coords)

/-- The subcore's other buffers; -/
def restBufs : sProp 𝕄 :=
  bigSep (ownRefs (thr d i).2 \ scratch.image (thr d i).2.devRef) fun b => iprop(∃ f, (((thr d i).1, b) : Loc nD τ sig) ↦{fullShare} f)
/-- its other semaphores. -/
def restSems : sProp 𝕄 := bigSep (ownCells (thr d i) \ sems.image fun s => (thr d i, s)) fun g => semVal g 0

theorem bufs_apart : (ownBufs (thr d i) : sProp 𝕄)
    = iprop((bigSep scratch fun r => iprop(∃ f : Buf (Elt F) ((thr d i).loc r), (thr d i).loc r ↦{fullShare} f)) ∗ restBufs d i) := by
  have hsub : scratch.image (thr d i).2.devRef ⊆ ownRefs (thr d i).2 := by
    refine Finset.image_subset_iff.mpr fun r hr => SparseCore.Cfg.mem_ownRefs_of_owner ?_
    simp only [scratch, Finset.mem_insert, Finset.mem_singleton] at hr
    rcases hr with rfl | rfl | rfl | rfl | rfl <;> rfl
  unfold ownBufs restBufs
  rw [SparseCore.bigSep_sdiff_split' hsub, SparseCore.bigSep_image_of_injOn (fun _ _ _ _ e => Proc.devRef_injective _ e)]

theorem sems_apart : (ownSems0 (thr d i) : sProp 𝕄) = iprop((bigSep sems fun s => semVal (thr d i, s) 0) ∗ restSems d i) := by
  have hsub : (sems.image fun s => (thr d i, s)) ⊆ ownCells (thr d i) := by
    refine Finset.image_subset_iff.mpr fun s hs => mem_ownCells.mpr ⟨rfl, ?_⟩
    have : ∀ s ∈ sems, s.isScoped .scVector = true := by decide
    exact this s hs
  unfold ownSems0 restSems
  rw [SparseCore.bigSep_sdiff_split' hsub, SparseCore.bigSep_image_of_injOn (fun _ _ _ _ e => (Prod.mk.inj e).2)]

/-- The memory and semaphores the gather uses, of the launch's buffers. -/
abbrev used : sProp 𝕄 := local' d i (Memref.whole cc1_scratch0) (Memref.whole cc1_scratch1) (Memref.whole cc1_scratch2) (Memref.whole cc1_scratch3)
  (Memref.whole cc1_scratch4) cc1_scratch5 cc1_scratch6 cc1_scratch7 cc1_scratch8 cc1_scoped0

/-- The scratch buffers and semaphores, named, and the rest. -/
def named : sProp 𝕄 := iprop((((∃ f : Buf (Elt F) ((thr d i).loc cc1_scratch0), (thr d i).loc cc1_scratch0 ↦{fullShare} f)
      ∗ (∃ f : Buf (Elt F) ((thr d i).loc cc1_scratch1), (thr d i).loc cc1_scratch1 ↦{fullShare} f)
      ∗ (∃ f : Buf (Elt F) ((thr d i).loc cc1_scratch2), (thr d i).loc cc1_scratch2 ↦{fullShare} f)
      ∗ (∃ f : Buf (Elt F) ((thr d i).loc cc1_scratch3), (thr d i).loc cc1_scratch3 ↦{fullShare} f)
      ∗ ∃ f : Buf (Elt F) ((thr d i).loc cc1_scratch4), (thr d i).loc cc1_scratch4 ↦{fullShare} f) ∗ restBufs d i)
  ∗ (semVal (thr d i, .dma cc1_scratch5.sem) 0 ∗ semVal (thr d i, .dma cc1_scratch6.sem) 0 ∗ semVal (thr d i, .dma cc1_scratch7.sem) 0
      ∗ semVal (thr d i, .dma cc1_scratch8.sem) 0 ∗ semVal (thr d i, .dma cc1_scoped0.sem) 0) ∗ restSems d i)

theorem own_named : (iprop(ownBufs (thr d i) ∗ ownSems0 (thr d i)) : sProp 𝕄) = named d i := by
  rw [bufs_apart, sems_apart, scratch, sems,
    SparseCore.bigSep_insert' (by decide), SparseCore.bigSep_insert' (by decide), SparseCore.bigSep_insert' (by decide), SparseCore.bigSep_insert' (by decide),
    bigSep_singleton,
    SparseCore.bigSep_insert' (by decide), SparseCore.bigSep_insert' (by decide), SparseCore.bigSep_insert' (by decide), SparseCore.bigSep_insert' (by decide),
    bigSep_singleton]
  rfl

/-- A subcore's own buffers and semaphores are those the gather uses and the rest: taken apart, -/
theorem take : (iprop(ownBufs (thr d i) ∗ ownSems0 (thr d i)) : sProp 𝕄) ⊢ iprop(used d i ∗ restBufs d i ∗ restSems d i) := by
  rw [own_named]; unfold named used local'
  iintro ⟨⟨⟨H0, H1, H2, H3, H4⟩, Hr⟩, ⟨⟨h5, h6, h7, h8, h9⟩, Hs⟩⟩
  isplitr [Hr Hs]
  · isplitl [H0]; · iexact H0
    isplitl [H1 h5]
    · isplitl [H1] <;> iassumption
    isplitl [H2 h6]
    · isplitl [H2] <;> iassumption
    isplitl [H3 h7]
    · isplitl [H3] <;> iassumption
    isplitl [H4 h8]
    · isplitl [H4] <;> iassumption
    iexact h9
  · isplitl [Hr] <;> iassumption

/-- and put together. -/
theorem give : (iprop(used d i ∗ restBufs d i ∗ restSems d i) : sProp 𝕄) ⊢ iprop(ownBufs (thr d i) ∗ ownSems0 (thr d i)) := by
  rw [own_named]; unfold named used local'
  iintro ⟨⟨H0, ⟨H1, h5⟩, ⟨H2, h6⟩, ⟨H3, h7⟩, ⟨H4, h8⟩, h9⟩, Hr, Hs⟩
  isplitl [H0 H1 H2 H3 H4 Hr]
  · isplitr [Hr]
    · isplitl [H0]; · iexact H0
      isplitl [H1]; · iexact H1
      isplitl [H2]; · iexact H2
      isplitl [H3]; · iexact H3
      iexact H4
    · iexact Hr
  · isplitr [Hs]
    · isplitl [h5]; · iexact h5
      isplitl [h6]; · iexact h6
      isplitl [h7]; · iexact h7
      isplitl [h8]; · iexact h8
      iexact h9
    · iexact Hs

end Cert.Proof.Own
-- ==== Proof.Blocks.lean ====
/-
  How the arrays are shared out among the subcores: the data and the result in blocks of thirty-two rows, the index words
  to be read by every subcore.
-/
module

public import proofs.«01_k».proof.Proof.Own

@[expose] public section

set_option maxRecDepth 65536

noncomputable section

namespace Cert.Proof.Blocks

open Cert.KernelIdeal Cert.KernelIdeal.Gen
open Cert.Proof.Offsets Cert.Proof.Copies Cert.Proof.Task Cert.Proof.Setup
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The blocks: a SparseCore, a subcore of it, a step of that one. -/
def all : Finset (Fin 2 × Fin 16 × ℕ) := Finset.univ ×ˢ (Finset.univ ×ˢ Finset.range 32)

/-- A block's rows. -/
def block (p : Fin 2 × Fin 16 × ℕ) : Finset S32768x512.Idx := rowsAt (rowOf (mk p.1 p.2.1) p.2.2)

theorem disjoint : ∀ p ∈ all, ∀ p' ∈ all, p ≠ p' → Disjoint (block p) (block p') := by
  intro p _ p' _ hne
  refine Finset.disjoint_left.mpr fun y h h' => hne ?_
  obtain ⟨h0, h1, h2⟩ := rowOf_inj (mem_rowsAt.mp h) (mem_rowsAt.mp h')
  exact Prod.ext (Fin.ext h0) (Prod.ext (Fin.ext h1) h2)

/-- Every row is in a block. -/
theorem cover : all.biUnion block = Finset.univ := by
  refine Finset.eq_univ_of_forall fun y => Finset.mem_biUnion.mpr ?_
  have hn : (y 0).val < 32768 := (y 0).isLt
  refine ⟨(⟨(y 0).val % 4096 / 128 % 2, by omega⟩, ⟨(y 0).val % 4096 / 256, by omega⟩, (y 0).val / 4096 * 4 + (y 0).val % 128 / 32), ?_, ?_⟩
  · simp only [all, Finset.mem_product, Finset.mem_univ, Finset.mem_range, true_and]
    omega
  · refine mem_rowsAt.mpr ?_
    show ((y 0).val / 4096 * 4 + (y 0).val % 128 / 32) / 4 * 4096 + (2 * ((y 0).val % 4096 / 256) + (y 0).val % 4096 / 128 % 2) * 128
        + ((y 0).val / 4096 * 4 + (y 0).val % 128 / 32) % 4 * 32 ≤ (y 0).val ∧ (y 0).val
      < ((y 0).val / 4096 * 4 + (y 0).val % 128 / 32) / 4 * 4096 + (2 * ((y 0).val % 4096 / 256) + (y 0).val % 4096 / 128 % 2) * 128
        + ((y 0).val / 4096 * 4 + (y 0).val % 128 / 32) % 4 * 32 + 32
    omega

variable (d : Dev nD)

/-- The data, block by block; -/
theorem data_blocks (f : S32768x512.Idx → F .f32) :
    ((SparseCore.T d).loc main_v2 ↦{fullShare} f : sProp 𝕄) = bigSep Finset.univ fun c : Fin 2 => bigSep Finset.univ fun s : Fin 16 => dataRows d (mk c s) f := by
  have h : ((SparseCore.T d).loc main_v2 ↦[all.biUnion block]{fullShare} f : sProp 𝕄) = _ := pointsTo_biUnion all (ℓ := (SparseCore.T d).loc main_v2) block disjoint
  rw [cover, all, SparseCore.bigSep_product] at h
  refine h.trans (bigSep_congr fun c _ => ?_)
  rw [SparseCore.bigSep_product]
  rfl

/-- so the result. -/
theorem res_blocks (f : S32768x512.Idx → F .f32) :
    ((SparseCore.T d).loc main_v3 ↦{fullShare} f : sProp 𝕄) = bigSep Finset.univ fun c : Fin 2 => bigSep Finset.univ fun s : Fin 16 => resRows d (mk c s) f := by
  have h : ((SparseCore.T d).loc main_v3 ↦[all.biUnion block]{fullShare} f : sProp 𝕄) = _ := pointsTo_biUnion all (ℓ := (SparseCore.T d).loc main_v3) block disjoint
  rw [cover, all, SparseCore.bigSep_product] at h
  refine h.trans (bigSep_congr fun c _ => ?_)
  rw [SparseCore.bigSep_product]
  rfl

/-- Rows at given contents are rows at some. -/
theorem res_any (i : grid1.Coords) (f : S32768x512.Idx → F .f32) : (resRows d i f : sProp 𝕄) ⊢ resRowsAny d i :=
  bigSep_mono fun u _ => show (resP d i f (rowOf i u) : sProp 𝕄) ⊢ iprop(∃ g, resP d i g (rowOf i u)) by
    iintro H; iexists f; iexact H

/-- A subcore's share of the index words. -/
def share (c : Fin 2) (s : Fin 16) : PosShare TreeShare := Transfers.dealOf (Transfers.dealOf fullShare Finset.univ c) Finset.univ s

/-- The index words as a subcore addresses them. -/
abbrev mX : Memref sig .scVector .hbm S4096 .i32 := Memref.whole main_v1_scv

/-- The index words, a share for each subcore. -/
theorem index_shares (X : S4096.Idx → BitVec 32) :
    ((SparseCore.T d).loc main_v1 ↦{fullShare} X : sProp 𝕄)
      = bigSep Finset.univ fun c : Fin 2 => bigSep Finset.univ fun s : Fin 16 => idxIn d (mk c s) mX (share c s) X := by
  have h : ((SparseCore.T d).loc main_v1 ↦{fullShare} X : sProp 𝕄) = _ := Transfers.pointsTo_deal (Finset.univ : Finset (Fin 2)) Finset.univ_nonempty fullShare
  refine h.trans (bigSep_congr fun c _ => ?_)
  refine (Transfers.pointsTo_deal (Finset.univ : Finset (Fin 16)) Finset.univ_nonempty _).trans (bigSep_congr fun s _ => ?_)
  show _ = (mX.view.loc (thr d (mk c s)) ↦[mX.view.set]{share c s} X : sProp 𝕄)
  rw [show mX.view.set = Finset.univ from View.set_whole _]
  rfl

end Cert.Proof.Blocks
-- ==== Proof.SameText.lean ====
/-
  The kernel as it runs and the kernel over exact numbers are the same text: their threads and their tables of bodies
  coincide at every interpretation of the floats, so what is shown of one holds of the other.
-/
module

public import proofs.«01_k».proof.Defs
public import proofs.«01_k».proof.Proof.Gen.Kernel
public import proofs.«01_k».proof.Proof.Gen.KernelIdeal

@[expose] public section

set_option maxHeartbeats 8000000
set_option maxRecDepth 65536

namespace Cert.Proof.SameText

open Idealize.ShloMosaic Idealize.SL.Sem

variable {F : FTy → Type} [FloatOps F]

namespace AsRun

open Cert.Kernel Cert.Kernel.Gen

/-- A subcore's place in the grid. -/
def coordsV (c : Fin (grid1.bound 0)) (s : Fin (grid1.bound 1)) : grid1.Coords :=
  fun | 0 => c | 1 => s | ⟨_ + 2, h⟩ => absurd h (Nat.not_lt.2 (Nat.le_add_left _ _))

/-- A subcore's body: the gather at its place in the grid, nothing outside it. -/
theorem body (c : Fin τ.nSC) (s : Fin τ.nSub) : defs₀ (F := F) (.scVector c s) 1 () = SparseCore.onTile hcore1 hsub1 (fun c s =>
    cc1_sc_gather (coordsV c s) (Memref.whole main_v2_scv) (Memref.isWhole_whole _) (Memref.whole main_v1_scv) (Memref.isWhole_whole _)
      (Memref.whole main_v3_scv) (Memref.isWhole_whole _) (Memref.whole cc1_scratch0) (Memref.isWhole_whole _) (Memref.whole cc1_scratch1) (Memref.isWhole_whole _)
      (Memref.whole cc1_scratch2) (Memref.isWhole_whole _) (Memref.whole cc1_scratch3) (Memref.isWhole_whole _) (Memref.whole cc1_scratch4) (Memref.isWhole_whole _)
      cc1_scratch5 cc1_scratch6 cc1_scratch7 cc1_scratch8 cc1_scoped0) ⟨⟩ c s := rfl

end AsRun

namespace Exact

open Cert.KernelIdeal Cert.KernelIdeal.Gen

/-- A subcore's place in the grid. -/
def coordsV (c : Fin (grid1.bound 0)) (s : Fin (grid1.bound 1)) : grid1.Coords :=
  fun | 0 => c | 1 => s | ⟨_ + 2, h⟩ => absurd h (Nat.not_lt.2 (Nat.le_add_left _ _))

/-- A subcore's body: the gather at its place in the grid, nothing outside it. -/
theorem body (c : Fin τ.nSC) (s : Fin τ.nSub) : defs₀ (F := F) (.scVector c s) 1 () = SparseCore.onTile hcore1 hsub1 (fun c s =>
    cc1_sc_gather (coordsV c s) (Memref.whole main_v2_scv) (Memref.isWhole_whole _) (Memref.whole main_v1_scv) (Memref.isWhole_whole _)
      (Memref.whole main_v3_scv) (Memref.isWhole_whole _) (Memref.whole cc1_scratch0) (Memref.isWhole_whole _) (Memref.whole cc1_scratch1) (Memref.isWhole_whole _)
      (Memref.whole cc1_scratch2) (Memref.isWhole_whole _) (Memref.whole cc1_scratch3) (Memref.isWhole_whole _) (Memref.whole cc1_scratch4) (Memref.isWhole_whole _)
      cc1_scratch5 cc1_scratch6 cc1_scratch7 cc1_scratch8 cc1_scoped0) ⟨⟩ c s := rfl

end Exact

/-- The gather's text. -/
theorem gather_eq (i : Cert.Kernel.grid1.Coords) a0 a1 a2 a3 a4 a5 a6 a7 a8 a9 b0 b1 b2 b3 b4 b5 c1 c2 c3 c4 c5 :
    Cert.Kernel.cc1_sc_gather (F := F) i a0 a1 a2 a3 a4 a5 a6 a7 a8 a9 b0 b1 b2 b3 b4 b5 c1 c2 c3 c4 c5
      = Cert.KernelIdeal.cc1_sc_gather (F := F) i a0 a1 a2 a3 a4 a5 a6 a7 a8 a9 b0 b1 b2 b3 b4 b5 c1 c2 c3 c4 c5 := rfl

/-- A subcore's body. -/
theorem body_eq (c : Fin Cert.Kernel.τ.nSC) (s : Fin Cert.Kernel.τ.nSub) :
    Cert.Kernel.defs₀ (F := F) (.scVector c s) 1 () = Cert.KernelIdeal.defs₀ (F := F) (.scVector c s) 1 () := by
  rw [AsRun.body, Exact.body]
  by_cases h : c.val < Cert.Kernel.grid1.bound 0 ∧ s.val < Cert.Kernel.grid1.bound 1
  · exact (dif_pos h).trans ((gather_eq (AsRun.coordsV ⟨_, h.1⟩ ⟨_, h.2⟩) ..).trans
      (Eq.symm (dif_pos (show c.val < Cert.KernelIdeal.grid1.bound 0 ∧ s.val < Cert.KernelIdeal.grid1.bound 1 from h))))
  · exact (dif_neg h).trans (Eq.symm (dif_neg (show ¬ (c.val < Cert.KernelIdeal.grid1.bound 0 ∧ s.val < Cert.KernelIdeal.grid1.bound 1) from h)))

/-- The bodies of every processor. -/
theorem bodies_eq : Cert.Kernel.defs₀ (F := F) = Cert.KernelIdeal.defs₀ (F := F) := by
  funext p ℓ a
  match p, ℓ, a with
  | .tc, 0, a => exact rfl
  | .tc, 1, a => exact rfl
  | .scVector c s, 0, a => exact rfl
  | .scScalar c, 0, a => exact rfl
  | .scScalar c, 1, a => exact rfl
  | .scVector c s, 1, a => exact body_eq c s

/-- The whole tables, -/
theorem defs_eq : Cert.Kernel.defs (F := F) = Cert.KernelIdeal.defs (F := F) :=
  congrArg (fun D => Cert.Kernel.sc.defs (Pipeline.defs Cert.Kernel.pcfgs D)) bodies_eq

/-- and the threads. -/
theorem threads_eq : Cert.Kernel.threads (F := F) = Cert.KernelIdeal.threads (F := F) := rfl

end Cert.Proof.SameText
-- ==== Proof.Tile.lean ====
/-
  What the second call hands its subcores and gets back, and each subcore's task.

  A subcore is handed a share of the index words, its rows of the data and its rows of the result; it hands them back, its
  rows of the result written.
-/
module

public import proofs.«01_k».proof.Proof.Blocks
public import proofs.«01_k».proof.Proof.SameText

@[expose] public section

set_option maxRecDepth 65536
set_option maxHeartbeats 400000

noncomputable section

namespace Cert.Proof.Tile

open Cert.KernelIdeal Cert.KernelIdeal.Gen
open Cert.Proof.Offsets Cert.Proof.Copies Cert.Proof.Phase Cert.Proof.Task Cert.Proof.Setup Cert.Proof.Blocks
open Idealize.ShloMosaic
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

-- The index words; the data, row by row.
variable (X : Dev nD → S4096.Idx → BitVec 32) (R : Dev nD → S32768x512.Idx → F .f32)

/-- What a subcore is handed, -/
def goes (d : Dev nD) (c : Fin 2) (s : Fin 16) : sProp 𝕄 :=
  iprop(idxIn d (mk c s) mX (share c s) (X d) ∗ dataRows d (mk c s) (R d) ∗ resRowsAny d (mk c s))
/-- and what it hands back. -/
def comes (d : Dev nD) (c : Fin 2) (s : Fin 16) : sProp 𝕄 :=
  iprop(idxIn d (mk c s) mX (share c s) (X d) ∗ dataRows d (mk c s) (R d) ∗ resRows d (mk c s) (result (R d) (X d)))

instance goes_storable (d : Dev nD) (c : Fin 2) (s : Fin 16) : BI.Storable (upEmb : UEmb _ 𝕄) (goes X R d c s) := by
  unfold goes dataRows resRowsAny; infer_instance
instance comes_storable (d : Dev nD) (c : Fin 2) (s : Fin 16) : BI.Storable (upEmb : UEmb _ 𝕄) (comes X R d c s) := by
  unfold comes dataRows resRows; infer_instance

/-- The call's hand-overs: a SparseCore's are its subcores'. -/
def P : (K (F := F)).Pay (nD := nD) (Val := Elt F) (Name := ℕ) (U := UU) where
  st := fun q d c => match q, c with | 0, c => bigSep Finset.univ fun s : Fin 16 => goes X R d c s
  dn := fun q d c => match q, c with | 0, c => bigSep Finset.univ fun s : Fin 16 => comes X R d c s
  go := fun q d c s => match q, c, s with | 0, c, s => goes X R d c s
  td := fun q d c s => match q, c, s with | 0, c, s => comes X R d c s
  x := fun _ _ => iprop(emp)

instance P_storable : (P X R).IsStorable where
  st := fun q d c => match q, c with | 0, c => (inferInstance : BI.Storable (upEmb : UEmb _ 𝕄) (bigSep Finset.univ fun s : Fin 16 => goes X R d c s))
  dn := fun q d c => match q, c with | 0, c => (inferInstance : BI.Storable (upEmb : UEmb _ 𝕄) (bigSep Finset.univ fun s : Fin 16 => comes X R d c s))
  go := fun q d c s => match q, c, s with | 0, c, s => (inferInstance : BI.Storable (upEmb : UEmb _ 𝕄) (goes X R d c s))
  td := fun q d c s => match q, c, s with | 0, c, s => (inferInstance : BI.Storable (upEmb : UEmb _ 𝕄) (comes X R d c s))

/-- What is left to the side during the task, put back. -/
theorem ends (d : Dev nD) (c : Fin 2) (s : Fin 16) (O : CellTallies nD τ sig (HIx 1)) (W : Waits sig (HIx 1)) {H : sProp 𝕄}
    {p : Prog (TpuEff nD τ sig (Elt F) Λ₀ (thr d (mk c s)).2) PUnit}
    (h : H ⊢ wp frame (wpE (defs₀ (F := F)) 𝒱₀ (thr d (mk c s)) none) Set.univ p fun _ => iprop(Own.used d (mk c s) ∗ idxIn d (mk c s) mX (share c s) (X d)
      ∗ dataRows d (mk c s) (R d) ∗ resRows d (mk c s) (result (R d) (X d)) ∗ owing none d (mk c s) O W)) :
    iprop((Own.restBufs d (mk c s) ∗ Own.restSems d (mk c s)) ∗ H)
      ⊢ (wp frame (wpE (defs₀ (F := F)) 𝒱₀ (thr d (mk c s)) none) Set.univ p fun _ => iprop(comes X R d c s ∗ ownBufs (thr d (mk c s)) ∗ ownSems0 (thr d (mk c s))
            ∗ ∃ W', ⌜∀ p ∈ W', p ∈ W ∨ p.2 = none ∨ p.2 = some 0⌝ ∗ owes (thr d (mk c s)) O W') : sProp 𝕄) := by
  refine (sep_mono .rfl h).trans ((wp_frame_l frame _ _).trans (wp_mono frame _ _ fun _ => ?_))
  unfold comes owing
  iintro ⟨Hrest, Hu, HX, HD, HR, -, %W', %hW', HO⟩
  ihave H := (Own.give d (mk c s)) $$ [Hu Hrest]
  · isplitl [Hu] <;> iassumption
  icases H with ⟨Hb, Hs⟩
  isplitl [HX HD HR]
  · isplitl [HX]; · iexact HX
    isplitl [HD] <;> iassumption
  isplitl [Hb]; · iexact Hb
  isplitl [Hs]; · iexact Hs
  iexists W'
  isplitr
  · ipureintro; exact fun p hp => (hW' p hp).imp_right Or.inl
  · iexact HO

variable {X} in
/-- A subcore's task, over what the launch hands it. -/
theorem body (hX : ∀ d n, (X d n).toNat < 512) (d : Dev nD) (c : Fin 2) (s : Fin 16) (O : CellTallies nD τ sig (HIx 1)) (W : Waits sig (HIx 1))
    (hO : ∀ g, O g none = 0) :
    iprop(levAts (K (F := F)).L (K (F := F)).lev ∗ emp ∗ goes X R d c s ∗ ownBufs (thr d (mk c s)) ∗ ownSems0 (thr d (mk c s)) ∗ owes (thr d (mk c s)) O W)
      ⊢ (wp frame (wpE (defs₀ (F := F)) 𝒱₀ (thr d (mk c s)) none) Set.univ
          (cc1_sc_gather (F := F) (mk c s) mD (Memref.isWhole_whole main_v2_scv) mX (Memref.isWhole_whole _) mR (Memref.isWhole_whole main_v3_scv)
            (Memref.whole cc1_scratch0) (Memref.isWhole_whole _) (Memref.whole cc1_scratch1) (Memref.isWhole_whole _)
            (Memref.whole cc1_scratch2) (Memref.isWhole_whole _) (Memref.whole cc1_scratch3) (Memref.isWhole_whole _) (Memref.whole cc1_scratch4) (Memref.isWhole_whole _)
            cc1_scratch5 cc1_scratch6 cc1_scratch7 cc1_scratch8 cc1_scoped0)
          fun _ => iprop(comes X R d c s ∗ ownBufs (thr d (mk c s)) ∗ ownSems0 (thr d (mk c s))
            ∗ ∃ W', ⌜∀ p ∈ W', p ∈ W ∨ p.2 = none ∨ p.2 = some 0⌝ ∗ owes (thr d (mk c s)) O W') : sProp 𝕄) := by
  have hrun := run (F := F) (defs := defs₀) (bd := none) EC (none : HIx 1) 𝒱₀ d (mk c s) mX (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _) (Memref.whole cc1_scratch4) (Memref.isWhole_whole _)
    cc1_scratch5 cc1_scratch6 cc1_scratch7 cc1_scratch8 cc1_scoped0 (R d) (share c s) (X d) O W (fun n => hX d n)
  have hread : mX.view.read (Elt F) (X d) = X d := View.read_whole _ _
  rw [hread] at hrun
  iintro ⟨#Hlv, -, Hg, Hb, Hs, HO⟩
  ihave H := (Own.take d (mk c s)) $$ [Hb Hs]
  · isplitl [Hb] <;> iassumption
  icases H with ⟨Hu, Hrest⟩
  unfold goes
  icases Hg with ⟨HX, HD, HR⟩
  iapply (ends X R d c s O W hrun) $$ [-]
  isplitl [Hrest]; · iexact Hrest
  isplitl [Hu]; · iexact Hu
  isplitl [HX]; · iexact HX
  isplitl [HD]; · iexact HD
  isplitl [HR]; · iexact HR
  unfold owing
  isplitr
  · iapply ((K (F := F)).mayWaits_none (thr := thr d (mk c s)) hO); iexact Hlv
  · iexists W
    isplitr
    · ipureintro; exact fun p hp => Or.inl hp
    · iexact HO

variable {X} in
/-- The same at coordinates known to be the subcore's. -/
theorem body_at (hX : ∀ d n, (X d n).toNat < 512) (d : Dev nD) (c : Fin 2) (s : Fin 16) (O : CellTallies nD τ sig (HIx 1)) (W : Waits sig (HIx 1))
    (hO : ∀ g, O g none = 0) (j : grid1.Coords) (hj : j = mk c s) :
    iprop(levAts (K (F := F)).L (K (F := F)).lev ∗ emp ∗ goes X R d c s ∗ ownBufs (thr d j) ∗ ownSems0 (thr d j) ∗ owes (thr d j) O W)
      ⊢ (wp frame (wpE (defs₀ (F := F)) 𝒱₀ (thr d j) none) Set.univ
          (cc1_sc_gather (F := F) j mD (Memref.isWhole_whole main_v2_scv) mX (Memref.isWhole_whole _) mR (Memref.isWhole_whole main_v3_scv)
            (Memref.whole cc1_scratch0) (Memref.isWhole_whole _) (Memref.whole cc1_scratch1) (Memref.isWhole_whole _)
            (Memref.whole cc1_scratch2) (Memref.isWhole_whole _) (Memref.whole cc1_scratch3) (Memref.isWhole_whole _) (Memref.whole cc1_scratch4) (Memref.isWhole_whole _)
            cc1_scratch5 cc1_scratch6 cc1_scratch7 cc1_scratch8 cc1_scoped0)
          fun _ => iprop(comes X R d c s ∗ ownBufs (thr d j) ∗ ownSems0 (thr d j)
            ∗ ∃ W', ⌜∀ p ∈ W', p ∈ W ∨ p.2 = none ∨ p.2 = some 0⌝ ∗ owes (thr d j) O W') : sProp 𝕄) := by
  subst hj
  exact body R hX d c s O W hO

/-- The launch's obligation for the subcores. -/
theorem obl (hX : ∀ d n, (X d n).toNat < 512) : (K (F := F)).TileObl (D (F := F)) 𝒱 (P X R) v₀ 0 := by
  intro d c i O W hO _ _
  simp only [show (P X R).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [SameText.Exact.body, (K (F := F)).scopedBufs_V facts, SparseCore.Cfg.scopedSems0_V (Val := Elt F)]
  simp only [SparseCore.onTile, hc, and_self, ↓reduceDIte]
  have hco : SameText.Exact.coordsV ⟨_, hc.1⟩ ⟨_, hc.2⟩ = mk c i := (eq_mk _).trans rfl
  have h := body_at R hX d c i O W hO _ hco
  have e : SparseCore.V d (K (F := F) |>.core 0 c) (K (F := F) |>.sub 0 i) = thr d (SameText.Exact.coordsV ⟨_, hc.1⟩ ⟨_, hc.2⟩) := rfl
  have e2 : (P X R).go 0 d c i = goes X R d c i := rfl
  have e3 : (P X R).td 0 d c i = comes X R d c i := rfl
  have e4 : (P X R).x 0 (SparseCore.V d (K (F := F) |>.core 0 c) (K (F := F) |>.sub 0 i)) = iprop(emp) := rfl
  rw [e2, e3, e4]
  exact h

/-- A SparseCore's hand-overs are its subcores'. -/
theorem split : (K (F := F)).VecSplit' (P X R) 0 := by
  intro d c
  show (bigSep Finset.univ fun s : Fin 16 => goes X R d c s) ⊢ |={Set.univ}=> iprop((bigSep Finset.univ fun s : Fin 16 => goes X R d c s)
    ∗ ((bigSep Finset.univ fun s : Fin 16 => comes X R d c s) -∗ bigSep Finset.univ fun s : Fin 16 => comes X R d c s))
  iintro H
  imodintro
  isplitl [H]; · iexact H
  iintro H; iexact H

end Cert.Proof.Tile
-- ==== Proof.Index.lean ====
/-
  The first kernel on the TensorCore: one batch's block in, that batch's column numbers out.
-/
module

public import proofs.«01_k».proof.Proof.Setup
public import proofs.«01_k».proof.Proof.Gen.KernelIdeal.Skeleton
public import Idealize.ShloMosaic.Lib.VecWindow
public import Idealize.ShloMosaic.Lib.Pipeline.Value
public import Idealize.ShloMosaic.Lib.Pipeline.RegionArrays

@[expose] public section

noncomputable section

namespace Cert.Proof.Index

open Cert.KernelIdeal Cert.KernelIdeal.Gen Cert.Proof.Setup
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

/-! ## The body on any pair of whole buffers -/

section Run

variable (c : Dev nD) (i : grid0.Coords) (M1 : Memref sig .tc .vmem S1x4096x512 .f32) (h1 : M1.IsWhole) (M2 : Memref sig .tc .vmem S1x1x512 .i32) (h2 : M2.IsWhole)
  (X : S1x4096x512.Idx → F .f32) (Y : S1x1x512.Idx → BitVec 32)

/-- From a block in the first buffer, the body leaves the block's column numbers in the second. -/
theorem body_run : iprop(owns (c : Thread nD τ) M1 fullShare X ∗ owns (c : Thread nD τ) M2 fullShare Y)
    ⊢ wp frame (wpE (defs₀ (F := F)) 𝒱₀ (c : Thread nD τ) none) Set.univ (cc0__index_body i M1 h1 M2 h2)
        fun _ => (iprop(owns (c : Thread nD τ) M1 fullShare X ∗ owns (c : Thread nD τ) M2 fullShare (k0_pay1 (F := F) X)) : sProp 𝕄) := by
  have hret (Q : PUnit → sProp 𝕄) : iprop(|={Set.univ}=> Q ⟨⟩)
      ⊢ wp frame (wpE (defs₀ (F := F)) 𝒱₀ (c : Thread nD τ) none) Set.univ ((Prog.ret PUnit.unit).bind fun _ => (pure ⟨⟩ : Prog (TpuEff nD τ sig (Elt F) Λ₀ .tc) PUnit)) Q :=
    show _ ⊢ wp _ _ _ (Prog.ret PUnit.unit) _ by rw [wp_ret]
  rw [cc0__index_body_eq_skeleton]
  unfold cc0__index_body_skel owns
  rw [h1.set_eq_univ, h2.set_eq_univ]
  iintro ⟨⟨%f, %hf, H1⟩, ⟨%g, %hg, H2⟩⟩
  iapply (wp_load 𝒱₀ (c : Thread nD τ) none Set.univ (S := Finset.univ) (q := fullShare) (f := f) (Finset.subset_univ _)) $$ [H1]
  · iexact H1
  iintro H1
  iapply (wp_load 𝒱₀ (c : Thread nD τ) none Set.univ (S := Finset.univ) (q := fullShare) (f := g) (Finset.subset_univ _)) $$ [H2]
  · iexact H2
  iintro H2
  iapply (wp_store 𝒱₀ (c : Thread nD τ) none Set.univ (S := Finset.univ) (f := g) (Finset.subset_univ _)) $$ [H2]
  · iexact H2
  iintro H2
  iapply hret
  imodintro
  isplitl [H1]
  · iexists f
    isplitr
    · ipureintro; exact hf
    · iexact H1
  · iexists _
    isplitr
    swap
    · iexact H2
    · ipureintro
      rw [View.readAt_full, hf]
      exact View.read_writes_full M2.view g inb_S1x1x512_S1x1x512_0_0_0 (k0_pay1 X) []

end Run

/-! ## What the region moves -/

variable (A : (d : Dev nD) → Buf (Elt F) ((SparseCore.T d : Thread nD τ).loc main_arg0)) (O : (d : Dev nD) → Buf (Elt F) ((SparseCore.T d : Thread nD τ).loc main_v0))

/-- The block fetched at a point. -/
abbrev blockAt (d : Dev nD) (t : Fin cfg0.N) : S1x4096x512.Idx → F .f32 := ((cfg0.win 0).blk t).view.read (Elt F) (A d)

/-- The recorded waits the core may carry through the region: those at levels no handshake uses. -/
abbrev low (d : Dev nD) : Set (SemLoc sig × HIx 1) := {p | (K (F := F)).lev ((SparseCore.T d : Thread nD τ), p.1) p.2 ≤ 0}

def dat (d : Dev nD) : Dat τ (Elt F) (HIx 1) ℕ UU ℕ cfg0 d where
  A w := match w with
    | ⟨0, _⟩ => A d
    | ⟨1, _⟩ => O d
  after w t := match w with
    | ⟨0, _⟩ => blockAt A d t
    | ⟨1, _⟩ => k0_pay1 (F := F) (blockAt A d t)
  Φ _ := BI.emp
  q _ := fullShare
  owed _ := (K (F := F)).Otc d 0
  recorded _ := low (F := F) d

theorem before_in (d : Dev nD) (t : Fin cfg0.N) (X : (cfg0.win 0).block.Idx → Elt F (cfg0.win 0).elt) : (dat A O d).before 0 t X = blockAt A d t := by
  unfold Dat.before; rw [if_pos (fetch0_0 t)]; rfl

theorem body_obligation (d : Dev nD) : BodyObligation (dat A O d) (defs₀ (F := F)) 𝒱₀ none Set.univ := fun t => by
  rw [bigSep_W0, bigSep_W0]
  iintro ⟨HΦ, Howes, ⟨%X, H0⟩, ⟨%Y, H1⟩⟩
  rw [before_in]
  iapply (wp_mono frame _ _ (Q := fun _ => iprop(((dat A O d).Φ t.castSucc ∗ (dat A O d).owesAt none t.castSucc)
      ∗ owns (d : Thread nD τ) ((cfg0.win 0).stage (cfg0.slots t 0)) fullShare (blockAt A d t)
      ∗ owns (d : Thread nD τ) ((cfg0.win 1).stage (cfg0.slots t 1)) fullShare (k0_pay1 (F := F) (blockAt A d t)))) fun _ => Laws.sep_assoc.1)
  iapply (wp_frame_l frame _ _)
  isplitl [HΦ Howes]
  · isplitl [HΦ]
    · iexact HΦ
    · iexact Howes
  iapply (body_run d (grid0.coords t) ((cfg0.win 0).stage (cfg0.slots t 0)) (hstage0_0 ((cfg0.slots t 0).cast nbuf0_0))
    ((cfg0.win 1).stage (cfg0.slots t 1)) (hstage0_1 ((cfg0.slots t 1).cast nbuf0_1)) (blockAt A d t) ((dat A O d).before 1 t Y))
  isplitl [H0]
  · iexact H0
  · iexact H1

/-! ## The region between the two states of its core -/

abbrev adm : (p : Fin 1) → (pcfgs (F := F) p).Adm := fun p => (cfgs p).toPCfg_adm

def pdats : (p : Fin 1) → (d : Dev nD) → Dat τ (Elt F) (HIx 1) ℕ UU ℕ (Pipeline.pin (pcfgs (F := F)) adm p) d
  | ⟨0, _⟩ => fun d => dat A O d

/-- The core before and after: the two arrays, and what it owes the handshakes. -/
def state (d : Dev nD) (O' : Buf (Elt F) ((SparseCore.T d : Thread nD τ).loc main_v0)) : sProp 𝕄 :=
  iprop(((SparseCore.T d : Thread nD τ).loc main_arg0 ↦{fullShare} A d) ∗ ((SparseCore.T d : Thread nD τ).loc main_v0 ↦{fullShare} O')
    ∗ ∃ W, ⌜(K (F := F)).WBelow (SparseCore.T d) W 0⌝ ∗ owes (SparseCore.T d) ((K (F := F)).Otc d 0) W)

/-- What the region leaves in the column numbers' array. -/
def out (d : Dev nD) : Buf (Elt F) ((SparseCore.T d : Thread nD τ).loc main_v0) := (dat A O d).arrAt 1 cfg0.N

theorem arrays_eq (d : Dev nD) (G : (w : Fin cfg0.W) → Buf (Elt F) ((cfg0.win w).arr.view.loc (d.tc : Thread nD τ))) :
    (dat A O d).arrays G = (iprop(((SparseCore.T d : Thread nD τ).loc main_arg0 ↦{fullShare} G 0) ∗ ((SparseCore.T d : Thread nD τ).loc main_v0 ↦{fullShare} G 1)) : sProp 𝕄) := by
  unfold Dat.arrays
  rw [bigSep_W0, (arr_whole0 0).set_eq_univ, (arr_whole0 1).set_eq_univ, (dat A O d).share_full fun _ => rfl]
  rfl

set_option backward.isDefEq.respectTransparency.types false in
def region : Pipeline.RegionSeg (pcfgs (F := F)) adm (pdats A O) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation A O d).loose
  hwaits d := Pipeline.cellsWaits_of_cut (Pipeline.pin (pcfgs (F := F)) adm) (pdats A O) none 0 d 0 ((K (F := F)).Otc d 0) (fun _ => rfl)
    (fun _ _ => Finset.mem_univ _) (fun _ _ => le_refl 0) (fun g i h => ⟨Finset.mem_univ _, lt_of_lt_of_le (Nat.succ_pos _) (SparseCore.Cfg.lev_of_Otc_pos h)⟩)
  pre d := state A d (O d)
  post d := state A d (out A O d)
  X _ := BI.emp
  Y _ := BI.emp
  Z _ := BI.emp
  hentry d := by
    rw [Pipeline.ownSems0_none, Pipeline.prefHeld_of_none _ rfl]
    refine BIBase.Entails.trans ?_ fupd_intro
    rw [show (pdats A O 0 d).arrays ((pdats A O 0 d).arrAt · 0) = _ from arrays_eq A O d ((dat A O d).arrAt · 0)]
    unfold state
    iintro ⟨⟨HA, HO, ⟨%W, %hW, HW⟩⟩, -, -⟩
    isplitl [HA HO]
    · isplitl [HA]
      · iexact HA
      · iexact HO
    isplitr
    · iempintro
    isplitl [HW]
    · iexists W
      isplitr
      · ipureintro; exact fun p hp => Or.inl (hW p hp)
      · iexact HW
    isplitr
    · iempintro
    · iempintro
  hin d := by
    iintro -
    iempintro
  hout d := by
    rw [Pipeline.ownSems0_none, scopedRest0_eq]
    iintro -
    isplitr
    · iempintro
    isplitr
    · iempintro
    · iempintro
  hexit d := by
    refine BIBase.Entails.trans ?_ fupd_intro
    rw [show (pdats A O 0 d).arrays ((pdats A O 0 d).arrAt · (Pipeline.pin (pcfgs (F := F)) adm 0).N) = _ from arrays_eq A O d ((dat A O d).arrAt · cfg0.N), (dat A O d).arrAt_in 0 rfl _]
    unfold state
    iintro ⟨⟨HA, HO⟩, ⟨%W, %hW, HW⟩, -, -⟩
    isplitl [HA]
    · iexact HA
    isplitl [HO]
    · iexact HO
    iexists W
    isplitr
    · ipureintro
      intro p hp
      rcases hW hp with h | ⟨w, s, h⟩
      · exact h
      · rw [h]; exact le_refl 0
    · iexact HW

/-- The call of the first kernel, as the host program makes it. -/
theorem run (d : Dev nD) (Q : PUnit → sProp 𝕄) :
    iprop((iprop(boundary (SparseCore.T d) ∗ state A d (out A O d)) -∗ Q ⟨⟩) ∗ boundary (SparseCore.T d) ∗ state A d (O d)
        ∗ levAts (K (F := F)).L (K (F := F)).lev ∗ rounds d)
      ⊢ wp frame (wpE ((K (F := F)).defs D) 𝒱 (SparseCore.T d) none) Set.univ (Prog.lift (.customCall (SparseCore.inner (Pipeline.entry 0)) ())) Q := by
  let p : Prog (TpuEff nD τ sig (Elt F) (ΛP (F := F)) .tc) PUnit := .op (.customCall (Pipeline.entry 0) ()) fun _ => .ret ⟨⟩
  have hp : (Prog.lift (.customCall (SparseCore.inner (Pipeline.entry 0)) ()) : Prog (TpuEff nD τ sig (Elt F) (SparseCore.Sig (ΛP (F := F)) 1) .tc) PUnit)
      = SparseCore.liftProg p := by
    show _ = TpuEff.inlProg (Prog.op _ _); rw [inlProg_op]; rfl
  rw [hp]
  have hl := (K (F := F)).wp_liftProg D 𝒱 (SparseCore.T d) Set.univ none p Q
  refine BIBase.Entails.trans ?_ hl
  have h := Pipeline.RegionSeg.wp (pcfgs (F := F)) adm (pdats A O) none cellOf_inj EP defs₀ 𝒱₀ (K (F := F)).L (K (F := F)).lev (region A O) d none
    (fun u hu => nomatch hu) (fun _ => .ret ⟨⟩) Q
  rw [show (region A O).pre d = state A d (O d) from rfl, show (region A O).post d = state A d (out A O d) from rfl] at h
  refine BIBase.Entails.trans ?_ h
  iintro ⟨Hk, Hb, Hs, HL, Hg⟩
  isplitl [Hk]
  · iintro Hp
    rw [wp_ret]
    imodintro
    iapply Hk
    iexact Hp
  isplitl [Hb]
  · iexact Hb
  isplitl [Hs]
  · iexact Hs
  isplitl [HL]
  · iexact HL
  · iexact Hg

end Cert.Proof.Index

end
-- ==== Proof.Numbers.lean ====
/-
  What the first kernel leaves: at batch `b` and column `k`, the column number its body computes from batch `b`'s block.
-/
module

public import proofs.«01_k».proof.Proof.Index

@[expose] public section

noncomputable section

namespace Cert.Proof.Index

open Cert.KernelIdeal Cert.KernelIdeal.Gen Cert.Proof.Setup
open Idealize.ShloMosaic Idealize.ShloMosaic.TcCoe
open Idealize.ShloMosaic.Pipeline (Dat)

variable {F : FTy → Type} [FloatOps F]

/-- Batch `b`'s block of the whole argument. -/
abbrev batch (a : S8x4096x512.Idx → F .f32) (b : Fin 8) : S1x4096x512.Idx → F .f32 :=
  fun j => a (fun x => match x with | 0 => b | 1 => j 1 | 2 => j 2)

/-- The column numbers of every batch. -/
def numbers (a : S8x4096x512.Idx → F .f32) : S8x1x512.Idx → BitVec 32 :=
  fun i => k0_pay1 (F := F) (batch a (i 0)) (fun x => match x with | 0 => (0 : Fin 1) | 1 => i 1 | 2 => i 2)

variable (A : (d : Dev nD) → Buf (Elt F) ((SparseCore.T d : Thread nD τ).loc main_arg0)) (O : (d : Dev nD) → Buf (Elt F) ((SparseCore.T d : Thread nD τ).loc main_v0))

theorem index_in (t : Fin grid0.N) : win0_0.index t 0 = t.val ∧ win0_0.index t 1 = 0 ∧ win0_0.index t 2 = 0 := by
  rcases fin_N0 t with rfl | rfl | rfl | rfl | rfl | rfl | rfl | rfl <;> decide

theorem index_out (t : Fin grid0.N) : win0_1.index t 0 = t.val ∧ win0_1.index t 1 = 0 ∧ win0_1.index t 2 = 0 := by
  rcases fin_N0 t with rfl | rfl | rfl | rfl | rfl | rfl | rfl | rfl <;> decide

theorem lt8 (t : Fin grid0.N) : t.val < 8 := by have := N_0; have := t.isLt; omega

/-- The fetched block is the point's batch. -/
theorem blockAt_eq (d : Dev nD) (t : Fin cfg0.N) : blockAt A d t = batch (A d) ⟨t.val, lt8 t⟩ := by
  obtain ⟨h0, h1, h2⟩ := index_in t
  funext j
  unfold blockAt
  rw [View.read_apply]
  show A d _ = A d _
  congr 1
  funext a
  apply Fin.ext
  have hj : (j 0).val < 1 := (j 0).isLt
  match a with
  | 0 => show win0_0.index t 0 * 1 + 1 * (j 0).val = t.val; omega
  | 1 => show win0_0.index t 1 * 4096 + 1 * (j 1).val = (j 1).val; omega
  | 2 => show win0_0.index t 2 * 512 + 1 * (j 2).val = (j 2).val; omega

/-- What a point writes back is its block of the column numbers. -/
theorem flushed_eq (d : Dev nD) (t : Fin cfg0.N) : (dat A O d).flushed 1 t = ((cfg0.win 1).blk t).view.read (Elt F) (numbers (F := F) (A d)) := by
  obtain ⟨h0, h1, h2⟩ := index_out t
  funext j
  rw [View.read_apply]
  show k0_pay1 (F := F) (blockAt A d t) _ = k0_pay1 (F := F) (batch (A d) _) _
  have hj : (j 0).val < 1 := (j 0).isLt
  rw [blockAt_eq]
  congr 1
  · congr 1
    apply Fin.ext
    show t.val = win0_1.index t 0 * 1 + 1 * (j 0).val
    omega
  · funext a
    apply Fin.ext
    match a with
    | 0 => show (j 0).val = 0; omega
    | 1 => show (j 1).val = win0_1.index t 1 * 1 + 1 * (j 1).val; omega
    | 2 => show (j 2).val = win0_1.index t 2 * 512 + 1 * (j 2).val; omega

theorem out_eq (d : Dev nD) : out A O d = numbers (F := F) (A d) :=
  (dat A O d).arrAt_eq_of_cover 1 (numbers (F := F) (A d)) (fun t _ => flushed_eq A O d t) fun i => by
    have hi : ((i 0 : Fin 8) : ℕ) < 8 := (i 0).isLt
    let t : Fin grid0.N := ⟨((i 0 : Fin 8) : ℕ), by rw [N_0]; exact hi⟩
    obtain ⟨h0, h1, h2⟩ := index_out t
    refine ⟨t, flush0_1 t, ?_⟩
    show i ∈ ((View.whole main_v0).slice (win0_1.rect t)).set
    rw [View.set_slice_whole, Rect.mem_set_unit]
    intro a
    match a with
    | 0 => show win0_1.index t 0 * 1 ≤ ((i 0 : Fin 8) : ℕ) ∧ ((i 0 : Fin 8) : ℕ) < win0_1.index t 0 * 1 + 1
           have : t.val = ((i 0 : Fin 8) : ℕ) := rfl
           omega
    | 1 => show win0_1.index t 1 * 1 ≤ ((i 1 : Fin 1) : ℕ) ∧ ((i 1 : Fin 1) : ℕ) < win0_1.index t 1 * 1 + 1
           have : ((i 1 : Fin 1) : ℕ) < 1 := (i 1).isLt
           omega
    | 2 => show win0_1.index t 2 * 512 ≤ ((i 2 : Fin 512) : ℕ) ∧ ((i 2 : Fin 512) : ℕ) < win0_1.index t 2 * 512 + 512
           have : ((i 2 : Fin 512) : ℕ) < 512 := (i 2).isLt
           omega

/-- A column number names a column. -/
theorem numbers_lt (a : S8x4096x512.Idx → F .f32) (i : S8x1x512.Idx) : (numbers (F := F) a i).toNat < 512 := by
  have key : ∀ v : BitVec 32, (IntOp.minsi 511#32 (IntOp.maxsi 0#32 v)).toNat < 512 := by
    intro v
    unfold IntOp.minsi IntOp.maxsi
    have hv := BitVec.toInt_eq_toNat_cond v
    have := v.isLt
    have h511 : (511#32).toInt = 511 := by decide
    have h0 : (0#32).toInt = 0 := by decide
    by_cases h : v.slt 0#32 = true
    · rw [if_pos h, if_neg (by decide)]; decide
    · rw [if_neg h]
      rw [BitVec.slt_eq_decide, decide_eq_true_eq, h0] at h
      split
      · decide
      · rename_i h'
        rw [BitVec.slt_eq_decide, decide_eq_true_eq, h511] at h'
        split at hv <;> omega
  unfold numbers k0_pay1
  exact key _

end Cert.Proof.Index

end
-- ==== Proof.Host.lean ====
/-
  A reshape between the two kernels, over the arrays it reads and writes.
-/
module

public import proofs.«01_k».proof.Proof.Setup

@[expose] public section

set_option maxRecDepth 65536

noncomputable section

namespace Cert.Proof.Host

open Cert.KernelIdeal Cert.KernelIdeal.Gen
open Cert.Proof.Setup
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (d : Dev nD) (x y : Ref sig .tc)

/-- Contents given at two arrays, the launch's elsewhere. -/
def two (f : x.ty.Contents (Elt F)) (g : y.ty.Contents (Elt F)) : Valuation τ sig (Elt F) :=
  Function.update (Function.update (fun b => m (d, b)) (Proc.devRef .tc x) f) (Proc.devRef .tc y) g

theorem held_pair (hne : x ≠ y) (V : Valuation τ sig (Elt F)) :
    (StableHlo.held (SparseCore.T d) {(Proc.devRef .tc x : DevRef τ sig), Proc.devRef .tc y} V : sProp 𝕄)
      = iprop(((SparseCore.T d : Thread nD τ).loc x ↦{fullShare} V (Proc.devRef .tc x)) ∗ ((SparseCore.T d : Thread nD τ).loc y ↦{fullShare} V (Proc.devRef .tc y))) := by
  unfold StableHlo.held
  rw [SparseCore.bigSep_insert' (by rw [Finset.mem_singleton]; exact StableHlo.devRef_ne_of_ne hne), bigSep_singleton]

include m in
/-- A reshape leaves its operand as it is and the operand's elements, in the same order, in its result. -/
theorem reshape (hne : x ≠ y) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    {hp : (SparseCore.T d : Thread nD τ).2.kind.runsHlo = true} (f : x.ty.Contents (Elt F)) (g : y.ty.Contents (Elt F)) {Q : PUnit → sProp 𝕄} :
    iprop(boundary (SparseCore.T d) ∗ ((SparseCore.T d : Thread nD τ).loc x ↦{fullShare} f) ∗ ((SparseCore.T d : Thread nD τ).loc y ↦{fullShare} g))
      ⊢ iprop((iprop(boundary (SparseCore.T d) ∗ ((SparseCore.T d : Thread nD τ).loc x ↦{fullShare} f)
            ∗ ((SparseCore.T d : Thread nD τ).loc y ↦{fullShare} fun i => he ▸ shapeCast y.ty.shape f hn i)) -∗ Q ⟨⟩)
        -∗ wp frame (wpE ((K (F := F)).defs D) 𝒱 (SparseCore.T d) none) Set.univ (hlo hp (StableHlo.reshape x y he hn hx hy) fun _ => .ret ⟨⟩) Q) := by
  have hV : two m d x y f g (Proc.devRef .tc x) = f := by
    unfold two; rw [Function.update_of_ne (StableHlo.devRef_ne_of_ne hne), Function.update_self]
  have hV' : two m d x y f g (Proc.devRef .tc y) = g := by
    unfold two; rw [Function.update_self]
  have h := StableHlo.wp_hlo_within (Ix := HIx 1) (Name := ℕ) (U := UU) (Lvl := ℕ) (defs := (K (F := F)).defs D) 𝒱 (SparseCore.T d) none Set.univ (hp := hp)
    (op := StableHlo.reshape x y he hn hx hy) (k := fun _ => .ret ⟨⟩) (S := {(Proc.devRef .tc x : DevRef τ sig), Proc.devRef .tc y}) (Finset.Subset.refl _)
    (V := two m d x y f g) (Q := Q) rfl
  rw [held_pair d x y hne, held_pair d x y hne, StableHlo.reshape_result_ne (x := x) (y := y) he hn hx hy _ hne, StableHlo.reshape_result, hV, hV', wp_ret] at h
  refine h.trans ?_
  iintro Hw Hk
  iapply Hw
  iintro H
  imodintro
  iapply Hk; iexact H

end Cert.Proof.Host

end
-- ==== Proof.Launch.lean ====
/-
  The whole program: what it leaves in its result, and that it leaves its argument as it was and every semaphore at zero.
-/
module

public import proofs.«01_k».proof.Proof.Tile
public import proofs.«01_k».proof.Proof.Numbers
public import proofs.«01_k».proof.Proof.Host

@[expose] public section

set_option maxRecDepth 65536
set_option maxHeartbeats 1000000

noncomputable section

namespace Cert.Proof.Launch

open Cert.KernelIdeal Cert.KernelIdeal.Gen
open Cert.Proof.Offsets Cert.Proof.Copies Cert.Proof.Task Cert.Proof.Setup Cert.Proof.Blocks Cert.Proof.Tile
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The column numbers, the batches one after another; -/
def cols (a : S8x4096x512.Idx → F .f32) : S4096.Idx → BitVec 32 := shapeCast S4096 (Index.numbers a) shapeCasts_S8x1x512_S4096
/-- the data as one array of rows; -/
def flat (a : S8x4096x512.Idx → F .f32) : S32768x512.Idx → F .f32 := shapeCast S32768x512 a shapeCasts_S8x4096x512_S32768x512
/-- what the program returns. -/
def value (a : S8x4096x512.Idx → F .f32) : S8x4096x512.Idx → F .f32 :=
  shapeCast S8x4096x512 (result (flat a) (cols a)) shapeCasts_S32768x512_S8x4096x512

theorem cols_lt (a : S8x4096x512.Idx → F .f32) (n : S4096.Idx) : (cols a n).toNat < 512 := Index.numbers_lt a _

variable (m : (ℓ : Loc nD τ sig) → Buf (Elt F) ℓ) (ρ : Dev nD → PrngReg)

/-- The argument, -/
abbrev arg (d : Dev nD) : S8x4096x512.Idx → F .f32 := m ((SparseCore.T d).loc main_arg0)
/-- and what the second call hands over. -/
abbrev PM : (K (F := F)).Pay (nD := nD) (Val := Elt F) (Name := ℕ) (U := UU) := P (fun d => cols (arg m d)) (fun d => flat (arg m d))

/-- What the launch deals. -/
theorem start : (ownU (u₀ (F := F)) : sProp 𝕄)
    ⊢ |={Set.univ}=> iprop(BI.own (EH (initOf (K (F := F)).hsCells (K (F := F)).hsToks)) ∗ (bigSep Finset.univ fun d : Dev nD => rounds d)
      ∗ bigSep Finset.univ fun thr : Thread nD τ => bigSep Finset.univ fun q : Fin 1 => (PM m).x q thr) := by
  have hx : (bigSep Finset.univ fun thr : Thread nD τ => bigSep Finset.univ fun q : Fin 1 => (PM m).x q thr : sProp 𝕄) = iprop(emp) := by
    refine (bigSep_congr fun thr _ => bigSep_univ_of_subsingleton (Φ := fun q : Fin 1 => (PM m).x q thr) (0 : Fin 1)).trans ?_
    exact bigSep_emp_const _
  rw [hx]
  iintro Hu
  imod Setup.fund $$ Hu with ⟨HH, HR⟩
  imodintro
  isplitl [HH]; · iexact HH
  isplitl [HR]; · iexact HR
  iempintro

/-- The arrays of the program, one by one. -/
theorem arrays (d : Dev nD) (V : (b : Ref sig .tc) → Buf (Elt F) ((SparseCore.T d : Thread nD τ).loc b)) :
    (unscopedBufs d V : sProp 𝕄) = iprop(((SparseCore.T d : Thread nD τ).loc main_arg0 ↦{fullShare} V main_arg0)
      ∗ ((SparseCore.T d : Thread nD τ).loc main_v0 ↦{fullShare} V main_v0) ∗ ((SparseCore.T d : Thread nD τ).loc main_v1 ↦{fullShare} V main_v1)
      ∗ ((SparseCore.T d : Thread nD τ).loc main_v2 ↦{fullShare} V main_v2) ∗ ((SparseCore.T d : Thread nD τ).loc main_v3 ↦{fullShare} V main_v3)
      ∗ ((SparseCore.T d : Thread nD τ).loc main_v4 ↦{fullShare} V main_v4)) := by
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), bigSep_singleton]

/-- The second call's arrays, shared out; -/
theorem handed (d : Dev nD) (X : Dev nD → S4096.Idx → BitVec 32) (R : Dev nD → S32768x512.Idx → F .f32) (f : S32768x512.Idx → F .f32) :
    (iprop(((SparseCore.T d : Thread nD τ).loc main_v1 ↦{fullShare} X d) ∗ ((SparseCore.T d : Thread nD τ).loc main_v2 ↦{fullShare} R d)
        ∗ ((SparseCore.T d : Thread nD τ).loc main_v3 ↦{fullShare} f)) : sProp 𝕄)
      ⊢ bigSep Finset.univ fun c : Fin ((K (F := F)).nCore 0) => (P X R).st 0 d c := by
  rw [index_shares, data_blocks, res_blocks]
  show _ ⊢ bigSep Finset.univ fun c : Fin 2 => bigSep Finset.univ fun s : Fin 16 => goes X R d c s
  unfold goes
  simp only [bigSep_sep']
  exact sep_mono .rfl (sep_mono .rfl (bigSep_mono fun c _ => bigSep_mono fun s _ => res_any d (mk c s) f))

/-- and back. -/
theorem returned (d : Dev nD) (X : Dev nD → S4096.Idx → BitVec 32) (R : Dev nD → S32768x512.Idx → F .f32) :
    (bigSep Finset.univ fun c : Fin ((K (F := F)).nCore 0) => (P X R).dn 0 d c)
      = (iprop(((SparseCore.T d : Thread nD τ).loc main_v1 ↦{fullShare} X d) ∗ ((SparseCore.T d : Thread nD τ).loc main_v2 ↦{fullShare} R d)
        ∗ ((SparseCore.T d : Thread nD τ).loc main_v3 ↦{fullShare} result (R d) (X d))) : sProp 𝕄) := by
  rw [index_shares, data_blocks, res_blocks]
  show (bigSep Finset.univ fun c : Fin 2 => bigSep Finset.univ fun s : Fin 16 => comes X R d c s) = _
  unfold comes
  simp only [bigSep_sep']

/-- What the program keeps to the end. -/
abbrev FIN (d : Dev nD) : sProp 𝕄 :=
  iprop(((SparseCore.T d : Thread nD τ).loc main_arg0 ↦{fullShare} arg m d) ∗ ((SparseCore.T d : Thread nD τ).loc main_v4 ↦{fullShare} value (arg m d)))

/-- What the core records of its waits, apart from the rest of what it holds between the calls. -/
theorem waits_apart (d : Dev nD) : ∃ R : sProp 𝕄, (K (F := F)).tcSt EH d 0
    = iprop((∃ W, ⌜(K (F := F)).WBelow (SparseCore.T d) W 0⌝ ∗ owes (SparseCore.T d) ((K (F := F)).Otc d 0) W) ∗ R) := ⟨_, rfl⟩

/-- The program on a core. -/
theorem hmain (κ : GSem nD τ sig → ℕ) (d : Dev nD) :
    iprop((K (F := F)).ctx EH (PM m) κ ∗ (K (F := F)).tcSt EH d 0 ∗ (K (F := F)).tcRes m ρ d ∗ rounds d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := waits_apart (F := F) d
  have hgive : iprop((∃ W, ⌜(K (F := F)).WBelow (SparseCore.T d) W 0⌝ ∗ owes (SparseCore.T d) ((K (F := F)).Otc d 0) W) ∗ R)
      ⊢ (K (F := F)).tcSt EH d (0 : Fin 1).val := by rw [← hR]; rfl
  have hrun := Index.run (fun d => arg m d) (fun d => m ((SparseCore.T d).loc main_v0)) d
  unfold Index.state at hrun
  rw [Index.out_eq] at hrun
  unfold SparseCore.Cfg.tcRes SparseCore.Cfg.tcEnd
  rw [arrays, hR]
  simp only [main, wp_bind, wp_pure]
  iintro ⟨#Hctx, ⟨HO, Hst⟩, ⟨Hb, ⟨Ha, H0, H1, H2, H3, H4⟩, Hts, -⟩, Hr⟩
  ihave #Hlv := (SparseCore.Cfg.ctx_levAts κ) $$ Hctx
  iapply (hrun _) $$ [-]
  isplitr [Hb Ha H0 HO Hr]
  rotate_left
  · isplitl [Hb]; · iexact Hb
    isplitl [Ha H0 HO]
    · isplitl [Ha]; · iexact Ha
      isplitl [H0] <;> iassumption
    isplitr; · iexact Hlv
    iexact Hr
  iintro ⟨Hb, Ha, H0, HO⟩
  -- the column numbers as one array, the data as one array of rows
  iapply (Host.reshape m d main_v0 main_v1 (by decide) rfl shapeCasts_S8x1x512_S4096 _ _ (Index.numbers (arg m d)) (m ((SparseCore.T d).loc main_v1))) $$ [Hb H0 H1]
  · isplitl [Hb]; · iexact Hb
    isplitl [H0] <;> iassumption
  iintro ⟨Hb, H0, H1⟩
  iapply (Host.reshape m d main_arg0 main_v2 (by decide) rfl shapeCasts_S8x4096x512_S32768x512 _ _ (arg m d) (m ((SparseCore.T d).loc main_v2))) $$ [Hb Ha H2]
  · isplitl [Hb]; · iexact Hb
    isplitl [Ha] <;> iassumption
  iintro ⟨Hb, Ha, H2⟩
  -- the gather
  iapply ((K (F := F)).wp_run (D (F := F)) 𝒱 (EH := EH) (P := PM m) κ d 0) $$ [-]
  isplitr; · iexact Hctx
  isplitl [HO Hst]
  · iapply hgive
    isplitl [HO] <;> iassumption
  isplitl [H1 H2 H3]
  · iapply (handed d (fun d => cols (arg m d)) (fun d => flat (arg m d)) (m ((SparseCore.T d).loc main_v3)))
    isplitl [H1]; · iexact H1
    isplitl [H2]; · iexact H2
    iexact H3
  iintro ⟨Hst, Hdn⟩
  ihave Hd := (show (bigSep Finset.univ fun c : Fin ((K (F := F)).nCore 0) => (PM m).dn 0 d c) ⊢ iprop(_ ∗ _ ∗ _) by
    rw [returned]) $$ Hdn
  icases Hd with ⟨-, -, H3⟩
  -- the result at the argument's shape
  iapply (Host.reshape m d main_v3 main_v4 (by decide) rfl shapeCasts_S32768x512_S8x4096x512 _ _ (result (flat (arg m d)) (cols (arg m d))) (m ((SparseCore.T d).loc main_v4)))
    $$ [Hb H3 H4]
  · isplitl [Hb]; · iexact Hb
    isplitl [H3] <;> iassumption
  iintro ⟨Hb, -, H4⟩
  imodintro
  isplitl [Hst]; · iexact Hst
  isplitl [Ha H4]
  · isplitl [Ha]; · iexact Ha
    iexact H4
  isplitl [Hb] <;> iassumption

/-- What the memory holds at the end. -/
def fq (d : Dev nD) (s' : Phys nD τ sig (Elt F)) : Prop :=
  s'.mem.mem ((SparseCore.T d).loc main_arg0) = m ((SparseCore.T d).loc main_arg0) ∧ s'.mem.mem ((SparseCore.T d).loc main_v4) = value (arg m d)

theorem hfin (d : Dev nD) (s' : Phys nD τ sig (Elt F)) : iprop(FIN m d ∗ SI s') ⊢ (⌜fq m d s'⌝ : sProp 𝕄) := by
  iintro ⟨⟨Ha, Hv⟩, HSI⟩
  ihave H := (persistent_entails_right (SI_pointsTo_agree (st := s') (ℓ := (SparseCore.T d).loc main_arg0) (I := Finset.univ) (q := fullShare)
    (f := m ((SparseCore.T d).loc main_arg0)))) $$ [HSI Ha]
  · isplitl [HSI] <;> iassumption
  icases H with ⟨%h1, HSI, -⟩
  ihave H := (SI_pointsTo_agree (st := s') (ℓ := (SparseCore.T d).loc main_v4) (I := Finset.univ) (q := fullShare) (f := value (arg m d))) $$ [HSI Hv]
  · isplitl [HSI] <;> iassumption
  icases H with %h2
  ipureintro
  exact ⟨funext fun i => h1 i (Finset.mem_univ i), funext fun i => h2 i (Finset.mem_univ i)⟩

/-- The program runs to its end: the argument as it was, the result in place, every semaphore at zero. -/
theorem run [∀ e, Nonempty (Elt F e)] : θ_run (Cert.KernelIdeal.defs (F := F)) (Cert.KernelIdeal.threads (F := F)) ⟨m, fun _ => 0, ρ⟩
    fun r => (∀ d : Dev nD, r.2.mem ((SparseCore.T d).loc main_arg0) = m ((SparseCore.T d).loc main_arg0)
      ∧ r.2.mem ((SparseCore.T d).loc main_v4) = value (arg m d)) ∧ r.2.sem = fun _ => 0 :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => obl _ _ (fun d n => cols_lt (arg m d) n))
    (fun q _ => match q with | 0 => SparseCore.Cfg.VecSplit.of_plain (split _ _))
    m ρ main (fun d => rounds d) (FIN m) (u₀ (F := F)) (sep_elim_left.trans (start m)) (hmain m ρ) (fq m) (hfin m) _ (fun _ h hz => ⟨h, hz⟩)

end Cert.Proof.Launch

end
-- ==== Proof.Frames.lean ====
/-
  The three frames: the kernel as it runs, the kernel over exact numbers and the reference all end, leave the argument
  as it was and every counter at zero.
-/
module

public import proofs.«01_k».proof.Proof.Launch
public import proofs.«01_k».proof.Proof.Gen.ReferenceIdeal.Run
public import Idealize.ShloMosaic.Lib.Quiescent

@[expose] public section

set_option maxRecDepth 65536

noncomputable section

namespace Cert.Proof.Frames

open Idealize.ShloMosaic Idealize.ShloMosaic.TcCoe Idealize.SL.Sem

/-- The kernel as it runs: the one run, at the floats' bit patterns, the two texts being the same. -/
theorem kernel : Cert.quiescent_Kernel (hKernel := Cert.Kernel.Gen.facts) := by
  intro m g _
  have h := (θ_run (Cert.KernelIdeal.defs (F := Bits)) (Cert.KernelIdeal.threads (F := Bits)) ⟨m, fun _ => 0, g⟩).mono
    (fun r hr => And.intro (fun c => (hr.1 c).1) hr.2) (Launch.run (F := Bits) m g)
  have e : Cert.Kernel.defs (F := Bits) = Cert.KernelIdeal.defs (F := Bits) := SameText.defs_eq
  have t : Cert.Kernel.threads (F := Bits) = Cert.KernelIdeal.threads (F := Bits) := SameText.threads_eq
  rw [e, t]
  exact h

/-- The kernel over exact numbers: its run at the exact numbers, the result dropped. -/
theorem kernelIdeal : Cert.quiescent_KernelIdeal (hKernelIdeal := Cert.KernelIdeal.Gen.facts) := by
  intro m g _
  exact (θ_run (Cert.KernelIdeal.defs (F := Ideal)) (Cert.KernelIdeal.threads (F := Ideal)) ⟨m, fun _ => 0, g⟩).mono
    (fun r hr => And.intro (fun c => (hr.1 c).1) hr.2) (Launch.run (F := Ideal) m g)

/-- The reference: it has no counter. -/
theorem reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof.Frames

end
-- ==== Proof.Centroid.lean ====
/-
  The mathematics both programs compute: in each batch the columns' sums, their centroid, and from it the number of the
  column that each column takes.
-/
module

public import proofs.«01_k».proof.Proof.Frames
public import Idealize.ShloMosaic.Lib.ValueIdxCoords
public import Idealize.ShloMosaic.Lib.ValueIdxRank1
public import Idealize.ShloMosaic.Lib.ValueLayout
public import Idealize.ShloMosaic.Lib.IdealHost

@[expose] public section

noncomputable section

namespace Cert.Proof.Centroid

open Idealize.ShloMosaic Idealize.ShloMosaic.ValueIdx

/-- The argument's index set and the indices of one batch. -/
abbrev Whole : Shape := ⟨3, ![8, 4096, 512]⟩

variable (a : Whole.Idx → EReal) (b : Fin 8)

/-- A column's number as an exact number. -/
def place (c : Fin 512) : EReal := (((BitVec.ofNat 32 c.val).toInt : ℝ) : EReal)

/-- The sum of a column. -/
def column (c : Fin 512) : EReal := ∑ l : Fin 4096, a (ix3 b l c)

/-- The sum of all columns, -/
def mass : EReal := ∑ c : Fin 512, column a b c

/-- and with each column weighted by its place. -/
def moment : EReal := ∑ c : Fin 512, column a b c * place c

/-- The centroid over half the number of columns. -/
def scale : EReal := Ideal.div (Ideal.div (moment a b) (mass a b)) (Ideal.ofBits .f32 0x43800000#32)

/-- A column's scaled place, as an integer. -/
def target (c : Fin 512) : BitVec 32 := Ideal.fptosi 32 (scale a b * place c)

/-- The column taken: the integer held between the first and the last column. -/
def taken (c : Fin 512) : BitVec 32 := IntOp.minsi 511#32 (IntOp.maxsi 0#32 (target a b c))

/-- A sum over the places of a one-row block is the sum over the columns. -/
theorem sum_row {n : ℕ} (f : (⟨3, ![1, 1, n]⟩ : Shape).Idx → EReal) : ∑ i, f i = ∑ c : Fin n, f (ix3 0 0 c) := by
  refine (Fintype.sum_equiv (⟨fun c => ix3 0 0 c, fun i => i 2, fun _ => rfl, fun i => ?_⟩ : Fin n ≃ (⟨3, ![1, 1, n]⟩ : Shape).Idx) _ _ fun _ => rfl).symm
  funext x
  match x with
  | 0 => exact Subsingleton.elim (α := Fin 1) _ _
  | 1 => exact Subsingleton.elim (α := Fin 1) _ _
  | 2 => rfl

end Cert.Proof.Centroid

end
-- ==== Proof.KernelNumbers.lean ====
/-
  Over exact numbers the first kernel's column numbers are the ones the centroid gives.
-/
module

public import proofs.«01_k».proof.Proof.Centroid

@[expose] public section

set_option maxRecDepth 65536

noncomputable section

namespace Cert.Proof.KernelNumbers

open Cert.KernelIdeal Cert.KernelIdeal.Gen
open Idealize.ShloMosaic Idealize.ShloMosaic.ValueIdx Cert.Proof.Centroid

/-- A block's rows summed. -/
theorem rows (v : FVec Ideal S4096x512 .f32) (h : S4096x512.Reduces [0] S512) (hφ) (hacc) (j : S512.Idx) :
    multiReduction .add [0] S512 v 0x00000000#32 h hφ hacc j = ∑ l : Fin 4096, v (ix2 l (j 0)) := by
  rw [Ideal.multiReduction_add_single]
  refine Finset.sum_congr rfl fun l _ => congrArg v ?_
  funext x
  apply Fin.ext
  match x with
  | 0 => rfl
  | 1 => rfl

/-- A one-row block summed whole and read as a number. -/
theorem total (w : FVec Ideal S1x512 .f32) (h1 : S1x512.ShapeCasts S1x1x512) (h2 : S1x1x512.Reduces [1, 2] S1) (hφ) (hacc)
    (h3 : S1.ShapeCasts S1x1x1) (h4) :
    extractAt ![0, 0, 0] (shapeCast S1x1x1 (multiReduction .add [1, 2] S1 (shapeCast S1x1x512 w h1) 0x00000000#32 h2 hφ hacc) h3) h4
      = ∑ c : Fin 512, w (ix2 0 c) := by
  show multiReduction .add [1, 2] S1 (shapeCast S1x1x512 w h1) 0x00000000#32 h2 hφ hacc _ = _
  rw [Ideal.multiReduction_add_total _ _ _ (by decide), sum_row]
  exact Finset.sum_congr rfl fun c _ => shapeCast_ab_1ab_apply w h1 0 0 c

/-- The block's columns summed. -/
theorem columns (a : Whole.Idx → EReal) (b : Fin 8) (h1 : S1x4096x512.ShapeCasts S4096x512) (h2 : S4096x512.Reduces [0] S512) (hφ) (hacc)
    (h3 : S512.ShapeCasts S1x512) (c : Fin 512) :
    shapeCast S1x512 (multiReduction (F := Ideal) (φ := .f32) .add [0] S512 (shapeCast S4096x512 (Index.batch (F := Ideal) a b) h1) 0x00000000#32 h2 hφ hacc) h3 (ix2 0 c)
      = column a b c := by
  rw [shapeCast_a_1a_apply, rows]
  refine Finset.sum_congr rfl fun l _ => (shapeCast_1ab_ab_apply _ h1 l c).trans (congrArg a ?_)
  funext x
  match x with
  | 0 => rfl
  | 1 => rfl
  | 2 => rfl

/-- A column's number read as an exact number. -/
theorem places (h : S1x512.Iotas .tc 32 [1]) (c : Fin 512) : sitofp (F := Ideal) .f32 (iota .tc S1x512 32 [1] h) (ix2 0 c) = place c := by
  rw [sitofp_apply, iota_single_apply]
  rfl

/-- The body's payload at a column: the column taken. -/
theorem payload (a : Whole.Idx → EReal) (b : Fin 8) (c : Fin 512) :
    k0_pay1 (F := Ideal) (Index.batch (F := Ideal) a b) (ix3 0 0 c) = taken a b c := by
  unfold k0_pay1
  refine (shapeCast_ab_1ab_apply _ _ _ _ _).trans ?_
  refine congrArg (fun x => IntOp.minsi 511#32 (IntOp.maxsi 0#32 (Ideal.fptosi 32 x))) (congrArg₂ (· * ·) ?_ (places _ c))
  refine congrArg (fun x => Ideal.div x _) (congrArg₂ Ideal.div ?_ ?_)
  · exact (total _ _ _ _ _ _ _).trans (Finset.sum_congr rfl fun k _ => congrArg₂ (· * ·) (columns a b _ _ _ _ _ k) (places _ k))
  · exact (total _ _ _ _ _ _ _).trans (Finset.sum_congr rfl fun k _ => columns a b _ _ _ _ _ k)

/-- The column numbers of every batch: the columns taken. -/
theorem numbers_eq (a : Whole.Idx → EReal) (b : Fin 8) (u : Fin 1) (c : Fin 512) :
    Index.numbers (F := Ideal) a (ix3 b u c) = taken a b c := by
  refine Eq.trans (congrArg (k0_pay1 (F := Ideal) (Index.batch (F := Ideal) a b)) ?_) (payload a b c)
  funext x
  match x with
  | 0 => rfl
  | 1 => exact Subsingleton.elim (α := Fin 1) _ _
  | 2 => rfl

end Cert.Proof.KernelNumbers

end
-- ==== Proof.KernelValue.lean ====
/-
  The kernel's result over exact numbers: at batch `b`, row `l` and column `c`, the argument's entry of that batch and row
  in the column taken.
-/
module

public import proofs.«01_k».proof.Proof.KernelNumbers

@[expose] public section

set_option maxRecDepth 65536

noncomputable section

namespace Cert.Proof.KernelValue

open Cert.KernelIdeal Cert.KernelIdeal.Gen
open Idealize.ShloMosaic Idealize.ShloMosaic.ValueIdx Cert.Proof.Centroid

/-- A column taken is a column. -/
theorem taken_lt (a : Whole.Idx → EReal) (b : Fin 8) (c : Fin 512) : (taken a b c).toNat < 512 := by
  rw [← KernelNumbers.numbers_eq a b 0 c]
  exact Index.numbers_lt (F := Ideal) a _

/-- The column numbers, laid out one batch after another. -/
theorem cols_eq (a : Whole.Idx → EReal) (b : Fin 8) (c : Fin 512) (j : S4096.Idx) (hj : (j 0).val = b.val * 512 + c.val) :
    Launch.cols (F := Ideal) a j = taken a b c := by
  refine Eq.trans (shapeCast_apply _ _ _ (ix3 b 0 c) ?_) (KernelNumbers.numbers_eq a b 0 c)
  rw [Shape.rowMajor_val_three, Shape.rowMajor_val_one]
  show (b.val * 1 + 0) * 512 + c.val = (j 0).val
  omega

/-- The kernel's result. -/
theorem value_eq (a : Whole.Idx → EReal) (b : Fin 8) (l : Fin 4096) (c : Fin 512) :
    Launch.value (F := Ideal) a (ix3 b l c) = a (ix3 b l ⟨(taken a b c).toNat, taken_lt a b c⟩) := by
  have hrow : b.val * 4096 + l.val < 32768 := by omega
  refine (shapeCast_apply _ _ _ (ix2 ⟨b.val * 4096 + l.val, hrow⟩ c) ?_).trans ?_
  · rw [Shape.rowMajor_val_three, Shape.rowMajor_val_two]
    rfl
  refine (shapeCast_apply a _ _ (ix3 b l ⟨(taken a b c).toNat, taken_lt a b c⟩) ?_)
  rw [Shape.rowMajor_val_three, Shape.rowMajor_val_two]
  show (b.val * 4096 + l.val) * 512 + (taken a b c).toNat = (b.val * 4096 + l.val) * 512 + (Launch.cols (F := Ideal) a _).toNat % 512
  rw [cols_eq a b c _ ?_, Nat.mod_eq_of_lt (taken_lt a b c)]
  show (512 * ((b.val * 4096 + l.val) / 4096) + c.val) % 4096 = b.val * 512 + c.val
  omega

end Cert.Proof.KernelValue

end
-- ==== Proof.ReferenceNumbers.lean ====
/-
  Over exact numbers the reference's column numbers, before its gather holds them to the last column, come from the same
  scaled places.
-/
module

public import proofs.«01_k».proof.Proof.KernelValue

@[expose] public section

set_option maxRecDepth 65536

noncomputable section

namespace Cert.Proof.ReferenceNumbers

open Cert.ReferenceIdeal Cert.ReferenceIdeal.Gen
open Idealize.ShloMosaic Idealize.ShloMosaic.ValueIdx Cert.Proof.Centroid

/-- The host's zero. -/
theorem zero_eq (j : S_.Idx) : constant (F := Ideal) S_ .f32 0x00000000#32 j = 0 := by
  show Ideal.ofBits .f32 0x00000000#32 = 0
  simp [Ideal.ofBits, Ideal.ieee]

/-- The argument's columns summed in each batch. -/
def sums (a : Whole.Idx → EReal) : FVec Ideal S8x512 .f32 :=
  Host.reduceAdd (F := Ideal) (φ := .f32) a (constant S_ .f32 0x00000000#32) reducesTo_S8x4096x512_S8x512_d1 h_S_

theorem sums_eq (a : Whole.Idx → EReal) (b : Fin 8) (c : Fin 512) : sums a (ix2 b c) = column a b c := by
  unfold sums
  rw [hostReduceAdd_apply, Ideal.hostReduceAdd_single _ (show S8x4096x512.Reduces [1] S8x512 by decide), zero_eq, zero_add]
  refine Finset.sum_congr rfl fun l _ => congrArg a ?_
  funext x
  apply Fin.ext
  match x with
  | 0 => rfl
  | 1 => rfl
  | 2 => rfl

/-- A row of each batch summed. -/
theorem total (w : FVec Ideal S8x512 .f32) (b : Fin 8) :
    Host.reduceAdd (F := Ideal) w (constant S_ .f32 0x00000000#32) reducesTo_S8x512_S8_d1 h_S_ (ix1 b) = ∑ c : Fin 512, w (ix2 b c) := by
  rw [hostReduceAdd_apply, Ideal.hostReduceAdd_single _ (show S8x512.Reduces [1] S8 by decide), zero_eq, zero_add]
  refine Finset.sum_congr rfl fun l _ => congrArg w ?_
  funext x
  apply Fin.ext
  match x with
  | 0 => rfl
  | 1 => rfl

/-- The columns' numbers, the same in each batch. -/
def weights : FVec Ideal S8x512 .f32 :=
  broadcastInDim S8x512 ![0, 1] bcast_S1x512_S8x512_0_1 (broadcastInDim S1x512 ![1] bcast_S512_S1x512_1 (sitofp .f32 (iotaInDim S512 32 0)))

theorem weights_eq (b : Fin 8) (c : Fin 512) : weights (ix2 b c) = place c := rfl

/-- The centroids over half the number of columns. -/
def scales (a : Whole.Idx → EReal) : FVec Ideal S8 .f32 :=
  Host.divf (Host.divf (Host.reduceAdd (mulf (sums a) weights) (constant S_ .f32 0x00000000#32) reducesTo_S8x512_S8_d1 h_S_)
      (Host.reduceAdd (sums a) (constant S_ .f32 0x00000000#32) reducesTo_S8x512_S8_d1 h_S_))
    (broadcastInDim S8 ![] bcast_S_S8 (mulf (constant S_ .f32 0x3F000000#32) (constant S_ .f32 0x44000000#32)))

/-- Half of 512 is 256. -/
theorem half : Ideal.ofBits .f32 0x3F000000#32 * Ideal.ofBits .f32 0x44000000#32 = Ideal.ofBits .f32 0x43800000#32 := by
  have h1 : Ideal.ofBits .f32 0x3F000000#32 = ((1 / 2 : ℝ) : EReal) := by
    simp [Ideal.ofBits, Ideal.ieee, -EReal.coe_mul]; norm_num
  have h2 : Ideal.ofBits .f32 0x44000000#32 = ((512 : ℝ) : EReal) := by
    simp [Ideal.ofBits, Ideal.ieee, -EReal.coe_mul]; norm_num
  have h3 : Ideal.ofBits .f32 0x43800000#32 = ((256 : ℝ) : EReal) := by
    simp [Ideal.ofBits, Ideal.ieee, -EReal.coe_mul]; norm_num
  rw [h1, h2, h3, ← EReal.coe_mul]
  norm_num

theorem scales_eq (a : Whole.Idx → EReal) (b : Fin 8) : scales a (ix1 b) = scale a b := by
  refine congrArg₂ Ideal.div (congrArg₂ Ideal.div ?_ ?_) half
  · exact (total _ b).trans (Finset.sum_congr rfl fun k _ => congrArg₂ (· * ·) (sums_eq a b k) (weights_eq b k))
  · exact (total _ b).trans (Finset.sum_congr rfl fun k _ => sums_eq a b k)

/-- The scaled places as integers. -/
def targets (a : Whole.Idx → EReal) : IVec S8x512 32 :=
  fptosi 32 (mulf (broadcastInDim S8x512 ![0, 1] bcast_S8x1_S8x512_0_1 (broadcastInDim S8x1 ![0] bcast_S8_S8x1_0 (scales a))) weights)

theorem targets_eq (a : Whole.Idx → EReal) (b : Fin 8) (c : Fin 512) : targets a (ix2 b c) = target a b c := by
  refine congrArg (Ideal.fptosi 32) (congrArg₂ (· * ·) (Eq.trans ?_ (scales_eq a b)) (weights_eq b c))
  refine congrArg (scales a) ?_
  funext x
  apply Fin.ext
  match x with
  | 0 => rfl

end Cert.Proof.ReferenceNumbers

end
-- ==== Proof.ReferenceValue.lean ====
/-
  The reference's result over exact numbers: the argument's entry in the column taken, as the kernel's.
-/
module

public import proofs.«01_k».proof.Proof.ReferenceNumbers

@[expose] public section

set_option maxRecDepth 65536

noncomputable section

namespace Cert.Proof.ReferenceValue

open Cert.ReferenceIdeal Cert.ReferenceIdeal.Gen
open Idealize.ShloMosaic Idealize.ShloMosaic.TcCoe Idealize.ShloMosaic.ValueIdx Cert.Proof.Centroid Cert.Proof.ReferenceNumbers

/-- The gather along the last axis: each entry from its own batch and row, in the column its word names, held to the
    last column. -/
theorem gather_eq (x : Whole.Idx → EReal) (w : IVec S8x4096x512x1 32) (b : Fin 8) (l : Fin 4096) (c : Fin 512) :
    Host.gather gather_S8x4096x512_S8x4096x512x1_S8x4096x512_n_2_01_01_2_3_111 x w (ix3 b l c)
      = x (ix3 b l ⟨min (w (ix4 b l c 0)).toInt.toNat 511, by omega⟩) := by
  let D := gather_S8x4096x512_S8x4096x512x1_S8x4096x512_n_2_01_01_2_3_111
  refine congrArg x (funext fun a => Fin.ext ?_)
  show D.start (ix3 b l c) w a + D.batchCoord (ix3 b l c) a + D.offCoord (ix3 b l c) a = _
  have hk : a ∉ D.sKept := by
    rw [GatherDims.mem_sKept]
    match a with
    | 0 => decide
    | 1 => decide
    | 2 => decide
  rw [GatherDims.offCoord_eq_zero _ _ _ hk]
  match a with
  | 0 =>
    rw [GatherDims.start_batching _ _ _ _ (by decide), Nat.zero_add, Nat.add_zero]
    unfold GatherDims.batchCoord
    rw [dif_pos (by decide)]
    rfl
  | 1 =>
    rw [GatherDims.start_batching _ _ _ _ (by decide), Nat.zero_add, Nat.add_zero]
    unfold GatherDims.batchCoord
    rw [dif_pos (by decide)]
    rfl
  | 2 =>
    rw [GatherDims.batchCoord_eq_zero _ _ _ (by decide)]
    unfold GatherDims.start
    rw [dif_pos (by decide)]
    refine congrArg (fun k => min (w k).toInt.toNat 511) (funext fun y => Fin.ext ?_)
    match y with
    | 0 => rfl
    | 1 => rfl
    | 2 => rfl
    | 3 => rfl

/-- The word the gather reads at batch `b` and column `c`: the target held between 0 and 512. -/
def held (a : Whole.Idx → EReal) : IVec S8x4096x512 32 :=
  broadcastInDim S8x4096x512 ![0, 1, 2] bcast_S8x1x512_S8x4096x512_0_1_2 (broadcastInDim S8x1x512 ![0, 2] bcast_S8x512_S8x1x512_0_2
    (minsi (broadcastInDim S8x512 ![] bcast_S_S8x512 (id (constantI S_ 32 512#32)))
      (maxsi (broadcastInDim S8x512 ![] bcast_S_S8x512 (id (constantI S_ 32 0#32))) (targets a))))

theorem held_eq (a : Whole.Idx → EReal) (b : Fin 8) (l : Fin 4096) (c : Fin 512) :
    held a (ix3 b l c) = IntOp.minsi 512#32 (IntOp.maxsi 0#32 (target a b c)) := by
  refine congrArg (fun v => IntOp.minsi 512#32 (IntOp.maxsi 0#32 v)) (Eq.trans (congrArg (targets a) ?_) (targets_eq a b c))
  funext x
  apply Fin.ext
  match x with
  | 0 => rfl
  | 1 => rfl

/-- The words the gather reads: a negative one would count from the end. -/
def words (a : Whole.Idx → EReal) : IVec S8x4096x512 32 :=
  select (cmpi .slt (held a) (broadcastInDim S8x4096x512 ![] bcast_S_S8x4096x512 (constantI S_ 32 0#32)))
    (addi (held a) (broadcastInDim S8x4096x512 ![] bcast_S_S8x4096x512 (constantI S_ 32 512#32))) (held a)

/-- Held first to 512 and then to the last column, or to the last column at once: the same column. -/
theorem column_word (v : BitVec 32) :
    min (Scalar.select (IntOp.cmpi .slt (IntOp.minsi 512#32 (IntOp.maxsi 0#32 v)) 0#32) (IntOp.addi (IntOp.minsi 512#32 (IntOp.maxsi 0#32 v)) 512#32)
        (IntOp.minsi 512#32 (IntOp.maxsi 0#32 v))).toInt.toNat 511
      = (IntOp.minsi 511#32 (IntOp.maxsi 0#32 v)).toNat := by
  have hu : 0 ≤ (IntOp.maxsi 0#32 v).toInt := by
    unfold IntOp.maxsi
    split
    · decide
    · rename_i h
      rw [BitVec.slt_eq_decide, decide_eq_true_eq] at h
      have h0 : (0#32).toInt = 0 := by decide
      omega
  generalize IntOp.maxsi 0#32 v = u at hu ⊢
  have hn : u.toInt = u.toNat := by
    have hv := BitVec.toInt_eq_toNat_cond u
    have := u.isLt
    split at hv <;> omega
  have h0 : (0#32).toInt = 0 := by decide
  have h1 : (511#32).toInt = 511 := by decide
  have h2 : (512#32).toInt = 512 := by decide
  have hs : ¬ (IntOp.minsi 512#32 u).slt 0#32 = true := by
    rw [BitVec.slt_eq_decide, decide_eq_true_eq]
    unfold IntOp.minsi
    split <;> omega
  have hc : IntOp.cmpi .slt (IntOp.minsi 512#32 u) 0#32 = 0#1 := by
    show BitVec.ofBool ((IntOp.minsi 512#32 u).slt 0#32) = 0#1
    rw [Bool.eq_false_of_not_eq_true hs]
    rfl
  rw [hc]
  show min (IntOp.minsi 512#32 u).toInt.toNat 511 = _
  unfold IntOp.minsi
  simp only [BitVec.slt_eq_decide, decide_eq_true_eq, h1, h2]
  have t1 : (511#32).toNat = 511 := by decide
  split <;> split <;> omega

/-- The reference's result at an index. -/
theorem value_eq (m : (ℓ : Loc nD τ sig) → Buf (Elt Ideal) ℓ) (d : Dev nD) (a : Whole.Idx → EReal)
    (ha : m ((d.tc : Thread nD τ).loc main_arg0) = a) (b : Fin 8) (l : Fin 4096) (c : Fin 512) :
    (Value.res_out0 (F := Ideal) m d : Whole.Idx → EReal) (ix3 b l c) = a (ix3 b l ⟨(taken a b c).toNat, KernelValue.taken_lt a b c⟩) := by
  subst ha
  have e : Value.res_out0 (F := Ideal) m d = Host.gather gather_S8x4096x512_S8x4096x512x1_S8x4096x512_n_2_01_01_2_3_111 (m ((d.tc : Thread nD τ).loc main_arg0))
      (shapeCast _ (words (m ((d.tc : Thread nD τ).loc main_arg0))) shapeCasts_S8x4096x512_S8x4096x512x1) := rfl
  rw [e]
  refine (gather_eq _ _ b l c).trans (congrArg _ ?_)
  refine congrArg (ix3 b l) (Fin.ext ?_)
  refine Eq.trans ?_ (column_word _)
  refine congrArg (fun v : BitVec 32 => min v.toInt.toNat 511) ?_
  refine (shapeCast_apply _ _ _ (ix3 b l c) ?_).trans ?_
  · rw [Shape.rowMajor_val_three, Shape.rowMajor_val_four]
    show (b.val * 4096 + l.val) * 512 + c.val = ((b.val * 4096 + l.val) * 512 + c.val) * 1 + 0
    omega
  refine congrArg (fun v => Scalar.select (IntOp.cmpi .slt v 0#32) (IntOp.addi v 512#32) v) (held_eq _ b l c)

end Cert.Proof.ReferenceValue

end
-- ==== Proof.lean ====
/-
  The certificate: the kernel as it runs, the kernel over exact numbers and the reference each end with the argument as it
  was and every counter at zero; the kernel over exact numbers is the kernel's own text; and over exact numbers the kernel
  and the reference leave the same result.
-/
module

public import proofs.«01_k».proof.Proof.ReferenceValue
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run

@[expose] public section

set_option maxRecDepth 65536

noncomputable section

namespace Cert.Proof

open Idealize.ShloMosaic Idealize.ShloMosaic.TcCoe Idealize.ShloMosaic.ValueIdx Idealize.SL.Sem

/-- The two results, entry by entry, are the argument's entry in the column taken. -/
theorem results (m : (ℓ : Loc Cert.ReferenceIdeal.nD Cert.ReferenceIdeal.τ Cert.ReferenceIdeal.sig) → Buf (Elt Ideal) ℓ)
    (d : Dev Cert.ReferenceIdeal.nD) (a : Centroid.Whole.Idx → EReal)
    (ha : m ((d.tc : Thread Cert.ReferenceIdeal.nD Cert.ReferenceIdeal.τ).loc Cert.ReferenceIdeal.main_arg0) = a) :
    (Cert.ReferenceIdeal.Value.res_out0 (F := Ideal) m d : Centroid.Whole.Idx → EReal) = Launch.value (F := Ideal) a := by
  funext z
  rw [eq_ix3 z]
  exact (ReferenceValue.value_eq m d a ha _ _ _).trans (KernelValue.value_eq a _ _ _).symm

theorem algebraic : Cert.algebraic_KernelIdeal_ReferenceIdeal (hKernelIdeal := Cert.KernelIdeal.Gen.facts)
    (hReferenceIdeal := Cert.ReferenceIdeal.Gen.facts) := by
  intro m g m' g' _ agree
  refine ⟨fun c => Launch.value (F := Ideal) (Launch.arg m c), ?_, ?_⟩
  · exact (θ_run (Cert.KernelIdeal.defs (F := Ideal)) (Cert.KernelIdeal.threads (F := Ideal)) ⟨m, fun _ => 0, g⟩).mono
      (fun r hr c => ⟨(hr.1 c).2, (hr.1 c).1⟩) (Launch.run (F := Ideal) m g)
  · exact (θ_run Cert.ReferenceIdeal.defs _ _).mono (fun r hr c => ⟨(hr c).1.trans (results m' c _ (agree c)), (hr c).2⟩)
      (Cert.ReferenceIdeal.Value.run (F := Ideal) m' g')

theorem claim : Cert.Claim := ⟨Cert.Kernel.Gen.facts, Cert.KernelIdeal.Gen.facts, Cert.ReferenceIdeal.Gen.facts,
  Frames.kernel, Frames.kernelIdeal, Frames.reference, trivial, algebraic⟩

end Cert.Proof

end
